-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite_scores_KernelIdeal [hPre_finite_scores_KernelIdeal : Cert.Pre_finite_scores_KernelIdeal.Facts] (m : (ℓ : Loc Cert.KernelIdeal.nD Cert.KernelIdeal.τ Cert.KernelIdeal.sig) → Buf (Elt Ideal) ℓ) : Prop :=
  ∀ c : Dev Cert.KernelIdeal.nD,
    (Cert.Pre_finite_scores_KernelIdeal.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))).1 = (fun _ => 1#1)
    ∧ (Cert.Pre_finite_scores_KernelIdeal.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))).2.1 = (fun _ => 1#1)
    ∧ (Cert.Pre_finite_scores_KernelIdeal.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))).2.2 = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite_scores_ReferenceIdeal [hPre_finite_scores_ReferenceIdeal : Cert.Pre_finite_scores_ReferenceIdeal.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_scores_ReferenceIdeal.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))).1 = (fun _ => 1#1)
    ∧ (Cert.Pre_finite_scores_ReferenceIdeal.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))).2.1 = (fun _ => 1#1)
    ∧ (Cert.Pre_finite_scores_ReferenceIdeal.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))).2.2 = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_KernelIdeal_pre_finite_scores_KernelIdeal [hKernelIdeal : Cert.KernelIdeal.Facts] [hPre_finite_scores_KernelIdeal : Cert.Pre_finite_scores_KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite_scores_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def quiescent_ReferenceIdeal_pre_finite_scores_ReferenceIdeal [hReferenceIdeal : Cert.ReferenceIdeal.Facts] [hPre_finite_scores_ReferenceIdeal : Cert.Pre_finite_scores_ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite_scores_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def preserves_Kernel_KernelIdeal : Prop :=
  True

def algebraic_KernelIdeal_ReferenceIdeal_pre_finite_scores_KernelIdeal [hKernelIdeal : Cert.KernelIdeal.Facts] [hReferenceIdeal : Cert.ReferenceIdeal.Facts] [hPre_finite_scores_KernelIdeal : Cert.Pre_finite_scores_KernelIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite_scores_KernelIdeal m →
    (∀ c : Dev Cert.KernelIdeal.nD,
      m ((c.tc : Thread Cert.KernelIdeal.nD Cert.KernelIdeal.τ).loc Cert.KernelIdeal.main_arg0) = Layout.block ⟨3, ![2, 128, 512]⟩ ⟨3, ![2, 1024, 512]⟩ 1 8 c (m' (((0 : Dev Cert.ReferenceIdeal.nD).tc : Thread Cert.ReferenceIdeal.nD Cert.ReferenceIdeal.τ).loc Cert.ReferenceIdeal.main_arg0))
      ∧ m ((c.tc : Thread Cert.KernelIdeal.nD Cert.KernelIdeal.τ).loc Cert.KernelIdeal.main_arg1) = m' (((0 : Dev Cert.ReferenceIdeal.nD).tc : Thread Cert.ReferenceIdeal.nD Cert.ReferenceIdeal.τ).loc Cert.ReferenceIdeal.main_arg1)
      ∧ m ((c.tc : Thread Cert.KernelIdeal.nD Cert.KernelIdeal.τ).loc Cert.KernelIdeal.main_arg2) = Layout.block ⟨4, ![2, 128, 4, 64]⟩ ⟨4, ![2, 1024, 4, 64]⟩ 1 8 c (m' (((0 : Dev Cert.ReferenceIdeal.nD).tc : Thread Cert.ReferenceIdeal.nD Cert.ReferenceIdeal.τ).loc Cert.ReferenceIdeal.main_arg2))
      ∧ m ((c.tc : Thread Cert.KernelIdeal.nD Cert.KernelIdeal.τ).loc Cert.KernelIdeal.main_arg3) = Layout.block ⟨4, ![2, 128, 4, 64]⟩ ⟨4, ![2, 1024, 4, 64]⟩ 1 8 c (m' (((0 : Dev Cert.ReferenceIdeal.nD).tc : Thread Cert.ReferenceIdeal.nD Cert.ReferenceIdeal.τ).loc Cert.ReferenceIdeal.main_arg3))
      ∧ m ((c.tc : Thread Cert.KernelIdeal.nD Cert.KernelIdeal.τ).loc Cert.KernelIdeal.main_arg4) = m' (((0 : Dev Cert.ReferenceIdeal.nD).tc : Thread Cert.ReferenceIdeal.nD Cert.ReferenceIdeal.τ).loc Cert.ReferenceIdeal.main_arg4)) →
    ∃ (v0 : Buf (Elt Ideal) (((0 : Dev Cert.ReferenceIdeal.nD).tc : Thread Cert.ReferenceIdeal.nD Cert.ReferenceIdeal.τ).loc Cert.ReferenceIdeal.main_v51)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = Layout.block ⟨3, ![2, 128, 512]⟩ ⟨3, ![2, 1024, 512]⟩ 1 8 c v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v51) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0)
          ∧ r.2.mem (((0 : Dev Cert.ReferenceIdeal.nD).tc : Thread Cert.ReferenceIdeal.nD Cert.ReferenceIdeal.τ).loc Cert.ReferenceIdeal.main_arg1) = m' (((0 : Dev Cert.ReferenceIdeal.nD).tc : Thread Cert.ReferenceIdeal.nD Cert.ReferenceIdeal.τ).loc Cert.ReferenceIdeal.main_arg1)
          ∧ r.2.mem (((0 : Dev Cert.ReferenceIdeal.nD).tc : Thread Cert.ReferenceIdeal.nD Cert.ReferenceIdeal.τ).loc Cert.ReferenceIdeal.main_arg2) = m' (((0 : Dev Cert.ReferenceIdeal.nD).tc : Thread Cert.ReferenceIdeal.nD Cert.ReferenceIdeal.τ).loc Cert.ReferenceIdeal.main_arg2)
          ∧ r.2.mem (((0 : Dev Cert.ReferenceIdeal.nD).tc : Thread Cert.ReferenceIdeal.nD Cert.ReferenceIdeal.τ).loc Cert.ReferenceIdeal.main_arg3) = m' (((0 : Dev Cert.ReferenceIdeal.nD).tc : Thread Cert.ReferenceIdeal.nD Cert.ReferenceIdeal.τ).loc Cert.ReferenceIdeal.main_arg3)
          ∧ r.2.mem (((0 : Dev Cert.ReferenceIdeal.nD).tc : Thread Cert.ReferenceIdeal.nD Cert.ReferenceIdeal.τ).loc Cert.ReferenceIdeal.main_arg4) = m' (((0 : Dev Cert.ReferenceIdeal.nD).tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts) (hPre_finite_scores_KernelIdeal : Cert.Pre_finite_scores_KernelIdeal.Facts) (hPre_finite_scores_ReferenceIdeal : Cert.Pre_finite_scores_ReferenceIdeal.Facts),
    quiescent_Kernel (hKernel := hKernel)
    ∧ quiescent_KernelIdeal (hKernelIdeal := hKernelIdeal)
    ∧ quiescent_KernelIdeal_pre_finite_scores_KernelIdeal (hKernelIdeal := hKernelIdeal) (hPre_finite_scores_KernelIdeal := hPre_finite_scores_KernelIdeal)
    ∧ quiescent_ReferenceIdeal (hReferenceIdeal := hReferenceIdeal)
    ∧ quiescent_ReferenceIdeal_pre_finite_scores_ReferenceIdeal (hReferenceIdeal := hReferenceIdeal) (hPre_finite_scores_ReferenceIdeal := hPre_finite_scores_ReferenceIdeal)
    ∧ preserves_Kernel_KernelIdeal
    ∧ algebraic_KernelIdeal_ReferenceIdeal_pre_finite_scores_KernelIdeal (hKernelIdeal := hKernelIdeal) (hReferenceIdeal := hReferenceIdeal) (hPre_finite_scores_KernelIdeal := hPre_finite_scores_KernelIdeal)
-- ==== Pre_finite_scores_KernelIdeal.lean ====
abbrev S2x128x512 : Shape := ⟨3, ![2, 128, 512]⟩
abbrev S512x256 : Shape := ⟨2, ![512, 256]⟩
abbrev S2x128x4x64 : Shape := ⟨4, ![2, 128, 4, 64]⟩
abbrev S256x512 : Shape := ⟨2, ![256, 512]⟩
abbrev S_ : Shape := ⟨0, ![]⟩

class Facts : Prop where
  bcast_S_S2x128x512 : S_.BroadcastsInDim S2x128x512 (![] : Fin 0 → Fin S2x128x512.rank)
  bcast_S_S512x256 : S_.BroadcastsInDim S512x256 (![] : Fin 0 → Fin S512x256.rank)
  bcast_S_S2x128x4x64 : S_.BroadcastsInDim S2x128x4x64 (![] : Fin 0 → Fin S2x128x4x64.rank)

variable [Facts]

def fn {F : FTy → Type} [FloatOps F] (main_arg0 : FVec F S2x128x512 .bf16) (main_arg1 : FVec F S512x256 .bf16) (main_arg2 : FVec F S2x128x4x64 .bf16) (main_arg3 : FVec F S2x128x4x64 .bf16) (main_arg4 : FVec F S256x512 .bf16) : IVec S2x128x512 1 × IVec S512x256 1 × IVec S2x128x4x64 1 :=
  let main_v0 : FVec F S2x128x512 .bf16 := Host.absf main_arg0
  let main_cst : FVec F S_ .bf16 := constant S_ .bf16 0x7F80#16
  let main_v1 : FVec F S2x128x512 .bf16 := broadcastInDim S2x128x512 ![] bcast_S_S2x128x512 main_cst
  let main_v2 : IVec S2x128x512 1 := cmpf .olt main_v0 main_v1
  let main_v3 : FVec F S512x256 .bf16 := Host.absf main_arg1
  let main_cst_0 : FVec F S_ .bf16 := constant S_ .bf16 0x7F80#16
  let main_v4 : FVec F S512x256 .bf16 := broadcastInDim S512x256 ![] bcast_S_S512x256 main_cst_0
  let main_v5 : IVec S512x256 1 := cmpf .olt main_v3 main_v4
  let main_v6 : FVec F S2x128x4x64 .bf16 := Host.absf main_arg2
  let main_cst_1 : FVec F S_ .bf16 := constant S_ .bf16 0x7F80#16
  let main_v7 : FVec F S2x128x4x64 .bf16 := broadcastInDim S2x128x4x64 ![] bcast_S_S2x128x4x64 main_cst_1
  let main_v8 : IVec S2x128x4x64 1 := cmpf .olt main_v6 main_v7
  (main_v2, main_v5, main_v8)
-- ==== Pre_finite_scores_ReferenceIdeal.lean ====
abbrev S2x1024x512 : Shape := ⟨3, ![2, 1024, 512]⟩
abbrev S512x256 : Shape := ⟨2, ![512, 256]⟩
abbrev S2x1024x4x64 : Shape := ⟨4, ![2, 1024, 4, 64]⟩
abbrev S256x512 : Shape := ⟨2, ![256, 512]⟩
abbrev S_ : Shape := ⟨0, ![]⟩

class Facts : Prop where
  bcast_S_S2x1024x512 : S_.BroadcastsInDim S2x1024x512 (![] : Fin 0 → Fin S2x1024x512.rank)
  bcast_S_S512x256 : S_.BroadcastsInDim S512x256 (![] : Fin 0 → Fin S512x256.rank)
  bcast_S_S2x1024x4x64 : S_.BroadcastsInDim S2x1024x4x64 (![] : Fin 0 → Fin S2x1024x4x64.rank)

variable [Facts]

def fn {F : FTy → Type} [FloatOps F] (main_arg0 : FVec F S2x1024x512 .bf16) (main_arg1 : FVec F S512x256 .bf16) (main_arg2 : FVec F S2x1024x4x64 .bf16) (main_arg3 : FVec F S2x1024x4x64 .bf16) (main_arg4 : FVec F S256x512 .bf16) : IVec S2x1024x512 1 × IVec S512x256 1 × IVec S2x1024x4x64 1 :=
  let main_v0 : FVec F S2x1024x512 .bf16 := Host.absf main_arg0
  let main_cst : FVec F S_ .bf16 := constant S_ .bf16 0x7F80#16
  let main_v1 : FVec F S2x1024x512 .bf16 := broadcastInDim S2x1024x512 ![] bcast_S_S2x1024x512 main_cst
  let main_v2 : IVec S2x1024x512 1 := cmpf .olt main_v0 main_v1
  let main_v3 : FVec F S512x256 .bf16 := Host.absf main_arg1
  let main_cst_0 : FVec F S_ .bf16 := constant S_ .bf16 0x7F80#16
  let main_v4 : FVec F S512x256 .bf16 := broadcastInDim S512x256 ![] bcast_S_S512x256 main_cst_0
  let main_v5 : IVec S512x256 1 := cmpf .olt main_v3 main_v4
  let main_v6 : FVec F S2x1024x4x64 .bf16 := Host.absf main_arg2
  let main_cst_1 : FVec F S_ .bf16 := constant S_ .bf16 0x7F80#16
  let main_v7 : FVec F S2x1024x4x64 .bf16 := broadcastInDim S2x1024x4x64 ![] bcast_S_S2x1024x4x64 main_cst_1
  let main_v8 : IVec S2x1024x4x64 1 := cmpf .olt main_v6 main_v7
  (main_v2, main_v5, main_v8)
-- ==== Kernel.lean ====
abbrev S2x128x512 : Shape := ⟨3, ![2, 128, 512]⟩
abbrev S512x256 : Shape := ⟨2, ![512, 256]⟩
abbrev S2x128x4x64 : Shape := ⟨4, ![2, 128, 4, 64]⟩
abbrev S256x512 : Shape := ⟨2, ![256, 512]⟩
abbrev S16x384x64 : Shape := ⟨3, ![16, 384, 64]⟩
abbrev S8x32x64 : Shape := ⟨3, ![8, 32, 64]⟩
abbrev S16x32x64 : Shape := ⟨3, ![16, 32, 64]⟩
abbrev S2x8x32x64 : Shape := ⟨4, ![2, 8, 32, 64]⟩
abbrev S3x2x8x32x64 : Shape := ⟨5, ![3, 2, 8, 32, 64]⟩
abbrev S8x32x1 : Shape := ⟨3, ![8, 32, 1]⟩
abbrev S1 : Shape := ⟨1, ![1]⟩
abbrev S5 : Shape := ⟨1, ![5]⟩
abbrev S3 : Shape := ⟨1, ![3]⟩
abbrev S_ : Shape := ⟨0, ![]⟩
abbrev S2x32x512 : Shape := ⟨3, ![2, 32, 512]⟩
abbrev S2x32x256 : Shape := ⟨3, ![2, 32, 256]⟩
abbrev S2x32x64 : Shape := ⟨3, ![2, 32, 64]⟩
abbrev S2x128x1x64 : Shape := ⟨4, ![2, 128, 1, 64]⟩
abbrev S2x128x64 : Shape := ⟨3, ![2, 128, 64]⟩
abbrev S16x128x64 : Shape := ⟨3, ![16, 128, 64]⟩
abbrev S2x128x256 : Shape := ⟨3, ![2, 128, 256]⟩
abbrev S8x128x64 : Shape := ⟨3, ![8, 128, 64]⟩
abbrev S8x32x128 : Shape := ⟨3, ![8, 32, 128]⟩
abbrev S8x32 : Shape := ⟨2, ![8, 32]⟩
abbrev S1x8x32x64 : Shape := ⟨4, ![1, 8, 32, 64]⟩
abbrev S1x2x8x32x64 : Shape := ⟨5, ![1, 2, 8, 32, 64]⟩
abbrev S8x128x32 : Shape := ⟨3, ![8, 128, 32]⟩
abbrev S8x128 : Shape := ⟨2, ![8, 128]⟩
abbrev S8x128x1 : Shape := ⟨3, ![8, 128, 1]⟩
abbrev S128x384 : Shape := ⟨2, ![128, 384]⟩
abbrev S1x128x384 : Shape := ⟨3, ![1, 128, 384]⟩
abbrev S8x384x64 : Shape := ⟨3, ![8, 384, 64]⟩
abbrev S8x128x384 : Shape := ⟨3, ![8, 128, 384]⟩
abbrev S1x1x8x32x64 : Shape := ⟨5, ![1, 1, 8, 32, 64]⟩
abbrev S1x1x8x32x1 : Shape := ⟨5, ![1, 1, 8, 32, 1]⟩
abbrev S8x96x64 : Shape := ⟨3, ![8, 96, 64]⟩
abbrev S8x96x1 : Shape := ⟨3, ![8, 96, 1]⟩
abbrev S64x512 : Shape := ⟨2, ![64, 512]⟩

abbrev nBuf : Space → Nat
  | .hbm => 6
  | .vmem => 14
  | .smem => 0
  | _ => 0

abbrev bufTy : (tb : Table) → Fin (tcTables nBuf tb) → BufTy
  | .hbm, ⟨0, _⟩ => ⟨S2x128x512, .bf16⟩
  | .hbm, ⟨1, _⟩ => ⟨S512x256, .bf16⟩
  | .hbm, ⟨2, _⟩ => ⟨S2x128x4x64, .bf16⟩
  | .hbm, ⟨3, _⟩ => ⟨S2x128x4x64, .bf16⟩
  | .hbm, ⟨4, _⟩ => ⟨S256x512, .bf16⟩
  | .hbm, ⟨5, _⟩ => ⟨S2x128x512, .f32⟩
  | .local _ .vmem, ⟨0, _⟩ => ⟨S2x128x512, .bf16⟩
  | .local _ .vmem, ⟨1, _⟩ => ⟨S512x256, .bf16⟩
  | .local _ .vmem, ⟨2, _⟩ => ⟨S2x128x4x64, .bf16⟩
  | .local _ .vmem, ⟨3, _⟩ => ⟨S2x128x4x64, .bf16⟩
  | .local _ .vmem, ⟨4, _⟩ => ⟨S256x512, .bf16⟩
  | .local _ .vmem, ⟨5, _⟩ => ⟨S2x128x512, .f32⟩
  | .local _ .vmem, ⟨6, _⟩ => ⟨S16x384x64, .bf16⟩
  | .local _ .vmem, ⟨7, _⟩ => ⟨S8x32x64, .bf16⟩
  | .local _ .vmem, ⟨8, _⟩ => ⟨S16x32x64, .bf16⟩
  | .local _ .vmem, ⟨9, _⟩ => ⟨S2x8x32x64, .bf16⟩
  | .local _ .vmem, ⟨10, _⟩ => ⟨S3x2x8x32x64, .bf16⟩
  | .local _ .vmem, ⟨11, _⟩ => ⟨S2x8x32x64, .bf16⟩
  | .local _ .vmem, ⟨12, _⟩ => ⟨S8x32x64, .f32⟩
  | .local _ .vmem, ⟨13, _⟩ => ⟨S8x32x1, .f32⟩
  | _, _ => ⟨S2x128x512, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 1 → Bool
  | ⟨0, _⟩ => false
  | _ => false

abbrev dmaSemScoped : Fin 27 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | _ => false

abbrev sig : RefSig :=
  (ofTc nBuf bufTy 1 27 bufScoped semScoped dmaSemScoped tileCredit tileCredit_eq_zero tileCredit_pos).withBarriers [(0, 0)]

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v1 : Ref sig .tc := ⟨.hbm, 5, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_scratch0 : Ref sig .tc := ⟨.vmem, 6, rfl⟩
abbrev cc0_scratch1 : Ref sig .tc := ⟨.vmem, 7, rfl⟩
abbrev cc0_scratch2 : Ref sig .tc := ⟨.vmem, 8, rfl⟩
abbrev cc0_scratch3 : Ref sig .tc := ⟨.vmem, 9, rfl⟩
abbrev cc0_scratch4 : Ref sig .tc := ⟨.vmem, 10, rfl⟩
abbrev cc0_scratch5 : Ref sig .tc := ⟨.vmem, 11, rfl⟩
abbrev cc0_scratch6 : Ref sig .tc := ⟨.vmem, 12, rfl⟩
abbrev cc0_scratch7 : Ref sig .tc := ⟨.vmem, 13, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev barrier0 : Sem sig := 0

abbrev nD : Nat := 8
abbrev τ : Topo := Topo.v7x

variable {F : FTy → Type} [FloatOps F]

abbrev grid0 : Pipeline.Grid := .none

def k0_dev1 (d0 : Dev nD) : Nat :=
  let c0_i32_11 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_0 : BitVec 32 := 1#32
  let v3 : BitVec 32 := Scalar.subi v2 c1_i32_0
  let c8_i32_1 : BitVec 32 := 8#32
  let v4 : BitVec 32 := Scalar.addi v3 c8_i32_1
  let c8_i32_2 : BitVec 32 := 8#32
  let v5 : BitVec 32 := Scalar.remsi v4 c8_i32_2
  let c1_i32_10 : BitVec 32 := 1#32
  let v22 : BitVec 32 := Scalar.muli v5 c1_i32_10
  let v23 : BitVec 32 := Scalar.addi c0_i32_11 v22
  v23.toNat
def k0_dev2 (d0 : Dev nD) : Nat :=
  let c0_i32_14 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_3 : BitVec 32 := 1#32
  let v6 : BitVec 32 := Scalar.addi v2 c1_i32_3
  let c8_i32_4 : BitVec 32 := 8#32
  let v7 : BitVec 32 := Scalar.remsi v6 c8_i32_4
  let c1_i32_13 : BitVec 32 := 1#32
  let v24 : BitVec 32 := Scalar.muli v7 c1_i32_13
  let v25 : BitVec 32 := Scalar.addi c0_i32_14 v24
  v25.toNat
def k0_cond1 (d0 : Dev nD) : BitVec 1 :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c0_i32 : BitVec 32 := 0#32
  let v8 : BitVec 1 := Scalar.cmpi .eq v2 c0_i32
  let v26 : BitVec 32 := Scalar.extui v8
  let c0_i32_15 : BitVec 32 := 0#32
  let v27 : BitVec 1 := Scalar.cmpi .ne v26 c0_i32_15
  v27

def k0_dev3 : Nat :=
  let c0_i32_248 : BitVec 32 := 0#32
  let c2_i32_246 : BitVec 32 := 2#32
  let c1_i32_247 : BitVec 32 := 1#32
  let v241 : BitVec 32 := Scalar.muli c2_i32_246 c1_i32_247
  let v242 : BitVec 32 := Scalar.addi c0_i32_248 v241
  v242.toNat
def k0_dev4 : Nat :=
  let c0_i32_252 : BitVec 32 := 0#32
  let c3_i32_250 : BitVec 32 := 3#32
  let c1_i32_251 : BitVec 32 := 1#32
  let v243 : BitVec 32 := Scalar.muli c3_i32_250 c1_i32_251
  let v244 : BitVec 32 := Scalar.addi c0_i32_252 v243
  v244.toNat
def k0_dev5 : Nat :=
  let c0_i32_256 : BitVec 32 := 0#32
  let c4_i32_254 : BitVec 32 := 4#32
  let c1_i32_255 : BitVec 32 := 1#32
  let v245 : BitVec 32 := Scalar.muli c4_i32_254 c1_i32_255
  let v246 : BitVec 32 := Scalar.addi c0_i32_256 v245
  v246.toNat
def k0_dev6 : Nat :=
  let c0_i32_260 : BitVec 32 := 0#32
  let c5_i32_258 : BitVec 32 := 5#32
  let c1_i32_259 : BitVec 32 := 1#32
  let v247 : BitVec 32 := Scalar.muli c5_i32_258 c1_i32_259
  let v248 : BitVec 32 := Scalar.addi c0_i32_260 v247
  v248.toNat
def k0_dev7 : Nat :=
  let c0_i32_264 : BitVec 32 := 0#32
  let c6_i32_262 : BitVec 32 := 6#32
  let c1_i32_263 : BitVec 32 := 1#32
  let v249 : BitVec 32 := Scalar.muli c6_i32_262 c1_i32_263
  let v250 : BitVec 32 := Scalar.addi c0_i32_264 v249
  v250.toNat
def k0_cond2 (d0 : Dev nD) : BitVec 1 :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c2_i32 : BitVec 32 := 2#32
  let v9 : BitVec 1 := Scalar.cmpi .sge v2 c2_i32
  let c6_i32 : BitVec 32 := 6#32
  let v10 : BitVec 1 := Scalar.cmpi .sle v2 c6_i32
  let v11 : BitVec 1 := Scalar.andi v9 v10
  let v28 : BitVec 32 := Scalar.extui v11
  let c0_i32_16 : BitVec 32 := 0#32
  let v29 : BitVec 1 := Scalar.cmpi .ne v28 c0_i32_16
  v29

def k0_dev8 : Nat :=
  let c0_i32_248 : BitVec 32 := 0#32
  let c0_i32_246 : BitVec 32 := 0#32
  let c1_i32_247 : BitVec 32 := 1#32
  let v241 : BitVec 32 := Scalar.muli c0_i32_246 c1_i32_247
  let v242 : BitVec 32 := Scalar.addi c0_i32_248 v241
  v242.toNat
def k0_cond5 (d0 : Dev nD) : BitVec 1 :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c0_i32 : BitVec 32 := 0#32
  let v8 : BitVec 1 := Scalar.cmpi .eq v2 c0_i32
  let v36 : BitVec 32 := Scalar.extui v8
  let c0_i32_30 : BitVec 32 := 0#32
  let v37 : BitVec 1 := Scalar.cmpi .ne v36 c0_i32_30
  v37

def k0_dev9 : Nat :=
  let c0_i32_254 : BitVec 32 := 0#32
  let c2_i32_252 : BitVec 32 := 2#32
  let c1_i32_253 : BitVec 32 := 1#32
  let v253 : BitVec 32 := Scalar.muli c2_i32_252 c1_i32_253
  let v254 : BitVec 32 := Scalar.addi c0_i32_254 v253
  v254.toNat
def k0_dev10 : Nat :=
  let c0_i32_257 : BitVec 32 := 0#32
  let c3_i32_255 : BitVec 32 := 3#32
  let c1_i32_256 : BitVec 32 := 1#32
  let v259 : BitVec 32 := Scalar.muli c3_i32_255 c1_i32_256
  let v260 : BitVec 32 := Scalar.addi c0_i32_257 v259
  v260.toNat
def k0_dev11 : Nat :=
  let c0_i32_260 : BitVec 32 := 0#32
  let c4_i32_258 : BitVec 32 := 4#32
  let c1_i32_259 : BitVec 32 := 1#32
  let v265 : BitVec 32 := Scalar.muli c4_i32_258 c1_i32_259
  let v266 : BitVec 32 := Scalar.addi c0_i32_260 v265
  v266.toNat
def k0_dev12 : Nat :=
  let c0_i32_263 : BitVec 32 := 0#32
  let c5_i32_261 : BitVec 32 := 5#32
  let c1_i32_262 : BitVec 32 := 1#32
  let v271 : BitVec 32 := Scalar.muli c5_i32_261 c1_i32_262
  let v272 : BitVec 32 := Scalar.addi c0_i32_263 v271
  v272.toNat
def k0_dev13 : Nat :=
  let c0_i32_266 : BitVec 32 := 0#32
  let c6_i32_264 : BitVec 32 := 6#32
  let c1_i32_265 : BitVec 32 := 1#32
  let v277 : BitVec 32 := Scalar.muli c6_i32_264 c1_i32_265
  let v278 : BitVec 32 := Scalar.addi c0_i32_266 v277
  v278.toNat
def k0_cond7 (d0 : Dev nD) : BitVec 1 :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c0_i32 : BitVec 32 := 0#32
  let v8 : BitVec 1 := Scalar.cmpi .eq v2 c0_i32
  let v83 : BitVec 32 := Scalar.extui v8
  let c0_i32_92 : BitVec 32 := 0#32
  let v84 : BitVec 1 := Scalar.cmpi .ne v83 c0_i32_92
  v84

def k0_dev14 : Nat :=
  let c0_i32_247 : BitVec 32 := 0#32
  let c2_i32_245 : BitVec 32 := 2#32
  let c1_i32_246 : BitVec 32 := 1#32
  let v241 : BitVec 32 := Scalar.muli c2_i32_245 c1_i32_246
  let v242 : BitVec 32 := Scalar.addi c0_i32_247 v241
  v242.toNat
def k0_dev15 : Nat :=
  let c0_i32_253 : BitVec 32 := 0#32
  let c3_i32_251 : BitVec 32 := 3#32
  let c1_i32_252 : BitVec 32 := 1#32
  let v248 : BitVec 32 := Scalar.muli c3_i32_251 c1_i32_252
  let v249 : BitVec 32 := Scalar.addi c0_i32_253 v248
  v249.toNat
def k0_dev16 : Nat :=
  let c0_i32_259 : BitVec 32 := 0#32
  let c4_i32_257 : BitVec 32 := 4#32
  let c1_i32_258 : BitVec 32 := 1#32
  let v255 : BitVec 32 := Scalar.muli c4_i32_257 c1_i32_258
  let v256 : BitVec 32 := Scalar.addi c0_i32_259 v255
  v256.toNat
def k0_dev17 : Nat :=
  let c0_i32_265 : BitVec 32 := 0#32
  let c5_i32_263 : BitVec 32 := 5#32
  let c1_i32_264 : BitVec 32 := 1#32
  let v262 : BitVec 32 := Scalar.muli c5_i32_263 c1_i32_264
  let v263 : BitVec 32 := Scalar.addi c0_i32_265 v262
  v263.toNat
def k0_dev18 : Nat :=
  let c0_i32_271 : BitVec 32 := 0#32
  let c6_i32_269 : BitVec 32 := 6#32
  let c1_i32_270 : BitVec 32 := 1#32
  let v269 : BitVec 32 := Scalar.muli c6_i32_269 c1_i32_270
  let v270 : BitVec 32 := Scalar.addi c0_i32_271 v269
  v270.toNat
def k0_dev19 (d0 : Dev nD) : Nat :=
  let c0_i32_96 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_3 : BitVec 32 := 1#32
  let v6 : BitVec 32 := Scalar.addi v2 c1_i32_3
  let c8_i32_4 : BitVec 32 := 8#32
  let v7 : BitVec 32 := Scalar.remsi v6 c8_i32_4
  let c1_i32_95 : BitVec 32 := 1#32
  let v85 : BitVec 32 := Scalar.muli v7 c1_i32_95
  let v86 : BitVec 32 := Scalar.addi c0_i32_96 v85
  v86.toNat
def k0_dev20 (d0 : Dev nD) : Nat :=
  let c0_i32_105 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_0 : BitVec 32 := 1#32
  let v3 : BitVec 32 := Scalar.subi v2 c1_i32_0
  let c8_i32_1 : BitVec 32 := 8#32
  let v4 : BitVec 32 := Scalar.addi v3 c8_i32_1
  let c8_i32_2 : BitVec 32 := 8#32
  let v5 : BitVec 32 := Scalar.remsi v4 c8_i32_2
  let c1_i32_104 : BitVec 32 := 1#32
  let v93 : BitVec 32 := Scalar.muli v5 c1_i32_104
  let v94 : BitVec 32 := Scalar.addi c0_i32_105 v93
  v94.toNat
def k0_cond9 (d0 : Dev nD) : BitVec 1 :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c2_i32_5 : BitVec 32 := 2#32
  let v12 : BitVec 1 := Scalar.cmpi .eq v2 c2_i32_5
  let c6_i32_6 : BitVec 32 := 6#32
  let v13 : BitVec 1 := Scalar.cmpi .eq v2 c6_i32_6
  let v14 : BitVec 1 := Scalar.ori v12 v13
  let v115 : BitVec 32 := Scalar.extui v14
  let c0_i32_122 : BitVec 32 := 0#32
  let v116 : BitVec 1 := Scalar.cmpi .ne v115 c0_i32_122
  v116

def k0_dev21 (d0 : Dev nD) : Nat :=
  let c0_i32_246 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c2_i32_111 : BitVec 32 := 2#32
  let v108 : BitVec 1 := Scalar.cmpi .eq v2 c2_i32_111
  let c3_i32_112 : BitVec 32 := 3#32
  let c5_i32_113 : BitVec 32 := 5#32
  let v109 : BitVec 32 := Scalar.select v108 c3_i32_112 c5_i32_113
  let c1_i32_245 : BitVec 32 := 1#32
  let v241 : BitVec 32 := Scalar.muli v109 c1_i32_245
  let v242 : BitVec 32 := Scalar.addi c0_i32_246 v241
  v242.toNat
def k0_cond11 (d0 : Dev nD) : BitVec 1 :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c3_i32_7 : BitVec 32 := 3#32
  let v18 : BitVec 1 := Scalar.cmpi .sge v2 c3_i32_7
  let c5_i32_8 : BitVec 32 := 5#32
  let v19 : BitVec 1 := Scalar.cmpi .sle v2 c5_i32_8
  let v20 : BitVec 1 := Scalar.andi v18 v19
  let v119 : BitVec 32 := Scalar.extui v20
  let c0_i32_127 : BitVec 32 := 0#32
  let v120 : BitVec 1 := Scalar.cmpi .ne v119 c0_i32_127
  v120

def k0_off1 (d0 : Dev nD) : Fin 1 → Nat :=
  let c2_i32_116 : BitVec 32 := 2#32
  let c0_i32_115 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c3_i32_114 : BitVec 32 := 3#32
  let v110 : BitVec 32 := Scalar.subi v2 c3_i32_114
  let v111 : BitVec 32 := Scalar.maxsi c0_i32_115 v110
  let v112 : BitVec 32 := Scalar.minsi c2_i32_116 v111
  ![v112.toNat]
def k0_off2 (d0 : Dev nD) : Fin 5 → Nat :=
  let c2_i32_116 : BitVec 32 := 2#32
  let c0_i32_115 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c3_i32_114 : BitVec 32 := 3#32
  let v110 : BitVec 32 := Scalar.subi v2 c3_i32_114
  let v111 : BitVec 32 := Scalar.maxsi c0_i32_115 v110
  let v112 : BitVec 32 := Scalar.minsi c2_i32_116 v111
  let c0_i32_248 : BitVec 32 := 0#32
  let c0_i32_249 : BitVec 32 := 0#32
  let c0_i32_250 : BitVec 32 := 0#32
  let c0_i32_251 : BitVec 32 := 0#32
  ![v112.toNat, 0, 0, 0, 0]
def k0_dev22 : Nat :=
  let c0_i32_247 : BitVec 32 := 0#32
  let c0_i32_245 : BitVec 32 := 0#32
  let c1_i32_246 : BitVec 32 := 1#32
  let v241 : BitVec 32 := Scalar.muli c0_i32_245 c1_i32_246
  let v242 : BitVec 32 := Scalar.addi c0_i32_247 v241
  v242.toNat
def k0_cond17 (d0 : Dev nD) : BitVec 1 :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c3_i32_7 : BitVec 32 := 3#32
  let v18 : BitVec 1 := Scalar.cmpi .sge v2 c3_i32_7
  let c5_i32_8 : BitVec 32 := 5#32
  let v19 : BitVec 1 := Scalar.cmpi .sle v2 c5_i32_8
  let v20 : BitVec 1 := Scalar.andi v18 v19
  let v239 : BitVec 32 := Scalar.extui v20
  let c0_i32_244 : BitVec 32 := 0#32
  let v240 : BitVec 1 := Scalar.cmpi .ne v239 c0_i32_244
  v240

def k0_off3 (d0 : Dev nD) : Fin 5 → Nat :=
  let c2_i32_116 : BitVec 32 := 2#32
  let c0_i32_115 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c3_i32_114 : BitVec 32 := 3#32
  let v110 : BitVec 32 := Scalar.subi v2 c3_i32_114
  let v111 : BitVec 32 := Scalar.maxsi c0_i32_115 v110
  let v112 : BitVec 32 := Scalar.minsi c2_i32_116 v111
  let c0_i32_247 : BitVec 32 := 0#32
  let c0_i32_248 : BitVec 32 := 0#32
  let c0_i32_249 : BitVec 32 := 0#32
  let c0_i32_250 : BitVec 32 := 0#32
  ![v112.toNat, 0, 0, 0, 0]
abbrev stage0_0 : Fin 1 → Memref sig .tc .vmem S2x128x512 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S512x256 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S2x128x4x64 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S2x128x4x64 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S256x512 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S2x128x512 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
-- ==== ReferenceIdeal.lean ====
abbrev S2x1024x512 : Shape := ⟨3, ![2, 1024, 512]⟩
abbrev S512x256 : Shape := ⟨2, ![512, 256]⟩
abbrev S2x1024x4x64 : Shape := ⟨4, ![2, 1024, 4, 64]⟩
abbrev S256x512 : Shape := ⟨2, ![256, 512]⟩
abbrev S2x1024x256 : Shape := ⟨3, ![2, 1024, 256]⟩
abbrev S1024 : Shape := ⟨1, ![1024]⟩
abbrev S1024x1 : Shape := ⟨2, ![1024, 1]⟩
abbrev S1x1024 : Shape := ⟨2, ![1, 1024]⟩
abbrev S1024x1024 : Shape := ⟨2, ![1024, 1024]⟩
abbrev S_ : Shape := ⟨0, ![]⟩
abbrev S2x4x1024x1024 : Shape := ⟨4, ![2, 4, 1024, 1024]⟩
abbrev S1x1x1024x1024 : Shape := ⟨4, ![1, 1, 1024, 1024]⟩
abbrev S2x4x1024 : Shape := ⟨3, ![2, 4, 1024]⟩
abbrev S2x4x1024x1 : Shape := ⟨4, ![2, 4, 1024, 1]⟩
abbrev S1x1x1024x1 : Shape := ⟨4, ![1, 1, 1024, 1]⟩
abbrev S2x4x64x1024 : Shape := ⟨4, ![2, 4, 64, 1024]⟩

abbrev nBuf : Space → Nat
  | .hbm => 76
  | .vmem => 0
  | .smem => 0
  | _ => 0

abbrev bufTy : (tb : Table) → Fin (tcTables nBuf tb) → BufTy
  | .hbm, ⟨0, _⟩ => ⟨S2x1024x512, .bf16⟩
  | .hbm, ⟨1, _⟩ => ⟨S512x256, .bf16⟩
  | .hbm, ⟨2, _⟩ => ⟨S2x1024x4x64, .bf16⟩
  | .hbm, ⟨3, _⟩ => ⟨S2x1024x4x64, .bf16⟩
  | .hbm, ⟨4, _⟩ => ⟨S256x512, .bf16⟩
  | .hbm, ⟨5, _⟩ => ⟨S2x1024x512, .f32⟩
  | .hbm, ⟨6, _⟩ => ⟨S512x256, .f32⟩
  | .hbm, ⟨7, _⟩ => ⟨S2x1024x256, .f32⟩
  | .hbm, ⟨8, _⟩ => ⟨S2x1024x256, .bf16⟩
  | .hbm, ⟨9, _⟩ => ⟨S2x1024x4x64, .bf16⟩
  | .hbm, ⟨10, _⟩ => ⟨S1024, .i32⟩
  | .hbm, ⟨11, _⟩ => ⟨S1024x1, .i32⟩
  | .hbm, ⟨12, _⟩ => ⟨S1024, .i32⟩
  | .hbm, ⟨13, _⟩ => ⟨S1x1024, .i32⟩
  | .hbm, ⟨14, _⟩ => ⟨S1024x1024, .i32⟩
  | .hbm, ⟨15, _⟩ => ⟨S1024x1024, .i32⟩
  | .hbm, ⟨16, _⟩ => ⟨S1024x1024, .i32⟩
  | .hbm, ⟨17, _⟩ => ⟨S1024x1024, .i32⟩
  | .hbm, ⟨18, _⟩ => ⟨S_, .i32⟩
  | .hbm, ⟨19, _⟩ => ⟨S1024x1024, .i32⟩
  | .hbm, ⟨20, _⟩ => ⟨S1024x1024, .i1⟩
  | .hbm, ⟨21, _⟩ => ⟨S_, .i32⟩
  | .hbm, ⟨22, _⟩ => ⟨S1x1024, .i32⟩
  | .hbm, ⟨23, _⟩ => ⟨S1x1024, .i1⟩
  | .hbm, ⟨24, _⟩ => ⟨S_, .i32⟩
  | .hbm, ⟨25, _⟩ => ⟨S1024x1, .i32⟩
  | .hbm, ⟨26, _⟩ => ⟨S1024x1, .i1⟩
  | .hbm, ⟨27, _⟩ => ⟨S1024x1024, .i1⟩
  | .hbm, ⟨28, _⟩ => ⟨S1024x1024, .i1⟩
  | .hbm, ⟨29, _⟩ => ⟨S1024x1024, .i1⟩
  | .hbm, ⟨30, _⟩ => ⟨S1024x1024, .i1⟩
  | .hbm, ⟨31, _⟩ => ⟨S2x1024x4x64, .f32⟩
  | .hbm, ⟨32, _⟩ => ⟨S2x1024x4x64, .f32⟩
  | .hbm, ⟨33, _⟩ => ⟨S2x4x1024x1024, .f32⟩
  | .hbm, ⟨34, _⟩ => ⟨S2x4x1024x1024, .bf16⟩
  | .hbm, ⟨35, _⟩ => ⟨S2x4x1024x1024, .f32⟩
  | .hbm, ⟨36, _⟩ => ⟨S_, .f32⟩
  | .hbm, ⟨37, _⟩ => ⟨S2x4x1024x1024, .f32⟩
  | .hbm, ⟨38, _⟩ => ⟨S2x4x1024x1024, .f32⟩
  | .hbm, ⟨39, _⟩ => ⟨S1x1x1024x1024, .i1⟩
  | .hbm, ⟨40, _⟩ => ⟨S_, .f32⟩
  | .hbm, ⟨41, _⟩ => ⟨S_, .f32⟩
  | .hbm, ⟨42, _⟩ => ⟨S2x4x1024x1024, .i1⟩
  | .hbm, ⟨43, _⟩ => ⟨S2x4x1024x1024, .f32⟩
  | .hbm, ⟨44, _⟩ => ⟨S2x4x1024x1024, .f32⟩
  | .hbm, ⟨45, _⟩ => ⟨S_, .f32⟩
  | .hbm, ⟨46, _⟩ => ⟨S2x4x1024, .f32⟩
  | .hbm, ⟨47, _⟩ => ⟨S2x4x1024x1, .f32⟩
  | .hbm, ⟨48, _⟩ => ⟨S2x4x1024x1024, .f32⟩
  | .hbm, ⟨49, _⟩ => ⟨S2x4x1024x1024, .f32⟩
  | .hbm, ⟨50, _⟩ => ⟨S2x4x1024x1024, .f32⟩
  | .hbm, ⟨51, _⟩ => ⟨S_, .i1⟩
  | .hbm, ⟨52, _⟩ => ⟨S1024, .i1⟩
  | .hbm, ⟨53, _⟩ => ⟨S1x1x1024x1, .i1⟩
  | .hbm, ⟨54, _⟩ => ⟨S_, .f32⟩
  | .hbm, ⟨55, _⟩ => ⟨S2x4x1024, .f32⟩
  | .hbm, ⟨56, _⟩ => ⟨S2x4x1024x1, .f32⟩
  | .hbm, ⟨57, _⟩ => ⟨S_, .f32⟩
  | .hbm, ⟨58, _⟩ => ⟨S_, .f32⟩
  | .hbm, ⟨59, _⟩ => ⟨S2x4x1024x1, .i1⟩
  | .hbm, ⟨60, _⟩ => ⟨S2x4x1024x1, .f32⟩
  | .hbm, ⟨61, _⟩ => ⟨S2x4x1024x1, .f32⟩
  | .hbm, ⟨62, _⟩ => ⟨S2x4x1024x1024, .f32⟩
  | .hbm, ⟨63, _⟩ => ⟨S2x4x1024x1024, .f32⟩
  | .hbm, ⟨64, _⟩ => ⟨S1x1x1024x1, .i1⟩
  | .hbm, ⟨65, _⟩ => ⟨S_, .f32⟩
  | .hbm, ⟨66, _⟩ => ⟨S_, .f32⟩
  | .hbm, ⟨67, _⟩ => ⟨S2x4x1024x1024, .i1⟩
  | .hbm, ⟨68, _⟩ => ⟨S2x4x1024x1024, .f32⟩
  | .hbm, ⟨69, _⟩ => ⟨S2x4x1024x1024, .f32⟩
  | .hbm, ⟨70, _⟩ => ⟨S2x1024x4x64, .f32⟩
  | .hbm, ⟨71, _⟩ => ⟨S2x4x64x1024, .f32⟩
  | .hbm, ⟨72, _⟩ => ⟨S2x1024x4x64, .f32⟩
  | .hbm, ⟨73, _⟩ => ⟨S2x1024x256, .f32⟩
  | .hbm, ⟨74, _⟩ => ⟨S256x512, .f32⟩
  | .hbm, ⟨75, _⟩ => ⟨S2x1024x512, .f32⟩
  | _, _ => ⟨S2x1024x512, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_c : Ref sig .tc := ⟨.hbm, 18, rfl⟩
abbrev main_v13 : Ref sig .tc := ⟨.hbm, 19, rfl⟩
abbrev main_v14 : Ref sig .tc := ⟨.hbm, 20, rfl⟩
abbrev main_c_0 : Ref sig .tc := ⟨.hbm, 21, rfl⟩
abbrev main_v15 : Ref sig .tc := ⟨.hbm, 22, rfl⟩
abbrev main_v16 : Ref sig .tc := ⟨.hbm, 23, rfl⟩
abbrev main_c_1 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩
abbrev main_v22 : Ref sig .tc := ⟨.hbm, 30, rfl⟩
abbrev main_v23 : Ref sig .tc := ⟨.hbm, 31, rfl⟩
abbrev main_v24 : Ref sig .tc := ⟨.hbm, 32, rfl⟩
abbrev main_v25 : Ref sig .tc := ⟨.hbm, 33, rfl⟩
abbrev main_v26 : Ref sig .tc := ⟨.hbm, 34, rfl⟩
abbrev main_v27 : Ref sig .tc := ⟨.hbm, 35, rfl⟩
abbrev main_cst : Ref sig .tc := ⟨.hbm, 36, rfl⟩
abbrev main_v28 : Ref sig .tc := ⟨.hbm, 37, rfl⟩
abbrev main_v29 : Ref sig .tc := ⟨.hbm, 38, rfl⟩
abbrev main_v30 : Ref sig .tc := ⟨.hbm, 39, rfl⟩
abbrev main_cst_2 : Ref sig .tc := ⟨.hbm, 40, rfl⟩
abbrev main_call0_v0 : Ref sig .tc := ⟨.hbm, 41, rfl⟩
abbrev main_call0_v1 : Ref sig .tc := ⟨.hbm, 42, rfl⟩
abbrev main_call0_v2 : Ref sig .tc := ⟨.hbm, 43, rfl⟩
abbrev main_v31 : Ref sig .tc := ⟨.hbm, 44, rfl⟩
abbrev main_cst_3 : Ref sig .tc := ⟨.hbm, 45, rfl⟩
abbrev main_v32 : Ref sig .tc := ⟨.hbm, 46, rfl⟩
abbrev main_v33 : Ref sig .tc := ⟨.hbm, 47, rfl⟩
abbrev main_v34 : Ref sig .tc := ⟨.hbm, 48, rfl⟩
abbrev main_v35 : Ref sig .tc := ⟨.hbm, 49, rfl⟩
abbrev main_v36 : Ref sig .tc := ⟨.hbm, 50, rfl⟩
abbrev main_c_4 : Ref sig .tc := ⟨.hbm, 51, rfl⟩
abbrev main_v37 : Ref sig .tc := ⟨.hbm, 52, rfl⟩
abbrev main_v38 : Ref sig .tc := ⟨.hbm, 53, rfl⟩
abbrev main_cst_5 : Ref sig .tc := ⟨.hbm, 54, rfl⟩
abbrev main_v39 : Ref sig .tc := ⟨.hbm, 55, rfl⟩
abbrev main_v40 : Ref sig .tc := ⟨.hbm, 56, rfl⟩
abbrev main_cst_6 : Ref sig .tc := ⟨.hbm, 57, rfl⟩
abbrev main_call1_v0 : Ref sig .tc := ⟨.hbm, 58, rfl⟩
abbrev main_call1_v1 : Ref sig .tc := ⟨.hbm, 59, rfl⟩
abbrev main_call1_v2 : Ref sig .tc := ⟨.hbm, 60, rfl⟩
abbrev main_v41 : Ref sig .tc := ⟨.hbm, 61, rfl⟩
abbrev main_v42 : Ref sig .tc := ⟨.hbm, 62, rfl⟩
abbrev main_v43 : Ref sig .tc := ⟨.hbm, 63, rfl⟩
abbrev main_v44 : Ref sig .tc := ⟨.hbm, 64, rfl⟩
abbrev main_cst_7 : Ref sig .tc := ⟨.hbm, 65, rfl⟩
abbrev main_call2_v0 : Ref sig .tc := ⟨.hbm, 66, rfl⟩
abbrev main_call2_v1 : Ref sig .tc := ⟨.hbm, 67, rfl⟩
abbrev main_call2_v2 : Ref sig .tc := ⟨.hbm, 68, rfl⟩
abbrev main_v45 : Ref sig .tc := ⟨.hbm, 69, rfl⟩
abbrev main_v46 : Ref sig .tc := ⟨.hbm, 70, rfl⟩
abbrev main_v47 : Ref sig .tc := ⟨.hbm, 71, rfl⟩
abbrev main_v48 : Ref sig .tc := ⟨.hbm, 72, rfl⟩
abbrev main_v49 : Ref sig .tc := ⟨.hbm, 73, rfl⟩
abbrev main_v50 : Ref sig .tc := ⟨.hbm, 74, rfl⟩
abbrev main_v51 : Ref sig .tc := ⟨.hbm, 75, rfl⟩

abbrev nD : Nat := 1
abbrev τ : Topo := Topo.v7x

variable {F : FTy → Type} [FloatOps F]
-- ==== Proof.Proto.lean ====
/-
# The kernel's protocol: its cells, what each device holds and hands over, its schedule

Eight devices in a ring. Device `c` has 22 semaphore cells, numbered `k : Fin 22`:

| cell          | raised by                                  | waited for by                | hands over                                  |
|---------------|--------------------------------------------|------------------------------|---------------------------------------------|
| 0             | every device that opens a buffer to `c`     | `c`, at entry                | the buffers `c` may copy into               |
| 1, 3          | `c`'s own copies to its two neighbours      | `c`, at exit                 | the share of its own keys that was read     |
| 2             | the left neighbour's copy                   | `c`, before its near keys    | rows 0–127 of the key/value buffer          |
| 4             | the right neighbour's copy                  | `c`, before its near keys    | rows 256–383 of the key/value buffer        |
| 5–9, 11–15    | device 0's own five copies of each kind     | device 0, at exit            | the share of the source                     |
| 10            | device 0's copy of its first 32 query rows  | a middle device              | the query buffer                            |
| 16            | device 0's copy of its first 32 key rows    | a middle device              | the global key buffer                       |
| 17            | a middle device's copy of its partial sums  | that device, at exit         | its partial sums                            |
| 18, 19, 20    | devices 3, 4, 5's copies of partial sums    | device 0                     | one slot of the incoming partial sums       |
| 21            | devices 2, 6's copies of partial sums       | devices 3, 5                 | the neighbour's partial sums                |

"Middle" are the devices 2 to 6: neither device 0 nor one of its neighbours.
-/
module

public import proofs.«01_k».proof.Proof.Gen.KernelIdeal
public import proofs.«01_k».proof.Proof.Gen.KernelIdeal.Skeleton
public import proofs.«01_k».proof.Proof.Gen.KernelIdeal.Launch
public import Idealize.ShloMosaic.Lib.Pipeline.Launch
public import Idealize.ShloMosaic.Lib.Pipeline.Kit
public import Idealize.ShloMosaic.Lib.Tactic
public import Idealize.ShloMosaic.Lib.ValueIdxCore

@[expose] public section

noncomputable section

namespace Cert.Sparse

open Cert.KernelIdeal Cert.KernelIdeal.Gen
open Idealize.ShloMosaic
open Idealize.ShloMosaic.TcCoe
open Idealize.ShloMosaic.ValueIdx (ix3 ix4 ix5)
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

/-! ## The resource algebra: the pipeline's copy and the protocol's, whose duties are named by the device that pays -/

abbrev UB : Type := URounds (GSem nD τ sig) (Dev nD)
abbrev UU : Type := UR sig nD τ × UB

local notation "𝕄" => MT nD τ sig Unit (Elt F) ℕ UU ℕ

abbrev EP : Emb (UR sig nD τ) (MT nD τ sig Unit (Elt F) ℕ UU ℕ) := embL
abbrev ER : Emb UB (MT nD τ sig Unit (Elt F) ℕ UU ℕ) := embR

variable (m : (ℓ : Loc nD τ sig) → Buf (Elt F) ℓ)

/-! ## The devices -/

/-- The device to the right, -/
def nxt (c : Dev nD) : Dev nD := ⟨(c.val + 1) % 8, Nat.mod_lt _ (by decide)⟩
/-- and the one to the left. -/
def prv (c : Dev nD) : Dev nD := ⟨(c.val + 7) % 8, Nat.mod_lt _ (by decide)⟩
/-- Neither device 0 nor one of its neighbours. -/
def Mid (c : Dev nD) : Prop := 2 ≤ c.val ∧ c.val ≤ 6
instance (c : Dev nD) : Decidable (Mid c) := inferInstanceAs (Decidable (_ ∧ _))
/-- The outermost middle devices, which pass their partial sums inward. -/
def Leaf (c : Dev nD) : Prop := c.val = 2 ∨ c.val = 6
instance (c : Dev nD) : Decidable (Leaf c) := inferInstanceAs (Decidable (_ ∨ _))
/-- The devices which add a leaf's partial sums to their own. -/
def Agg (c : Dev nD) : Prop := c.val = 3 ∨ c.val = 5
instance (c : Dev nD) : Decidable (Agg c) := inferInstanceAs (Decidable (_ ∨ _))
/-- The devices which send partial sums to device 0. -/
def Snd (c : Dev nD) : Prop := 3 ≤ c.val ∧ c.val ≤ 5
instance (c : Dev nD) : Decidable (Snd c) := inferInstanceAs (Decidable (_ ∧ _))
/-- The device a leaf passes its sums to, -/
def aggOf (c : Dev nD) : Dev nD := if c.val = 2 then 3 else 5
/-- and the leaf a device receives them from. -/
def leafOf (c : Dev nD) : Dev nD := if c.val = 3 then 2 else 6
/-- The slot of device 0's incoming buffer that device `c`'s sums go to. -/
def slotOf (c : Dev nD) : Fin 3 := ⟨(c.val - 3) % 3, Nat.mod_lt _ (by decide)⟩
/-- The device whose sums slot `i` takes. -/
def sndOf (i : Fin 3) : Dev nD := ⟨3 + i.val, by have := i.isLt; show 3 + i.val < 8; omega⟩

theorem prv_nxt (c : Dev nD) : prv (nxt c) = c := by revert c; decide
theorem nxt_prv (c : Dev nD) : nxt (prv c) = c := by revert c; decide

/-! ## The views -/

abbrev xM : Memref sig .tc .vmem S2x128x512 .bf16 := Memref.whole cc0_stg0_0
abbrev wqM : Memref sig .tc .vmem S512x256 .bf16 := Memref.whole cc0_stg1_0
abbrev kM : Memref sig .tc .vmem S2x128x4x64 .bf16 := Memref.whole cc0_stg2_0
abbrev vM : Memref sig .tc .vmem S2x128x4x64 .bf16 := Memref.whole cc0_stg3_0
abbrev woM : Memref sig .tc .vmem S256x512 .bf16 := Memref.whole cc0_stg4_0
abbrev oM : Memref sig .tc .vmem S2x128x512 .f32 := Memref.whole cc0_stg5_0
abbrev nbM : Memref sig .tc .vmem S16x384x64 .bf16 := Memref.whole cc0_scratch0
abbrev qM : Memref sig .tc .vmem S8x32x64 .bf16 := Memref.whole cc0_scratch1
abbrev gM : Memref sig .tc .vmem S16x32x64 .bf16 := Memref.whole cc0_scratch2
abbrev paM : Memref sig .tc .vmem S2x8x32x64 .bf16 := Memref.whole cc0_scratch3
abbrev inM : Memref sig .tc .vmem S3x2x8x32x64 .bf16 := Memref.whole cc0_scratch4
abbrev agM : Memref sig .tc .vmem S2x8x32x64 .bf16 := Memref.whole cc0_scratch5
abbrev nuM : Memref sig .tc .vmem S8x32x64 .f32 := Memref.whole cc0_scratch6
abbrev deM : Memref sig .tc .vmem S8x32x1 .f32 := Memref.whole cc0_scratch7

/-- Rows 0–127 of the key/value buffer (the left neighbour's), -/
abbrev nbL : Memref sig .tc .vmem S16x128x64 .bf16 :=
  nbM.slice (Rect.unit (s := S16x384x64) ![0, 0, 0] S16x128x64.size inb_S16x384x64_S16x128x64_0_0_0) (fun _ => rfl)
/-- rows 128–255 (the device's own), -/
abbrev nbO : Memref sig .tc .vmem S16x128x64 .bf16 :=
  nbM.slice (Rect.unit (s := S16x384x64) ![0, 128, 0] S16x128x64.size inb_S16x384x64_S16x128x64_0_128_0) (fun _ => rfl)
/-- rows 256–383 (the right neighbour's), -/
abbrev nbR : Memref sig .tc .vmem S16x128x64 .bf16 :=
  nbM.slice (Rect.unit (s := S16x384x64) ![0, 256, 0] S16x128x64.size inb_S16x384x64_S16x128x64_0_256_0) (fun _ => rfl)
/-- and the first 32 rows of the device's own. -/
abbrev nbG : Memref sig .tc .vmem S16x32x64 .bf16 :=
  nbM.slice (Rect.unit (s := S16x384x64) ![0, 128, 0] S16x32x64.size inb_S16x384x64_S16x32x64_0_128_0) (fun _ => rfl)

theorem slot_inb (i : Fin 3) : ∀ a, (![i.val, 0, 0, 0, 0] : Fin 5 → ℕ) a + S1x2x8x32x64.size a ≤ S3x2x8x32x64.size a := by
  revert i; decide
/-- Slot `i` of device 0's incoming partial sums. -/
abbrev slotM (i : Fin 3) : Memref sig .tc .vmem S2x8x32x64 .bf16 :=
  (inM.slice (Rect.unit (s := S3x2x8x32x64) ![i.val, 0, 0, 0, 0] S1x2x8x32x64.size (slot_inb i)) (fun _ => rfl)).squeeze
    S2x8x32x64 squeezes_S1x2x8x32x64_S2x8x32x64

/-- The elements under a view, at a share, holding the contents `f`; -/
abbrev pt {s : Shape} {e : EltTy} (M : Memref sig .tc .vmem s e) (c : Dev nD) (q : PosShare TreeShare)
    (f : Buf (Elt F) (M.view.loc (c : Thread nD τ))) : sProp 𝕄 :=
  M.view.loc (c : Thread nD τ) ↦[M.view.set]{q} f
/-- holding something. -/
def ptE {s : Shape} {e : EltTy} (M : Memref sig .tc .vmem s e) (c : Dev nD) : sProp 𝕄 :=
  iprop(∃ f : Buf (Elt F) (M.view.loc (c : Thread nD τ)), pt M c fullShare f)
omit [FloatOps F] in
instance ptE_storable {s : Shape} {e : EltTy} (M : Memref sig .tc .vmem s e) (c : Dev nD) :
    BI.Storable (upEmb : UEmb _ 𝕄) (ptE (F := F) M c) := by unfold ptE; infer_instance

/-- `P`, when `b` holds. -/
def onlyIf (b : Prop) [Decidable b] (P : sProp 𝕄) : sProp 𝕄 := if b then P else iprop(emp)
omit [FloatOps F] in
theorem onlyIf_pos {b : Prop} [Decidable b] (h : b) (P : sProp 𝕄) : onlyIf b P = P := if_pos h
omit [FloatOps F] in
theorem onlyIf_neg {b : Prop} [Decidable b] (h : ¬b) (P : sProp 𝕄) : onlyIf b P = iprop(emp) := if_neg h
omit [FloatOps F] in
instance onlyIf_storable (b : Prop) [Decidable b] (P : sProp 𝕄) [BI.Storable (upEmb : UEmb _ 𝕄) P] :
    BI.Storable (upEmb : UEmb _ 𝕄) (onlyIf b P) := by unfold onlyIf; split <;> infer_instance

/-- Five shares that make up `q`. -/
def sh (q : PosShare TreeShare) : Fin 5 → PosShare TreeShare
  | 0 => q.left
  | 1 => q.right.left
  | 2 => q.right.right.left
  | 3 => q.right.right.right.left
  | 4 => q.right.right.right.right

/-- The shares of a device's own rows: to its right neighbour's copy, to its left neighbour's, and kept; device 0 lends half
    of what it keeps to its copies of the global rows. -/
abbrev shR : PosShare TreeShare := fullShare.left.left
abbrev shL : PosShare TreeShare := fullShare.left.right
abbrev shK : PosShare TreeShare := fullShare.right
abbrev shG : PosShare TreeShare := fullShare.right.left
abbrev shH : PosShare TreeShare := fullShare.right.right

/-! ## The contents -/

/-- Device `c`'s staged inputs: its rows of `x`, `Wq`, its rows of `K` and `V`, and `Wo`. -/
def xB (c : Dev nD) : (cc0_stg0_0 : Ref sig .tc).ty.Contents (Elt F) :=
  (win0_0.blk (0 : Fin 1)).view.read (Elt F) (m ((c : Thread nD τ).loc main_arg0))
def wqB (c : Dev nD) : (cc0_stg1_0 : Ref sig .tc).ty.Contents (Elt F) :=
  (win0_1.blk (0 : Fin 1)).view.read (Elt F) (m ((c : Thread nD τ).loc main_arg1))
def kB (c : Dev nD) : (cc0_stg2_0 : Ref sig .tc).ty.Contents (Elt F) :=
  (win0_2.blk (0 : Fin 1)).view.read (Elt F) (m ((c : Thread nD τ).loc main_arg2))
def vB (c : Dev nD) : (cc0_stg3_0 : Ref sig .tc).ty.Contents (Elt F) :=
  (win0_3.blk (0 : Fin 1)).view.read (Elt F) (m ((c : Thread nD τ).loc main_arg3))
def woB (c : Dev nD) : (cc0_stg4_0 : Ref sig .tc).ty.Contents (Elt F) :=
  (win0_4.blk (0 : Fin 1)).view.read (Elt F) (m ((c : Thread nD τ).loc main_arg4))

/-- Element `(r, e)` of plane `g` of device `d`'s keys (planes 0–7) and values (planes 8–15): plane `2h + b` is head `h` of
    batch `b`. -/
def kvAt (d : Dev nD) (g : Fin 16) (r : Fin 128) (e : Fin 64) : Elt F .bf16 :=
  if g.val < 8 then kB m d (ix4 (⟨g.val % 2, Nat.mod_lt _ (by decide)⟩ : Fin 2) r (⟨g.val % 8 / 2, by omega⟩ : Fin 4) e)
  else vB m d (ix4 (⟨g.val % 2, Nat.mod_lt _ (by decide)⟩ : Fin 2) r (⟨g.val % 8 / 2, by omega⟩ : Fin 4) e)

/-- Whose row `r` of the key/value buffer is. -/
def ownerAt (c : Dev nD) (r : ℕ) : Dev nD := if r < 128 then prv c else if r < 256 then c else nxt c

/-- The whole key/value buffer of device `c`: its left neighbour's rows, its own, its right neighbour's. -/
def nbF (c : Dev nD) : S16x384x64.Idx → Elt F .bf16 := fun i =>
  kvAt m (ownerAt c (i 1).val) (i 0) ⟨(i 1).val % 128, Nat.mod_lt _ (by decide)⟩ (i 2)

abbrev rX32 : Rect S2x128x512 := Rect.unit (s := S2x128x512) ![0, 0, 0] S2x32x512.size inb_S2x128x512_S2x32x512_0_0_0
abbrev rX : Rect S2x128x512 := Rect.unit (s := S2x128x512) ![0, 0, 0] S2x128x512.size inb_S2x128x512_S2x128x512_0_0_0
abbrev rWq : Rect S512x256 := Rect.unit (s := S512x256) ![0, 0] S512x256.size inb_S512x256_S512x256_0_0
abbrev rQ : Rect S8x32x64 := Rect.unit (s := S8x32x64) ![0, 0, 0] S8x32x64.size inb_S8x32x64_S8x32x64_0_0_0
abbrev rG : Rect S16x32x64 := Rect.unit (s := S16x32x64) ![0, 0, 0] S16x32x64.size inb_S16x32x64_S16x32x64_0_0_0
abbrev rGk : Rect S16x32x64 := Rect.unit (s := S16x32x64) ![0, 0, 0] S8x32x64.size inb_S16x32x64_S8x32x64_0_0_0
abbrev rGv : Rect S16x32x64 := Rect.unit (s := S16x32x64) ![8, 0, 0] S8x32x64.size inb_S16x32x64_S8x32x64_8_0_0
abbrev rOk : Rect S16x384x64 := Rect.unit (s := S16x384x64) ![0, 128, 0] S8x128x64.size inb_S16x384x64_S8x128x64_0_128_0
abbrev rOv : Rect S16x384x64 := Rect.unit (s := S16x384x64) ![8, 128, 0] S8x128x64.size inb_S16x384x64_S8x128x64_8_128_0
abbrev rAk : Rect S16x384x64 := Rect.unit (s := S16x384x64) ![0, 0, 0] S8x384x64.size inb_S16x384x64_S8x384x64_0_0_0
abbrev rAv : Rect S16x384x64 := Rect.unit (s := S16x384x64) ![8, 0, 0] S8x384x64.size inb_S16x384x64_S8x384x64_8_0_0
abbrev rP0 : Rect S2x8x32x64 := Rect.unit (s := S2x8x32x64) ![0, 0, 0, 0] S1x8x32x64.size inb_S2x8x32x64_S1x8x32x64_0_0_0_0
abbrev rP1 : Rect S2x8x32x64 := Rect.unit (s := S2x8x32x64) ![1, 0, 0, 0] S1x8x32x64.size inb_S2x8x32x64_S1x8x32x64_1_0_0_0
abbrev rI00 : Rect S3x2x8x32x64 := Rect.unit (s := S3x2x8x32x64) ![0, 0, 0, 0, 0] S1x1x8x32x64.size inb_S3x2x8x32x64_S1x1x8x32x64_0_0_0_0_0
abbrev rI01 : Rect S3x2x8x32x64 := Rect.unit (s := S3x2x8x32x64) ![0, 1, 0, 0, 0] S1x1x8x32x1.size inb_S3x2x8x32x64_S1x1x8x32x1_0_1_0_0_0
abbrev rI10 : Rect S3x2x8x32x64 := Rect.unit (s := S3x2x8x32x64) ![1, 0, 0, 0, 0] S1x1x8x32x64.size inb_S3x2x8x32x64_S1x1x8x32x64_1_0_0_0_0
abbrev rI11 : Rect S3x2x8x32x64 := Rect.unit (s := S3x2x8x32x64) ![1, 1, 0, 0, 0] S1x1x8x32x1.size inb_S3x2x8x32x64_S1x1x8x32x1_1_1_0_0_0
abbrev rI20 : Rect S3x2x8x32x64 := Rect.unit (s := S3x2x8x32x64) ![2, 0, 0, 0, 0] S1x1x8x32x64.size inb_S3x2x8x32x64_S1x1x8x32x64_2_0_0_0_0
abbrev rI21 : Rect S3x2x8x32x64 := Rect.unit (s := S3x2x8x32x64) ![2, 1, 0, 0, 0] S1x1x8x32x1.size inb_S3x2x8x32x64_S1x1x8x32x1_2_1_0_0_0
abbrev rD : Rect S8x32x1 := Rect.unit (s := S8x32x1) ![0, 0, 0] S8x32x1.size inb_S8x32x1_S8x32x1_0_0_0
abbrev rO0 : Rect S256x512 := Rect.unit (s := S256x512) ![0, 0] S64x512.size inb_S256x512_S64x512_0_0
abbrev rO1 : Rect S256x512 := Rect.unit (s := S256x512) ![64, 0] S64x512.size inb_S256x512_S64x512_64_0
abbrev rO2 : Rect S256x512 := Rect.unit (s := S256x512) ![128, 0] S64x512.size inb_S256x512_S64x512_128_0
abbrev rO3 : Rect S256x512 := Rect.unit (s := S256x512) ![192, 0] S64x512.size inb_S256x512_S64x512_192_0

/-- What a load of the rectangle `r` through `M` reads from the contents `f`. -/
abbrev ld {s : Shape} {e : EltTy} (M : Memref sig .tc .vmem s e) (r : Rect s) (f : M.view.ty.Contents (Elt F)) :
    r.toLoadRect.shape.Idx → Elt F e := M.view.readAt (Elt F) r.toLoadRect f

/-- Device 0's first 32 query rows, computed by device 0 and copied to the middle devices. -/
def qF : S8x32x64.Idx → Elt F .bf16 := k0_pay1 (k0_pay3 (ld wqM rWq (wqB m 0))) (ld xM rX32 (xB m 0))
/-- Device 0's first 32 key and value rows, -/
def gF : S16x32x64.Idx → Elt F .bf16 := fun i => nbF m 0 (ix3 (i 0) (⟨128 + (i 1).val, by have : (i 1).val < 32 := (i 1).isLt; omega⟩ : Fin 384) (i 2))
/-- which the middle devices hold; the others hold zeros. -/
def gC (c : Dev nD) : S16x32x64.Idx → Elt F .bf16 := if Mid c then gF m else k0_pay13
/-- A middle device's partial sums for device 0's first 32 query rows over its own keys: the weighted values and the weights. -/
def paF (c : Dev nD) : S2x8x32x64.Idx → Elt F .bf16 := fun i =>
  if (i 0).val = 0 then k0_pay17 (ld nbM rOk (nbF m c)) (ld nbM rOv (nbF m c)) (ld qM rQ (qF m)) (ix4 (0 : Fin 1) (i 1) (i 2) (i 3))
  else k0_pay18 (ld nbM rOk (nbF m c)) (ld qM rQ (qF m)) (ix4 (0 : Fin 1) (i 1) (i 2) (i 3))
/-- The same with the leaf's added. -/
def agF (c : Dev nD) : S2x8x32x64.Idx → Elt F .bf16 := fun i =>
  if (i 0).val = 0 then k0_pay19 (ld paM rP0 (paF m c)) (ld agM rP0 (paF m (leafOf c))) (ix4 (0 : Fin 1) (i 1) (i 2) (i 3))
  else k0_pay20 (ld paM rP1 (paF m c)) (ld agM rP1 (paF m (leafOf c))) (ix4 (0 : Fin 1) (i 1) (i 2) (i 3))
/-- What a middle device passes on. -/
def psF (c : Dev nD) : S2x8x32x64.Idx → Elt F .bf16 := if Agg c then agF m c else paF m c
/-- The three slots of incoming partial sums at device 0. -/
def inF : S3x2x8x32x64.Idx → Elt F .bf16 := fun i => psF m (sndOf (i 0)) (ix4 (i 1) (i 2) (i 3) (i 4))

/-! ## The cells and the schedule -/

abbrev barS : Sem sig := (SemArray.scalar (sig.barrier 0 rfl) : Sems sig S_).sem

/-- Cell `k`'s semaphore: the runtime's barrier, then the kernel's own in the order it declares them. -/
def csem (k : Fin 22) : SemLoc sig :=
  if k.val = 0 then .reg barS else .dma (⟨5 + k.val, by have := k.isLt; show 5 + k.val < 27; omega⟩ : Fin 27)
abbrev kcell (ck : Dev nD × Fin 22) : GSem nD τ sig := ((ck.1 : Thread nD τ), csem ck.2)

def kOf : SemLoc sig → Option (Fin 22)
  | .reg s => if s = barS then some 0 else none
  | .dma q => if h : 6 ≤ (show Fin 27 from q).val then some ⟨(show Fin 27 from q).val - 5, by have := (show Fin 27 from q).isLt; omega⟩ else none

theorem kOf_csem (k : Fin 22) : kOf (csem k) = some k := by revert k; decide
theorem csem_inj : Function.Injective csem := fun a b h => by
  have := congrArg kOf h; rw [kOf_csem, kOf_csem] at this; exact Option.some.inj this

def gk (g : GSem nD τ sig) : Option (Dev nD × Fin 22) := if g.1.2 = .tc then (kOf g.2).map (fun k => (g.1.1, k)) else none
theorem gk_kcell (ck : Dev nD × Fin 22) : gk (kcell ck) = some ck := by
  unfold gk; rw [if_pos rfl, kOf_csem]; rfl
theorem kcell_inj : Function.Injective kcell := fun a b h => by
  have := congrArg gk h; rw [gk_kcell, gk_kcell] at this; exact Option.some.inj this

/-- The devices that raise cell `k` of device `c`. -/
def pay (c : Dev nD) (k : Fin 22) : Finset (Dev nD) :=
  if k.val = 0 then Finset.univ.filter fun p => p = prv c ∨ p = nxt c ∨ (c.val = 0 ∧ Mid p) ∨ (Mid c ∧ p.val = 0)
  else if k.val = 1 ∨ k.val = 3 then {c}
  else if k.val = 2 then {prv c}
  else if k.val = 4 then {nxt c}
  else if k.val ≤ 9 then (if c.val = 0 then {0} else ∅)
  else if k.val = 10 then (if Mid c then {0} else ∅)
  else if k.val ≤ 15 then (if c.val = 0 then {0} else ∅)
  else if k.val = 16 then (if Mid c then {0} else ∅)
  else if k.val = 17 then (if Mid c then {c} else ∅)
  else if k.val = 18 then (if c.val = 0 then {3} else ∅)
  else if k.val = 19 then (if c.val = 0 then {4} else ∅)
  else if k.val = 20 then (if c.val = 0 then {5} else ∅)
  else (if Agg c then {leafOf c} else ∅)

abbrev NB : ℕ := nbL.view.dmaCredit
abbrev NQ : ℕ := qM.view.dmaCredit
abbrev NG : ℕ := gM.view.dmaCredit
abbrev NP : ℕ := paM.view.dmaCredit

/-- By how much: one for a signal, a copy's credit for a landing. -/
def amt (k : Fin 22) : ℕ :=
  if k.val = 0 then 1 else if k.val ≤ 4 then NB else if k.val ≤ 10 then NQ else if k.val ≤ 16 then NG else NP

theorem amt_pos (k : Fin 22) : 0 < amt k := by
  unfold amt
  split; · exact Nat.one_pos
  split; · exact View.dmaCredit_pos _ (by decide)
  split; · exact View.dmaCredit_pos _ (by decide)
  split; · exact View.dmaCredit_pos _ (by decide)
  exact View.dmaCredit_pos _ (by decide)

/-- What device `p`'s signal opens to device `c`: its landing rows to a neighbour, its query and global key buffers to
    device 0, an aggregator's landing buffer to its leaf, a slot of device 0 to a sender. -/
def barPay (c p : Dev nD) : sProp 𝕄 :=
  iprop(onlyIf (p = nxt c) (ptE nbL p) ∗ onlyIf (p = prv c) (ptE nbR p)
    ∗ onlyIf (c.val = 0 ∧ Mid p) iprop(ptE qM p ∗ ptE gM p)
    ∗ onlyIf (Leaf c ∧ p = aggOf c) (ptE agM p)
    ∗ onlyIf (Snd c ∧ p.val = 0) (ptE (slotM (slotOf c)) p))

/-- What the raise of cell `k` of device `c` by device `p` hands over. -/
def payP (k : Fin 22) (c p : Dev nD) : sProp 𝕄 :=
  match k.val with
  | 0 => barPay c p
  | 1 => pt nbO c shR (nbF m c)
  | 2 => pt nbL c fullShare (nbF m c)
  | 3 => pt nbO c shL (nbF m c)
  | 4 => pt nbR c fullShare (nbF m c)
  | 5 => pt qM c (sh fullShare 0) (qF m)
  | 6 => pt qM c (sh fullShare 1) (qF m)
  | 7 => pt qM c (sh fullShare 2) (qF m)
  | 8 => pt qM c (sh fullShare 3) (qF m)
  | 9 => pt qM c (sh fullShare 4) (qF m)
  | 10 => pt qM c fullShare (qF m)
  | 11 => pt nbG c (sh shG 0) (nbF m c)
  | 12 => pt nbG c (sh shG 1) (nbF m c)
  | 13 => pt nbG c (sh shG 2) (nbF m c)
  | 14 => pt nbG c (sh shG 3) (nbF m c)
  | 15 => pt nbG c (sh shG 4) (nbF m c)
  | 16 => pt gM c fullShare (gF m)
  | 17 => pt paM c fullShare (psF m c)
  | 18 => pt (slotM 0) c fullShare (inF m)
  | 19 => pt (slotM 1) c fullShare (inF m)
  | 20 => pt (slotM 2) c fullShare (inF m)
  | 21 => pt agM c fullShare (paF m (leafOf c))
  | _ => iprop(emp)

omit [FloatOps F] in
instance barPay_storable (c p : Dev nD) : BI.Storable (upEmb : UEmb _ 𝕄) (barPay (F := F) c p) := by
  unfold barPay; infer_instance

instance payP_storable (k : Fin 22) (c p : Dev nD) : BI.Storable (upEmb : UEmb _ 𝕄) (payP (F := F) m k c p) := by
  unfold payP
  split <;> infer_instance

/-- Every cell has one round, paid by the devices of `pay`. -/
def Rd : Rounds.Schedule (GSem nD τ sig) (Dev nD) 𝕄 where
  duties g r := if r = 0 then (match gk g with | some ck => pay ck.1 ck.2 | none => ∅) else ∅
  unitless _ := False
  amount g _ _ := match gk g with | some ck => amt ck.2 | none => 1
  payload g _ d := match gk g with | some ck => payP m ck.2 ck.1 d | none => iprop(emp)
  amount_pos g _ _ _ := by
    cases gk g with
    | none => exact Nat.one_pos
    | some ck => exact amt_pos _

instance Rd_storable (g : GSem nD τ sig) (r : ℕ) (d : Dev nD) :
    BI.Storable (upEmb : UEmb _ 𝕄) ((Rd (F := F) m).payload g r d) := by
  show BI.Storable upEmb (match gk g with | some ck => payP m ck.2 ck.1 d | none => iprop(emp))
  cases gk g <;> infer_instance

theorem duties_k (ck : Dev nD × Fin 22) : (Rd (F := F) m).duties (kcell ck) 0 = pay ck.1 ck.2 := by
  dsimp only [Rd]; rw [if_pos rfl, gk_kcell]
theorem duties_later (g : GSem nD τ sig) : ∀ r, 1 ≤ r → (Rd (F := F) m).duties g r = ∅ :=
  fun r hr => by dsimp only [Rd]; rw [if_neg (by omega)]
theorem amount_k (ck : Dev nD × Fin 22) (d : Dev nD) : (Rd (F := F) m).amount (kcell ck) 0 d = amt ck.2 := by
  dsimp only [Rd]; rw [gk_kcell]
theorem payload_k (ck : Dev nD × Fin 22) (d : Dev nD) : (Rd (F := F) m).payload (kcell ck) 0 d = payP m ck.2 ck.1 d := by
  dsimp only [Rd]; rw [gk_kcell]

/-- All that cell `k` of device `c` comes to. -/
def expc (c : Dev nD) (k : Fin 22) : ℕ := (pay c k).card * amt k
theorem expect_k (ck : Dev nD × Fin 22) : (Rd (F := F) m).expect (kcell ck) 0 = expc ck.1 ck.2 := by
  unfold Schedule.expect Schedule.amountOf expc
  rw [duties_k, Finset.sum_congr rfl fun d _ => amount_k m ck d, Finset.sum_const, smul_eq_mul]

/-- The order in which a device may wait: its barrier, then what copies bring at each stage; send cells owe nobody. -/
def lvl (k : Fin 22) : ℕ :=
  if k.val = 0 then 1 else if k.val = 2 ∨ k.val = 4 ∨ k.val = 10 ∨ k.val = 16 then 2 else if k.val = 21 then 3
  else if k.val = 18 ∨ k.val = 19 ∨ k.val = 20 then 4 else 0
/-- The cells raised by another device. -/
def Owed (k : Fin 22) : Prop := 0 < lvl k
instance (k : Fin 22) : Decidable (Owed k) := inferInstanceAs (Decidable (_ < _))

def L (g : GSem nD τ sig) : Finset Unit := if g.1.2 = .tc then {()} else ∅
def lv (g : GSem nD τ sig) (_ : Unit) : ℕ := match kOf g.2 with | some k => lvl k | none => 0

theorem L_tc (c : Dev nD) (sm : SemLoc sig) : L ((c : Thread nD τ), sm) = {()} := if_pos rfl
theorem L_of_ne (g : GSem nD τ sig) (h : g.1.2 ≠ .tc) : L g = ∅ := if_neg h
theorem lv_k (ck : Dev nD × Fin 22) (u : Unit) : lv (kcell ck) u = lvl ck.2 := by unfold lv; rw [kOf_csem]

end Cert.Sparse
-- ==== Proof.State.lean ====
/-
# A device's share of the protocol, and the three kinds of step that change it

`St c T S C` is what device `c` holds of the protocol: the raises it still has to pay (`T`), its own cells it has not yet
waited for (`S`) and those it has (closed, at zero), and the credit for the waits it has still to make (`C`). A signal pays one
raise, a copy two, a wait takes a cell and the buffers its raises hand over.
-/
module

public import proofs.«01_k».proof.Proof.Proto

@[expose] public section

noncomputable section

namespace Cert.Sparse

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (m : (ℓ : Loc nD τ sig) → Buf (Elt F) ℓ)

abbrev 𝒱₀ : Variants := Variants.none

section Sep
variable {I : Type} [DecidableEq I] {s t : Finset I} {i : I} {Φ : I → sProp (MT nD τ sig Unit (Elt F) ℕ UU ℕ)}
/-- One summand taken out, -/
theorem sep_take (h : i ∈ s) : bigSep s Φ = iprop(Φ i ∗ bigSep (s.erase i) Φ) := bigSep_erase h
/-- one put in, -/
theorem sep_put (h : i ∉ s) : bigSep (insert i s) Φ = iprop(Φ i ∗ bigSep s Φ) := bigSep_insert h
/-- and a part set apart. -/
theorem sep_part (h : t ⊆ s) : bigSep s Φ = iprop(bigSep t Φ ∗ bigSep (s \ t) Φ) := bigSep_sdiff_split h
end Sep

/-- The facts every device shares: all cells' invariants, that each has reached its round, and the levels. -/
def Env (K : Dev nD × Fin 22 → ℕ) : sProp 𝕄 :=
  iprop(bigSep Finset.univ (fun ck => cellInv ER (Rd m) (K ck) (kcell ck))
    ∗ bigSep Finset.univ (fun ck => reached ER (kcell ck) 0) ∗ levAts L lv)

instance Env_persistent (K : Dev nD × Fin 22 → ℕ) : BI.Persistent (Env m K) := by unfold Env; infer_instance

variable (K : Dev nD × Fin 22 → ℕ)

theorem Env_inv (ck : Dev nD × Fin 22) : Env m K ⊢ cellInv ER (Rd m) (K ck) (kcell ck) := by
  have h : bigSep Finset.univ (fun ck => cellInv ER (Rd m) (K ck) (kcell ck)) ⊢ cellInv ER (Rd m) (K ck) (kcell ck) :=
    bigSep_elim (Finset.mem_univ ck)
  unfold Env; iintro ⟨H, -, -⟩; iapply h; iexact H
theorem Env_reached (ck : Dev nD × Fin 22) : Env m K ⊢ reached ER (kcell ck) 0 := by
  have h : bigSep Finset.univ (fun ck => reached ER (kcell ck) 0) ⊢ (reached ER (kcell ck) 0 : sProp 𝕄) :=
    bigSep_elim (Finset.mem_univ ck)
  unfold Env; iintro ⟨-, H, -⟩; iapply h; iexact H
theorem Env_lev : Env m K ⊢ (levAts L lv : sProp 𝕄) := by
  unfold Env; iintro ⟨-, -, H⟩; iexact H

/-- What a device with the raises `T` to pay owes the cells of others. -/
def owedT (T : Finset (Dev nD × Fin 22)) : CellTallies nD τ sig Unit :=
  ∑ g ∈ T.filter (fun g => Owed g.2), tallyAt (kcell g) () (amt g.2)

theorem owedT_erase {T : Finset (Dev nD × Fin 22)} {g : Dev nD × Fin 22} (h : g ∈ T) (ho : Owed g.2) :
    owedT T = owedT (T.erase g) + tallyAt (kcell g) () (amt g.2) := by
  unfold owedT
  rw [Finset.filter_erase, Finset.sum_erase_add _ _ (Finset.mem_filter.2 ⟨h, ho⟩)]
theorem owedT_erase_own {T : Finset (Dev nD × Fin 22)} {g : Dev nD × Fin 22} (ho : ¬Owed g.2) :
    owedT (T.erase g) = owedT T := by
  unfold owedT
  rw [Finset.filter_erase, Finset.erase_eq_of_notMem (s := T.filter fun g => Owed g.2) (a := g) fun h => ho (Finset.mem_filter.1 h).2]
theorem owedT_pos {T : Finset (Dev nD × Fin 22)} {g : GSem nD τ sig} {u : Unit} (h : 0 < owedT T g u) :
    ∃ ck ∈ T, Owed ck.2 ∧ g = kcell ck := by
  unfold owedT at h
  rw [Finset.sum_apply, Finsupp.finset_sum_apply] at h
  obtain ⟨ck, hck, h⟩ := Finset.exists_ne_zero_of_sum_ne_zero h.ne'
  refine ⟨ck, (Finset.mem_filter.1 hck).1, (Finset.mem_filter.1 hck).2, ?_⟩
  by_contra hne
  exact h (by rw [tallyAt_apply, if_neg fun h' => hne h'.1])

/-- A wait on cell `k` is allowed when everything still owed lies above it. -/
theorem mayWait_k (c : Dev nD) (k : Fin 22) (T : Finset (Dev nD × Fin 22)) (h : ∀ g ∈ T, Owed g.2 → lvl k < lvl g.2) :
    (levAts L lv : sProp 𝕄) ⊢ MayWait (c : Thread nD τ) (csem k) () (owedT T) :=
  MayOwe.of_cut (L := L) (lev := lv) (lvl k)
    (fun p hp => by rw [Finset.mem_singleton.mp hp, L_tc]; exact Finset.mem_singleton_self _)
    (fun g u hg => by obtain ⟨ck, -, -, rfl⟩ := owedT_pos hg; exact Finset.mem_singleton_self _)
    (fun p hp => by rw [Finset.mem_singleton.mp hp]; exact (lv_k (c, k) ()).le)
    (fun g u hg => by obtain ⟨ck, hT, ho, rfl⟩ := owedT_pos hg; rw [lv_k]; exact h _ hT ho)

/-- The pipeline's own waits, on its staging semaphores, are allowed whatever is owed. -/
theorem mayWait_stage (c : Dev nD) (q : DmaSem sig) (hq : kOf (.dma q) = none) (T : Finset (Dev nD × Fin 22)) :
    (levAts L lv : sProp 𝕄) ⊢ MayWait (c : Thread nD τ) (.dma q) () (owedT T) :=
  MayOwe.of_cut (L := L) (lev := lv) 0
    (fun p hp => by rw [Finset.mem_singleton.mp hp, L_tc]; exact Finset.mem_singleton_self _)
    (fun g u hg => by obtain ⟨ck, -, -, rfl⟩ := owedT_pos hg; exact Finset.mem_singleton_self _)
    (fun p hp => by rw [Finset.mem_singleton.mp hp]; show (match kOf (.dma q) with | some k => lvl k | none => 0) ≤ 0; rw [hq])
    (fun g u hg => by obtain ⟨ck, hT, ho, rfl⟩ := owedT_pos hg; rw [lv_k]; exact ho)

/-- A device's share of the protocol. -/
def St (c : Dev nD) (T : Finset (Dev nD × Fin 22)) (S C : Finset (Fin 22)) : sProp 𝕄 :=
  iprop((∃ W, owes (c : Thread nD τ) (owedT T) W)
    ∗ bigSep T (fun g => dutyTok ER (kcell g) 0 c)
    ∗ bigSep S (fun k => atPos ER (kcell (c, k)) 0 ∅ 0)
    ∗ bigSep Sᶜ (fun k => semVal (kcell (c, k)) 0)
    ∗ bigSep C (fun k => cred (tallyAt (kcell (c, k)) () (expc c k))))

theorem duties_ck (c : Dev nD) (k : Fin 22) : (Rd (F := F) m).duties (kcell (c, k)) 0 = pay c k := duties_k m (c, k)
theorem pays_eq (c : Dev nD) (k : Fin 22) (s : Finset (Dev nD)) :
    bigSep s (fun d => (Rd (F := F) m).payload (kcell (c, k)) 0 d) = bigSep s (fun d => payP m k c d) :=
  bigSep_congr fun d _ => payload_k m (c, k) d

/-- A signal to device `d`'s barrier pays one raise. -/
theorem st_signal {c d : Dev nD} {T : Finset (Dev nD × Fin 22)} {S C : Finset (Fin 22)} (hT : (d, (0 : Fin 22)) ∈ T)
    (hp : c ∈ pay d 0) {α : Type} {Q : α → sProp 𝕄} {k : PUnit → Prog (TpuEff nD τ sig (Elt F) Λ₀ .tc) α} :
    iprop(Env m K ∗ St c T S C ∗ barPay d c)
      ⊢ iprop((St c (T.erase (d, 0)) S C -∗ wp frame (wpE (defs₀ (F := F)) 𝒱₀ (c : Thread nD τ) none) Set.univ (k ⟨⟩) Q)
          -∗ wp frame (wpE (defs₀ (F := F)) 𝒱₀ (c : Thread nD τ) none) Set.univ
              (.op (.semSignal (d : Thread nD τ) barS (1#32 : BitVec 32).toInt) k) Q) := by
  iintro ⟨#HE, HS, Hpay⟩ Hk
  unfold St
  icases HS with ⟨⟨%W, HO⟩, HT, Hat, Hz, Hc⟩
  ihave HT := (Entails.of_eq (sep_take hT)) $$ HT
  icases HT with ⟨Htok, HT⟩
  iapply (Rounds.wp_signal 𝒱₀ ER (Rd m) (c : Thread nD τ) none (dst := (d : Thread nD τ)) (κ := K (d, 0)) (sem := barS)
      (r := 0) (d := c) (by rw [show ((d : Thread nD τ), SemLoc.reg barS) = kcell (d, 0) from rfl, duties_k]; exact hp)
      (k' := 1) ((amount_k m (d, 0) c).trans rfl) () (owedT (T.erase (d, 0)))
      ((owedT_erase hT (show Owed (0 : Fin 22) by decide)).trans rfl)) $$ [HO Htok Hpay]
  · isplitr; · iapply (Env_inv m K (d, 0)); iexact HE
    isplitl [HO]; · iexact HO
    isplitl [Htok]; · iexact Htok
    isplitl [Hpay]
    · rw [show ((d : Thread nD τ), SemLoc.reg barS) = kcell (d, 0) from rfl, payload_k,
        show payP m (d, (0 : Fin 22)).2 (d, (0 : Fin 22)).1 c = barPay d c from rfl]
      iexact Hpay
    iapply (Env_reached m K (d, 0)); iexact HE
  iintro HO
  iapply Hk
  isplitl [HO]; · iexists W; iexact HO
  isplitl [HT]; · iexact HT
  isplitl [Hat]; · iexact Hat
  isplitl [Hz] <;> iassumption

/-- A copy to device `d`: it pays a raise of the sender's own send cell `kS` and one of `d`'s receive cell `kR`, and the sender
    gets the credit to wait for its send cell. -/
theorem st_send {c d : Dev nD} (kS kR : Fin 22) {T : Finset (Dev nD × Fin 22)} {S C : Finset (Fin 22)}
    {s : Shape} {e : EltTy} {src dst : Memref sig .tc .vmem s e} {sS sem : SemLoc sig}
    (hsS : sS = csem kS) (hsR : sem = csem kR)
    {hsc : (show Memref sig (Dev.tc d : Thread nD τ).2.kind .vmem s e from dst).view.ref.isScScratch = false}
    {hsrc : src.view.WordExact} {hdst : dst.view.WordExact}
    {hsem : DmaTarget.Typed .vmem sem (.remote (Dev.tc d : Thread nD τ) dst sS hsc)}
    (hTS : (c, kS) ∈ T) (hTR : (d, kR) ∈ T) (hne : kS ≠ kR) (hoS : ¬Owed kS) (hoR : Owed kR) (hC : kS ∉ C)
    (hpS : pay c kS = {c}) (hpR : c ∈ pay d kR)
    (hN : dst.view.amount sem = amt kR) (hNS : amt kS = amt kR)
    {q : PosShare TreeShare} {fs : Buf (Elt F) (src.view.loc (c : Thread nD τ))}
    (fd : Buf (Elt F) (dst.view.loc (d : Thread nD τ)))
    (hpay₁ : (src.view.loc (c : Thread nD τ) ↦[src.view.set]{q} fs : sProp 𝕄) ⊢ payP m kS c c)
    (hpay₂ : (dst.view.loc (d : Thread nD τ) ↦[dst.view.set]{fullShare}
        (dst.view.write (Elt F) fd (src.view.read (Elt F) fs) Finset.univ) : sProp 𝕄) ⊢ payP m kR d c)
    {α : Type} {Q : α → sProp 𝕄} {k : PUnit → Prog (TpuEff nD τ sig (Elt F) Λ₀ .tc) α} :
    iprop(Env m K ∗ St c T S C ∗ (src.view.loc (c : Thread nD τ) ↦[src.view.set]{q} fs)
        ∗ (dst.view.loc (d : Thread nD τ) ↦[dst.view.set]{fullShare} fd))
      ⊢ iprop((St c ((T.erase (c, kS)).erase (d, kR)) S (insert kS C)
            -∗ wp frame (wpE (defs₀ (F := F)) 𝒱₀ (c : Thread nD τ) none) Set.univ (k ⟨⟩) Q)
          -∗ wp frame (wpE (defs₀ (F := F)) 𝒱₀ (c : Thread nD τ) none) Set.univ
              (.op (.enqueueDma src (.remote (Dev.tc d : Thread nD τ) dst sS hsc) sem hsrc hdst hsem) k) Q) := by
  subst hsS hsR
  have hTR' : (d, kR) ∈ T.erase (c, kS) := Finset.mem_erase.2 ⟨fun h => hne (congrArg Prod.snd h).symm, hTR⟩
  iintro ⟨#HE, HS, Hsrc, Hdst⟩ Hk
  unfold St
  icases HS with ⟨⟨%W, HO⟩, HT, Hat, Hz, Hc⟩
  ihave HT := (Entails.of_eq (sep_take hTS)) $$ HT
  icases HT with ⟨HtS, HT⟩
  ihave HT := (Entails.of_eq (sep_take hTR')) $$ HT
  icases HT with ⟨HtR, HT⟩
  iapply (Rounds.wp_send_pointsTo 𝒱₀ ER (Rd m) (c : Thread nD τ) none (κ₁ := K (c, kS)) (κ₂ := K (d, kR))
      (O₀ := owedT T) (r₁ := 0) (r₂ := 0) (d₁ := c) (d₂ := c) (fd := fd)
      (by rw [show ((c : Thread nD τ), csem kS) = kcell (c, kS) from rfl, duties_k, hpS]; exact Finset.mem_singleton_self _)
      (by rw [show ((d : Thread nD τ), csem kR) = kcell (d, kR) from rfl, duties_k]; exact hpR)
      () () (amt kR) hN ((amount_k m (c, kS) c).trans hNS) (amount_k m (d, kR) c)
      (owedT ((T.erase (c, kS)).erase (d, kR))) (by rw [← owedT_erase_own (T := T) (g := (c, kS)) hoS]; exact owedT_erase hTR' hoR) (W := W)
      (by rw [show ((c : Thread nD τ), csem kS) = kcell (c, kS) from rfl, payload_k]; exact hpay₁)
      (by rw [show ((d : Thread nD τ), csem kR) = kcell (d, kR) from rfl, payload_k]; exact hpay₂)) $$ [Hsrc Hdst HO HtS HtR]
  · isplitr; · iapply (Env_inv m K (c, kS)); iexact HE
    isplitr; · iapply (Env_inv m K (d, kR)); iexact HE
    isplitl [Hsrc]; · iexact Hsrc
    isplitl [Hdst]; · iexact Hdst
    isplitl [HO]; · iexact HO
    isplitl [HtS]; · iexact HtS
    isplitr; · iapply (Env_reached m K (c, kS)); iexact HE
    isplitl [HtR]; · iexact HtR
    iapply (Env_reached m K (d, kR)); iexact HE
  iintro ⟨Hcr, HO⟩
  iapply Hk
  isplitl [HO]; · iexists W; iexact HO
  isplitl [HT]; · iexact HT
  isplitl [Hat]; · iexact Hat
  isplitl [Hz]; · iexact Hz
  rw [sep_put hC]
  isplitl [Hcr]
  · rw [show expc c kS = amt kR by unfold expc; rw [hpS, Finset.card_singleton, one_mul, hNS]]; iexact Hcr
  iexact Hc

/-- A wait for all of cell `k`: the cell is done with and closed, and what its raises hand over is the device's. -/
theorem st_wait {c : Dev nD} (k : Fin 22) {T : Finset (Dev nD × Fin 22)} {S C : Finset (Fin 22)}
    {w : TpuEff nD τ sig (Elt F) Λ₀ .tc PUnit} {sm : SemLoc sig} {n : ℕ}
    (hw : ∀ R : PUnit → sProp 𝕄, wpE (defs₀ (F := F)) 𝒱₀ (c : Thread nD τ) none Set.univ w R = waitSpec (c : Thread nD τ) Set.univ sm n R)
    (hsm : sm = csem k) (hn : n = expc c k) (hS : k ∈ S) (hC : k ∈ C) (hl : ∀ g ∈ T, Owed g.2 → lvl k < lvl g.2)
    {α : Type} {Q : α → sProp 𝕄} {kk : PUnit → Prog (TpuEff nD τ sig (Elt F) Λ₀ .tc) α} :
    iprop(Env m K ∗ St c T S C)
      ⊢ iprop(((St c T (S.erase k) (C.erase k) ∗ bigSep (pay c k) (fun d => payP m k c d))
            -∗ wp frame (wpE (defs₀ (F := F)) 𝒱₀ (c : Thread nD τ) none) Set.univ (kk ⟨⟩) Q)
          -∗ wp frame (wpE (defs₀ (F := F)) 𝒱₀ (c : Thread nD τ) none) Set.univ (.op w kk) Q) := by
  subst hsm hn
  iintro ⟨#HE, HS⟩ Hk
  unfold St
  icases HS with ⟨⟨%W, HO⟩, HT, Hat, Hz, Hc⟩
  ihave Hat := (Entails.of_eq (sep_take hS)) $$ Hat
  icases Hat with ⟨Hk0, Hat⟩
  ihave Hc := (Entails.of_eq (sep_take hC)) $$ Hc
  icases Hc with ⟨Hcr, Hc⟩
  iapply (Rounds.wp_wait_rest_token 𝒱₀ ER (Rd m) (c : Thread nD τ) none (κ := K (c, k))
      hw (Set.mem_univ _) () (O := owedT T) (W := W) (R := 0) (m := 0) (T := ∅)
      (by rw [Nat.zero_add]; exact (expect_k m (c, k)).symm)) $$ [Hcr HO Hk0]
  · isplitr; · iapply (Env_inv m K (c, k)); iexact HE
    isplitl [Hcr]; · iexact Hcr
    isplitl [HO]; · iexact HO
    isplitr; · iapply (mayWait_k c k T hl); iapply (Env_lev m K); iexact HE
    iexact Hk0
  iintro ⟨HO, Hk0, -, Hpay⟩
  imod (Rounds.cell_close ER (Rd m) (Set.mem_univ (K (c, k))) (fun h => h) (R := 0 + 1) (duties_later m (kcell (c, k)))) $$ [Hk0] with Hzk
  · isplitr; · iapply (Env_inv m K (c, k)); iexact HE
    iexact Hk0
  iapply Hk
  isplitr [Hpay]
  · isplitl [HO]; · iexists _; iexact HO
    isplitl [HT]; · iexact HT
    isplitl [Hat]; · iexact Hat
    isplitr [Hc]
    · rw [Finset.compl_erase, sep_put (fun h => (Finset.mem_compl.1 h) hS)]
      isplitl [Hzk] <;> iassumption
    iexact Hc
  have e : bigSep ((Rd m).duties (kcell (c, k)) 0 \ ∅) (fun d => (Rd m).payload (kcell (c, k)) 0 d) ⊢ bigSep (pay c k) (fun d => payP m k c d) := by
    rw [Finset.sdiff_empty, duties_ck, pays_eq]
  iapply e; iexact Hpay

/-- The same for a cell one device raises. -/
theorem st_wait1 {c : Dev nD} (k : Fin 22) (p : Dev nD) {T : Finset (Dev nD × Fin 22)} {S C : Finset (Fin 22)}
    {w : TpuEff nD τ sig (Elt F) Λ₀ .tc PUnit} {sm : SemLoc sig} {n : ℕ}
    (hw : ∀ R : PUnit → sProp 𝕄, wpE (defs₀ (F := F)) 𝒱₀ (c : Thread nD τ) none Set.univ w R = waitSpec (c : Thread nD τ) Set.univ sm n R)
    (hsm : sm = csem k) (hp : pay c k = {p}) (hn : n = amt k) (hS : k ∈ S) (hC : k ∈ C) (hl : ∀ g ∈ T, Owed g.2 → lvl k < lvl g.2)
    {α : Type} {Q : α → sProp 𝕄} {kk : PUnit → Prog (TpuEff nD τ sig (Elt F) Λ₀ .tc) α} :
    iprop(Env m K ∗ St c T S C)
      ⊢ iprop(((St c T (S.erase k) (C.erase k) ∗ payP m k c p)
            -∗ wp frame (wpE (defs₀ (F := F)) 𝒱₀ (c : Thread nD τ) none) Set.univ (kk ⟨⟩) Q)
          -∗ wp frame (wpE (defs₀ (F := F)) 𝒱₀ (c : Thread nD τ) none) Set.univ (.op w kk) Q) := by
  have h := st_wait m K (c := c) k (T := T) (S := S) (C := C) hw hsm
    (by unfold expc; rw [hp, Finset.card_singleton, one_mul]; exact hn) hS hC hl (Q := Q) (kk := kk)
  rw [hp, bigSep_singleton] at h
  exact h

/-- The entry barrier waited for in two steps: first for the two neighbours, then for the rest. -/
theorem st_wait_two {c : Dev nD} {T : Finset (Dev nD × Fin 22)} {S C : Finset (Fin 22)} (n₁ n₂ : ℕ) (h₁ : n₁ + n₂ = expc c 0)
    (hS : (0 : Fin 22) ∈ S) (hC : (0 : Fin 22) ∈ C) (hl : ∀ g ∈ T, Owed g.2 → lvl 0 < lvl g.2)
    {α : Type} {Q : α → sProp 𝕄} {kk : PUnit → Prog (TpuEff nD τ sig (Elt F) Λ₀ .tc) α} :
    iprop(Env m K ∗ St c T S C)
      ⊢ iprop(((St c T (S.erase 0) (C.erase 0) ∗ bigSep (pay c 0) (fun d => payP m 0 c d))
            -∗ wp frame (wpE (defs₀ (F := F)) 𝒱₀ (c : Thread nD τ) none) Set.univ (kk ⟨⟩) Q)
          -∗ wp frame (wpE (defs₀ (F := F)) 𝒱₀ (c : Thread nD τ) none) Set.univ
              (.op (.semWait barS n₁) fun _ => .op (.semWait barS n₂) kk) Q) := by
  iintro ⟨#HE, HS⟩ Hk
  unfold St
  icases HS with ⟨⟨%W, HO⟩, HT, Hat, Hz, Hc⟩
  ihave Hat := (Entails.of_eq (sep_take hS)) $$ Hat
  icases Hat with ⟨Hk0, Hat⟩
  ihave Hc := (Entails.of_eq (sep_take hC)) $$ Hc
  icases Hc with ⟨Hcr, Hc⟩
  rw [show expc c 0 = n₁ + n₂ from h₁.symm, ← tallyAt_add]
  ihave Hcr := (cred_add (tallyAt (kcell (c, 0)) () n₁) (tallyAt (kcell (c, 0)) () n₂)).1 $$ Hcr
  icases Hcr with ⟨Hc1, Hc2⟩
  iapply (Rounds.wp_wait 𝒱₀ ER (Rd m) (c : Thread nD τ) none (κ := K (c, 0)) (sm := csem 0)
      (wpE_semWait_eq 𝒱₀ (c : Thread nD τ) none Set.univ) (Set.mem_univ _) (cr := Finsupp.single () n₁) (O := owedT T) (W := W)
      {(csem 0, ())} (R := 0) (m := 0) (T := ∅) (by rw [Util.total_single]) (image_single_subset (csem 0) () n₁)) $$ [Hc1 HO Hk0]
  · isplitr; · iapply (Env_inv m K (c, 0)); iexact HE
    isplitl [Hc1]; · iexact Hc1
    isplitl [HO]; · iexact HO
    isplitr; · iapply (mayWait_k c 0 T hl); iapply (Env_lev m K); iexact HE
    iexact Hk0
  iintro %D ⟨%hD, HO, Hk0, Hp1⟩
  iapply (Rounds.wp_wait_rest_token 𝒱₀ ER (Rd m) (c : Thread nD τ) none (κ := K (c, 0)) (sm := csem 0)
      (wpE_semWait_eq 𝒱₀ (c : Thread nD τ) none Set.univ) (Set.mem_univ _) () (O := owedT T) (R := 0) (m := 0 + n₁) (T := D)
      (by rw [Nat.zero_add, h₁]; exact (expect_k m (c, 0)).symm)) $$ [Hc2 HO Hk0]
  · isplitr; · iapply (Env_inv m K (c, 0)); iexact HE
    isplitl [Hc2]; · iexact Hc2
    isplitl [HO]; · iexact HO
    isplitr; · iapply (mayWait_k c 0 T hl); iapply (Env_lev m K); iexact HE
    iexact Hk0
  iintro ⟨HO, Hk0, -, Hp2⟩
  imod (Rounds.cell_close ER (Rd m) (Set.mem_univ (K (c, 0))) (fun h => h) (R := 0 + 1) (duties_later m (kcell (c, 0)))) $$ [Hk0] with Hzk
  · isplitr; · iapply (Env_inv m K (c, 0)); iexact HE
    iexact Hk0
  iapply Hk
  isplitr [Hp1 Hp2]
  · isplitl [HO]; · iexists _; iexact HO
    isplitl [HT]; · iexact HT
    isplitl [Hat]; · iexact Hat
    isplitr [Hc]
    · rw [Finset.compl_erase, sep_put (fun h => (Finset.mem_compl.1 h) hS)]
      isplitl [Hzk] <;> iassumption
    iexact Hc
  have hD' : D ⊆ pay c 0 := by have := hD.2.1; rwa [show ((c : Thread nD τ), csem 0) = kcell (c, 0) from rfl, duties_k] at this
  have e : iprop(bigSep (D \ ∅) (fun d => (Rd m).payload (kcell (c, 0)) 0 d)
      ∗ bigSep ((Rd m).duties (kcell (c, 0)) 0 \ D) (fun d => (Rd m).payload (kcell (c, 0)) 0 d)) ⊢ bigSep (pay c 0) (fun d => payP m 0 c d) := by
    rw [Finset.sdiff_empty, duties_ck, pays_eq, pays_eq, sep_part hD']
  iapply e
  isplitl [Hp1] <;> iassumption

end Cert.Sparse
-- ==== Proof.Contents.lean ====
/-
# What the kernel's stores and copies leave in the buffers

Each store and each landing is compared with the contents `Proto` names: the pieces of the key/value buffer, the partial sums'
two halves, the slots of device 0.
-/
module

public import proofs.«01_k».proof.Proof.State

@[expose] public section

noncomputable section

namespace Cert.Sparse

open Cert.KernelIdeal Cert.KernelIdeal.Gen
open Idealize.ShloMosaic
open Idealize.ShloMosaic.TcCoe
open Idealize.ShloMosaic.ValueIdx (ix3 ix4 ix5 eq_ix3 eq_ix4 eq_ix5)
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig Unit (Elt F) ℕ UU ℕ

variable (m : (ℓ : Loc nD τ sig) → Buf (Elt F) ℓ)

/-! ## The regions of the key/value buffer -/

/-- The elements of the buffer in rows `o` to `o + n - 1`. -/
theorem mem_rows {o n : ℕ} {h : ∀ a, (![0, o, 0] : Fin 3 → ℕ) a + (![16, n, 64] : Fin 3 → ℕ) a ≤ S16x384x64.size a} (i : S16x384x64.Idx) :
    i ∈ (Rect.unit (s := S16x384x64) ![0, o, 0] ![16, n, 64] h).set ↔ o ≤ (i 1).val ∧ (i 1).val < o + n := by
  rw [Rect.mem_set_unit]
  constructor
  · intro h; exact h 1
  · intro h a
    fin_cases a
    · exact ⟨Nat.zero_le _, by have : (i 0).val < 16 := (i 0).isLt; show (i 0).val < 0 + 16; omega⟩
    · exact h
    · exact ⟨Nat.zero_le _, by have : (i 2).val < 64 := (i 2).isLt; show (i 2).val < 0 + 64; omega⟩

theorem set_whole_slice {κ : Kind} (b : Ref sig κ) (r : Rect b.ty.shape) : ((View.whole b).slice r).set = r.set := by
  rw [View.set_slice]; exact Finset.map_refl

theorem mem_nbL (i : S16x384x64.Idx) : i ∈ nbL.view.set ↔ (i 1).val < 128 := by
  rw [show nbL.view.set = (Rect.unit (s := S16x384x64) ![0, 0, 0] S16x128x64.size inb_S16x384x64_S16x128x64_0_0_0).set from set_whole_slice _ _]
  exact (mem_rows i).trans ⟨fun h => by omega, fun h => by omega⟩
theorem mem_nbO (i : S16x384x64.Idx) : i ∈ nbO.view.set ↔ 128 ≤ (i 1).val ∧ (i 1).val < 256 := by
  rw [show nbO.view.set = (Rect.unit (s := S16x384x64) ![0, 128, 0] S16x128x64.size inb_S16x384x64_S16x128x64_0_128_0).set from set_whole_slice _ _]
  exact (mem_rows i)
theorem mem_nbR (i : S16x384x64.Idx) : i ∈ nbR.view.set ↔ 256 ≤ (i 1).val := by
  rw [show nbR.view.set = (Rect.unit (s := S16x384x64) ![0, 256, 0] S16x128x64.size inb_S16x384x64_S16x128x64_0_256_0).set from set_whole_slice _ _]
  have : (i 1).val < 384 := (i 1).isLt
  exact (mem_rows i).trans ⟨fun h => by omega, fun h => by omega⟩
theorem mem_nbG (i : S16x384x64.Idx) : i ∈ nbG.view.set ↔ 128 ≤ (i 1).val ∧ (i 1).val < 160 := by
  rw [show nbG.view.set = (Rect.unit (s := S16x384x64) ![0, 128, 0] S16x32x64.size inb_S16x384x64_S16x32x64_0_128_0).set from set_whole_slice _ _]
  exact (mem_rows i)

theorem nbG_sub : nbG.view.set ⊆ nbO.view.set := fun i h => by
  rw [mem_nbO]; rw [mem_nbG] at h; omega

/-- The elements of slot `i` of the incoming partial sums. -/
theorem mem_slot (i : Fin 3) (j : S3x2x8x32x64.Idx) : j ∈ (slotM i).view.set ↔ (j 0).val = i.val := by
  rw [show (slotM i).view.set = (Rect.unit (s := S3x2x8x32x64) ![i.val, 0, 0, 0, 0] S1x2x8x32x64.size (slot_inb i)).set from
    (View.set_reshape _ _).trans (set_whole_slice _ _), Rect.mem_set_unit]
  constructor
  · intro h
    have h0 := h 0
    have h1 : i.val ≤ (j 0).val := h0.1
    have h2 : (j 0).val < i.val + 1 := h0.2
    omega
  · intro h a
    fin_cases a
    · exact ⟨h.ge, by show (j 0).val < i.val + 1; omega⟩
    · exact ⟨Nat.zero_le _, by have : (j 1).val < 2 := (j 1).isLt; show (j 1).val < 0 + 2; omega⟩
    · exact ⟨Nat.zero_le _, by have : (j 2).val < 8 := (j 2).isLt; show (j 2).val < 0 + 8; omega⟩
    · exact ⟨Nat.zero_le _, by have : (j 3).val < 32 := (j 3).isLt; show (j 3).val < 0 + 32; omega⟩
    · exact ⟨Nat.zero_le _, by have : (j 4).val < 64 := (j 4).isLt; show (j 4).val < 0 + 64; omega⟩

/-! ## Writes -/

/-- A write through a view of a buffer's element type gives `g` if its operand is `g` under the view and the rest was `g`. -/
theorem write_agree {sp : Space} {s : Shape} {e : EltTy} (v : View sig .tc sp s e) (f g : v.ty.Contents (Elt F)) (w : s.Idx → Elt F e)
    (hw : ∀ y, g (v.emb y) = _root_.cast (congrArg (Elt F) v.elt_eq.symm) (w y)) (hf : ∀ i, i ∉ v.set → f i = g i) :
    v.write (Elt F) f w Finset.univ = g := by
  funext i
  by_cases hi : i ∈ v.set
  · obtain ⟨y, -, rfl⟩ := Finset.mem_map.1 hi
    rw [View.write_emb_of_mem _ _ (Finset.mem_univ y), hw]
  · rw [View.write_of_not_mem _ _ _ hi, hf i hi]

/-- On the view's own elements the rest does not matter. -/
theorem pts_write {s : Shape} {e : EltTy} (M : Memref sig .tc .vmem s e) (d : Dev nD) (q : PosShare TreeShare)
    (f g : Buf (Elt F) (M.view.loc (d : Thread nD τ))) (w : s.Idx → Elt F e)
    (hw : ∀ y, g (M.view.emb y) = _root_.cast (congrArg (Elt F) M.view.elt_eq.symm) (w y)) :
    (M.view.loc (d : Thread nD τ) ↦[M.view.set]{q} (M.view.write (Elt F) f w Finset.univ) : sProp 𝕄) ⊢ pt M d q g := by
  refine Entails.of_eq (pointsTo_congr fun i hi => ?_)
  obtain ⟨y, -, rfl⟩ := Finset.mem_map.1 hi
  rw [View.write_emb_of_mem _ _ (Finset.mem_univ y), hw]

/-! ## Landings -/

theorem kvAt_ext (d : Dev nD) {g g' : Fin 16} {r r' : Fin 128} {e e' : Fin 64} (hg : g.val = g'.val) (hr : r.val = r'.val) (he : e.val = e'.val) :
    kvAt m d g r e = kvAt m d g' r' e' := by rw [Fin.ext hg, Fin.ext hr, Fin.ext he]

/-- A device's own rows are its right neighbour's left rows, -/
theorem nbF_left (c : Dev nD) (y : S16x128x64.Idx) : nbF m (nxt c) (nbL.view.emb y) = nbF m c (nbO.view.emb y) := by
  have h1 : (nbL.view.emb y 1).val = 0 + 1 * (y 1).val := rfl
  have h2 : (nbO.view.emb y 1).val = 128 + 1 * (y 1).val := rfl
  have hy : (y 1).val < 128 := (y 1).isLt
  unfold nbF ownerAt
  rw [if_pos (by omega), if_neg (by omega), if_pos (by omega), prv_nxt]
  refine kvAt_ext m c (show 0 + 1 * (y 0).val = 0 + 1 * (y 0).val from rfl) ?_ (show 0 + 1 * (y 2).val = 0 + 1 * (y 2).val from rfl)
  show (nbL.view.emb y 1).val % 128 = (nbO.view.emb y 1).val % 128
  omega
/-- and its left neighbour's right rows. -/
theorem nbF_right (c : Dev nD) (y : S16x128x64.Idx) : nbF m (prv c) (nbR.view.emb y) = nbF m c (nbO.view.emb y) := by
  have h1 : (nbR.view.emb y 1).val = 256 + 1 * (y 1).val := rfl
  have h2 : (nbO.view.emb y 1).val = 128 + 1 * (y 1).val := rfl
  have hy : (y 1).val < 128 := (y 1).isLt
  unfold nbF ownerAt
  rw [if_neg (by omega), if_neg (by omega), if_neg (by omega), if_pos (by omega), nxt_prv]
  refine kvAt_ext m c (show 0 + 1 * (y 0).val = 0 + 1 * (y 0).val from rfl) ?_ (show 0 + 1 * (y 2).val = 0 + 1 * (y 2).val from rfl)
  show (nbR.view.emb y 1).val % 128 = (nbO.view.emb y 1).val % 128
  omega

theorem land_left (c : Dev nD) (fd : Buf (Elt F) (nbL.view.loc (nxt c : Thread nD τ))) :
    (nbL.view.loc (nxt c : Thread nD τ) ↦[nbL.view.set]{fullShare} (nbL.view.write (Elt F) fd (nbO.view.read (Elt F) (nbF m c)) Finset.univ) : sProp 𝕄)
      ⊢ pt nbL (nxt c) fullShare (nbF m (nxt c)) :=
  pts_write nbL (nxt c) fullShare fd (nbF m (nxt c)) _ fun y => nbF_left m c y
theorem land_right (c : Dev nD) (fd : Buf (Elt F) (nbR.view.loc (prv c : Thread nD τ))) :
    (nbR.view.loc (prv c : Thread nD τ) ↦[nbR.view.set]{fullShare} (nbR.view.write (Elt F) fd (nbO.view.read (Elt F) (nbF m c)) Finset.univ) : sProp 𝕄)
      ⊢ pt nbR (prv c) fullShare (nbF m (prv c)) :=
  pts_write nbR (prv c) fullShare fd (nbF m (prv c)) _ fun y => nbF_right m c y
theorem land_q (d : Dev nD) (fd : Buf (Elt F) (qM.view.loc (d : Thread nD τ))) :
    (qM.view.loc (d : Thread nD τ) ↦[qM.view.set]{fullShare} (qM.view.write (Elt F) fd (qM.view.read (Elt F) (qF m)) Finset.univ) : sProp 𝕄)
      ⊢ pt qM d fullShare (qF m) :=
  pts_write qM d fullShare fd (qF m) _ fun y => rfl
theorem land_g (d : Dev nD) (fd : Buf (Elt F) (gM.view.loc (d : Thread nD τ))) :
    (gM.view.loc (d : Thread nD τ) ↦[gM.view.set]{fullShare} (gM.view.write (Elt F) fd (nbG.view.read (Elt F) (nbF m 0)) Finset.univ) : sProp 𝕄)
      ⊢ pt gM d fullShare (gF m) :=
  pts_write gM d fullShare fd (gF m) _ fun y => by
    refine congrArg (nbF m 0) ?_
    funext a
    fin_cases a
    · exact Fin.ext (show (y 0).val = 0 + 1 * (y 0).val by omega)
    · exact Fin.ext (show 128 + (y 1).val = 128 + 1 * (y 1).val by omega)
    · exact Fin.ext (show (y 2).val = 0 + 1 * (y 2).val by omega)
theorem land_ag (c : Dev nD) (hc : Leaf c) (fd : Buf (Elt F) (agM.view.loc (aggOf c : Thread nD τ))) :
    (agM.view.loc (aggOf c : Thread nD τ) ↦[agM.view.set]{fullShare} (agM.view.write (Elt F) fd (paM.view.read (Elt F) (psF m c)) Finset.univ) : sProp 𝕄)
      ⊢ pt agM (aggOf c) fullShare (paF m (leafOf (aggOf c))) :=
  pts_write agM (aggOf c) fullShare fd (paF m (leafOf (aggOf c))) _ fun y => by
    have h1 : leafOf (aggOf c) = c := (by decide : ∀ c : Dev nD, Leaf c → leafOf (aggOf c) = c) c hc
    have h2 : ¬Agg c := (by decide : ∀ c : Dev nD, Leaf c → ¬Agg c) c hc
    rw [h1]; unfold psF; rw [if_neg h2]; rfl
theorem land_slot (c : Dev nD) (hc : Snd c) (fd : Buf (Elt F) ((slotM (slotOf c)).view.loc ((0 : Dev nD) : Thread nD τ))) :
    ((slotM (slotOf c)).view.loc ((0 : Dev nD) : Thread nD τ) ↦[(slotM (slotOf c)).view.set]{fullShare}
        ((slotM (slotOf c)).view.write (Elt F) fd (paM.view.read (Elt F) (psF m c)) Finset.univ) : sProp 𝕄)
      ⊢ pt (slotM (slotOf c)) 0 fullShare (inF m) :=
  pts_write (slotM (slotOf c)) 0 fullShare fd (inF m) _ fun y => by
    have h1 : sndOf (slotOf c) = c := (by decide : ∀ c : Dev nD, Snd c → sndOf (slotOf c) = c) c hc
    have hr : Shape.reshapeEquiv (s := S1x2x8x32x64) (s' := S2x8x32x64) squeezes_S1x2x8x32x64_S2x8x32x64.numel_eq y
        = (ix5 (0 : Fin 1) (y 0 : Fin 2) (y 1 : Fin 8) (y 2 : Fin 32) (y 3 : Fin 64) : S1x2x8x32x64.Idx) := Shape.reshapeEquiv_eq_of_rowMajor _ (by
      refine (Shape.rowMajor_val_five (d := ![1, 2, 8, 32, 64]) _).trans (Eq.trans ?_ (Shape.rowMajor_val_four (d := ![2, 8, 32, 64]) y).symm)
      show ((((0 : ℕ) * 2 + (y 0).val) * 8 + (y 1).val) * 32 + (y 2).val) * 64 + (y 3).val = (((y 0).val * 8 + (y 1).val) * 32 + (y 2).val) * 64 + (y 3).val
      omega)
    have he : (slotM (slotOf c)).view.emb y = ix5 (slotOf c) (y 0) (y 1) (y 2) (y 3) := by
      show (Rect.unit (s := S3x2x8x32x64) ![(slotOf c).val, 0, 0, 0, 0] S1x2x8x32x64.size (slot_inb (slotOf c))).emb
        (Shape.reshapeEquiv (s := S1x2x8x32x64) (s' := S2x8x32x64) squeezes_S1x2x8x32x64_S2x8x32x64.numel_eq y) = _
      rw [hr]
      funext a
      fin_cases a
      · exact Fin.ext (show (slotOf c).val + 1 * 0 = (slotOf c).val by omega)
      · exact Fin.ext (show 0 + 1 * (y 0).val = (y 0).val by omega)
      · exact Fin.ext (show 0 + 1 * (y 1).val = (y 1).val by omega)
      · exact Fin.ext (show 0 + 1 * (y 2).val = (y 2).val by omega)
      · exact Fin.ext (show 0 + 1 * (y 3).val = (y 3).val by omega)
    rw [he]
    show psF m (sndOf (slotOf c)) (ix4 (y 0) (y 1) (y 2) (y 3)) = psF m c y
    rw [h1]; exact congrArg (psF m c) (eq_ix4 y).symm

/-! ## The device's own rows, stored head by head -/

/-- The planes `D` of the own rows hold what they should. -/
def Ok (c : Dev nD) (D : Finset ℕ) (f : S16x384x64.Idx → Elt F .bf16) : Prop :=
  ∀ i : S16x384x64.Idx, 128 ≤ (i 1).val → (i 1).val < 256 → (i 0).val ∈ D → f i = nbF m c i

theorem ok_empty (c : Dev nD) (f : S16x384x64.Idx → Elt F .bf16) : Ok m c ∅ f := fun i _ _ h => absurd h (Finset.notMem_empty _)

/-- A store of the planes `g`, `g + 1`. -/
theorem ok_store (c : Dev nD) (g : ℕ) {D : Finset ℕ} {f : S16x384x64.Idx → Elt F .bf16} (hf : Ok m c D f)
    (hg : g + 1 < 16)
    (h : ∀ a, (![g, 128, 0] : Fin 3 → ℕ) a + S2x128x64.size a ≤ S16x384x64.size a) (w : S2x128x64.Idx → Elt F .bf16)
    (hw : ∀ (b : Fin 2) (r : Fin 128) (e : Fin 64), w (ix3 b r e) = kvAt m c ⟨g + b.val, by omega⟩ r e) :
    Ok m c (insert g (insert (g + 1) D))
      ((nbM.access (Rect.unit (s := S16x384x64) ![g, 128, 0] S2x128x64.size h)).write (Elt F) f w Finset.univ) := by
  intro i h1 h2 hD
  set r := Rect.unit (s := S16x384x64) ![g, 128, 0] S2x128x64.size h with hr
  by_cases hi : i ∈ (nbM.access r).set
  · obtain ⟨y, -, rfl⟩ := Finset.mem_map.1 hi
    rw [View.write_emb_of_mem _ _ (Finset.mem_univ y)]
    have hy0 : (y 0).val < 2 := (y 0).isLt
    have hy1 : (y 1).val < 128 := (y 1).isLt
    show w y = nbF m c (r.emb y)
    have e0 : (r.emb y 0).val = g + 1 * (y 0).val := rfl
    have e1 : (r.emb y 1).val = 128 + 1 * (y 1).val := rfl
    have e2 : (r.emb y 2).val = 0 + 1 * (y 2).val := rfl
    refine ((congrArg w (eq_ix3 y)).trans (hw (y 0) (y 1) (y 2))).trans ?_
    unfold nbF ownerAt
    rw [if_neg (by omega), if_pos (by omega)]
    refine kvAt_ext m c (show g + (y 0).val = g + 1 * (y 0).val by omega) ?_ (show (y 2).val = 0 + 1 * (y 2).val by omega)
    show (y 1).val = (r.emb y 1).val % 128
    omega
  · rw [View.write_of_not_mem _ _ _ hi]
    refine hf i h1 h2 ?_
    rcases Finset.mem_insert.1 hD with h0 | hD
    · exfalso; apply hi
      rw [show (nbM.access r).set = r.set from set_whole_slice _ _, hr, Rect.mem_set_unit]
      intro a; fin_cases a
      · exact ⟨h0.ge, by show (i 0).val < g + 2; omega⟩
      · exact ⟨h1, h2⟩
      · exact ⟨Nat.zero_le _, by have : (i 2).val < 64 := (i 2).isLt; show (i 2).val < 0 + 64; omega⟩
    rcases Finset.mem_insert.1 hD with h0 | hD
    · exfalso; apply hi
      rw [show (nbM.access r).set = r.set from set_whole_slice _ _, hr, Rect.mem_set_unit]
      intro a; fin_cases a
      · exact ⟨by show g ≤ (i 0).val; omega, by show (i 0).val < g + 2; omega⟩
      · exact ⟨h1, h2⟩
      · exact ⟨Nat.zero_le _, by have : (i 2).val < 64 := (i 2).isLt; show (i 2).val < 0 + 64; omega⟩
    exact hD

/-- Where such a store lies. -/
theorem store_sub (g : ℕ) (h : ∀ a, (![g, 128, 0] : Fin 3 → ℕ) a + S2x128x64.size a ≤ S16x384x64.size a) :
    (nbM.access (Rect.unit (s := S16x384x64) ![g, 128, 0] S2x128x64.size h)).setOn Finset.univ ⊆ nbO.view.set := by
  intro i hi
  rw [View.setOn_univ, show (nbM.access (Rect.unit (s := S16x384x64) ![g, 128, 0] S2x128x64.size h)).set = _ from set_whole_slice _ _, Rect.mem_set_unit] at hi
  rw [mem_nbO]; exact hi 1
/-- And the load before it. -/
theorem load_sub (n g k : ℕ) (h : ∀ a, (![g, 128, 0] : Fin 3 → ℕ) a + (![n, 128, k] : Fin 3 → ℕ) a ≤ S16x384x64.size a) :
    nbM.view.setOn (Rect.unit (s := S16x384x64) ![g, 128, 0] ![n, 128, k] h).toLoadRect.set ⊆ nbO.view.set := by
  intro i hi
  obtain ⟨j, hj, rfl⟩ := Finset.mem_map.1 hi
  rw [mem_nbO]; exact (Rect.mem_set_unit.1 hj) 1

/-- All sixteen planes stored, the own rows are as they should be. -/
theorem ok_all (c : Dev nD) {D : Finset ℕ} {f : S16x384x64.Idx → Elt F .bf16} (hf : Ok m c D f) (hD : ∀ g < 16, g ∈ D) (q : PosShare TreeShare) :
    (pt nbO c q f : sProp 𝕄) ⊢ pt nbO c q (nbF m c) :=
  Entails.of_eq (pointsTo_congr fun i hi => by
    rw [mem_nbO] at hi
    exact hf i hi.1 hi.2 (hD _ (i 0).isLt))

/-- A head of the keys or values, its unit axis dropped. -/
theorem cast_head (v : S2x128x1x64.Idx → Elt F .bf16) (b : Fin 2) (r : Fin 128) (e : Fin 64) :
    shapeCast S2x128x64 (shapeCast S2x128x64 v shapeCasts_S2x128x1x64_S2x128x64) shapeCasts_S2x128x64_S2x128x64 (ix3 b r e) = v (ix4 b r 0 e) := by
  unfold shapeCast
  rw [Shape.reshapeEquiv_self]
  refine congrArg v (Shape.reshapeEquiv_eq_of_rowMajor _ ?_)
  rw [Shape.rowMajor_val_four, Shape.rowMajor_val_three]
  show ((b.val * 128 + r.val) * 1 + 0) * 64 + e.val = (b.val * 128 + r.val) * 64 + e.val
  omega

/-- The payload stored from a head `h` of the keys: planes `2h`, `2h + 1`. -/
theorem pay_k (c : Dev nD) (h : ℕ) (hh : h < 4) (hr : ∀ a, (![0, 0, h, 0] : Fin 4 → ℕ) a + S2x128x1x64.size a ≤ S2x128x4x64.size a)
    (b : Fin 2) (r : Fin 128) (e : Fin 64) :
    shapeCast S2x128x64 (shapeCast S2x128x64 (ld kM (Rect.unit (s := S2x128x4x64) ![0, 0, h, 0] S2x128x1x64.size hr) (kB m c))
        shapeCasts_S2x128x1x64_S2x128x64) shapeCasts_S2x128x64_S2x128x64 (ix3 b r e) = kvAt m c ⟨2 * h + b.val, by omega⟩ r e := by
  rw [cast_head]
  show kB m c _ = _
  unfold kvAt
  rw [if_pos (show 2 * h + b.val < 8 by omega)]
  refine congrArg (kB m c) ?_
  funext a
  fin_cases a
  · exact Fin.ext (show 0 + 1 * b.val = (2 * h + b.val) % 2 by omega)
  · exact Fin.ext (show 0 + 1 * r.val = r.val by omega)
  · exact Fin.ext (show h + 1 * 0 = (2 * h + b.val) % 8 / 2 by omega)
  · exact Fin.ext (show 0 + 1 * e.val = e.val by omega)
/-- And of the values: planes `8 + 2h`, `8 + 2h + 1`. -/
theorem pay_v (c : Dev nD) (h : ℕ) (hh : h < 4) (hr : ∀ a, (![0, 0, h, 0] : Fin 4 → ℕ) a + S2x128x1x64.size a ≤ S2x128x4x64.size a)
    (b : Fin 2) (r : Fin 128) (e : Fin 64) :
    shapeCast S2x128x64 (shapeCast S2x128x64 (ld vM (Rect.unit (s := S2x128x4x64) ![0, 0, h, 0] S2x128x1x64.size hr) (vB m c))
        shapeCasts_S2x128x1x64_S2x128x64) shapeCasts_S2x128x64_S2x128x64 (ix3 b r e) = kvAt m c ⟨8 + 2 * h + b.val, by omega⟩ r e := by
  rw [cast_head]
  show vB m c _ = _
  unfold kvAt
  rw [if_neg (show ¬(8 + 2 * h + b.val < 8) by omega)]
  refine congrArg (vB m c) ?_
  funext a
  fin_cases a
  · exact Fin.ext (show 0 + 1 * b.val = (8 + 2 * h + b.val) % 2 by omega)
  · exact Fin.ext (show 0 + 1 * r.val = r.val by omega)
  · exact Fin.ext (show h + 1 * 0 = (8 + 2 * h + b.val) % 8 / 2 by omega)
  · exact Fin.ext (show 0 + 1 * e.val = e.val by omega)

/-! ## The partial sums, stored in two halves -/

theorem two_slabs (f : S2x8x32x64.Idx → Elt F .bf16) (w₀ w₁ : S1x8x32x64.Idx → Elt F .bf16) :
    (paM.access rP1).write (Elt F) ((paM.access rP0).write (Elt F) f w₀ Finset.univ) w₁ Finset.univ
      = fun i => if (i 0).val = 0 then w₀ (ix4 (0 : Fin 1) (i 1) (i 2) (i 3)) else w₁ (ix4 (0 : Fin 1) (i 1) (i 2) (i 3)) := by
  have hm0 : ∀ i : S2x8x32x64.Idx, i ∈ (paM.access rP0).set ↔ (i 0).val = 0 := fun i => by
    rw [show (paM.access rP0).set = rP0.set from set_whole_slice _ _, Rect.mem_set_unit]
    constructor
    · intro h; have h1 : (i 0).val < 0 + 1 := (h 0).2; omega
    · intro h a; fin_cases a
      · exact ⟨Nat.zero_le _, by show (i 0).val < 0 + 1; omega⟩
      · exact ⟨Nat.zero_le _, by have : (i 1).val < 8 := (i 1).isLt; show (i 1).val < 0 + 8; omega⟩
      · exact ⟨Nat.zero_le _, by have : (i 2).val < 32 := (i 2).isLt; show (i 2).val < 0 + 32; omega⟩
      · exact ⟨Nat.zero_le _, by have : (i 3).val < 64 := (i 3).isLt; show (i 3).val < 0 + 64; omega⟩
  have hm1 : ∀ i : S2x8x32x64.Idx, i ∈ (paM.access rP1).set ↔ (i 0).val = 1 := fun i => by
    rw [show (paM.access rP1).set = rP1.set from set_whole_slice _ _, Rect.mem_set_unit]
    constructor
    · intro h; have h1 : (i 0).val < 1 + 1 := (h 0).2; have h0 : 1 ≤ (i 0).val := (h 0).1; omega
    · intro h a; fin_cases a
      · exact ⟨h.ge, by show (i 0).val < 1 + 1; omega⟩
      · exact ⟨Nat.zero_le _, by have : (i 1).val < 8 := (i 1).isLt; show (i 1).val < 0 + 8; omega⟩
      · exact ⟨Nat.zero_le _, by have : (i 2).val < 32 := (i 2).isLt; show (i 2).val < 0 + 32; omega⟩
      · exact ⟨Nat.zero_le _, by have : (i 3).val < 64 := (i 3).isLt; show (i 3).val < 0 + 64; omega⟩
  have hy (y : S1x8x32x64.Idx) (n : Fin 2) (r : Rect S2x8x32x64) (h0 : (0 : ℕ) = (y 0).val) : y = ix4 (0 : Fin 1) (y 1) (y 2) (y 3) := by
    funext a; fin_cases a
    · exact Fin.ext h0.symm
    all_goals rfl
  refine write_agree (paM.access rP1) _ _ _ (fun y => ?_) (fun i hi => ?_)
  · have h0 : (y 0).val = 0 := by have : (y 0).val < 1 := (y 0).isLt; omega
    show (if (1 + 1 * (y 0).val) = 0 then _ else _) = w₁ y
    rw [if_neg (by omega)]
    refine congrArg w₁ ?_
    funext a; fin_cases a
    · exact Fin.ext h0.symm
    · exact Fin.ext (show 0 + 1 * (y 1).val = (y 1).val by omega)
    · exact Fin.ext (show 0 + 1 * (y 2).val = (y 2).val by omega)
    · exact Fin.ext (show 0 + 1 * (y 3).val = (y 3).val by omega)
  · have hi0 : (i 0).val = 0 := by
      have h2 : (i 0).val < 2 := (i 0).isLt
      have h1 : ¬(i 0).val = 1 := fun h => hi ((hm1 i).2 h)
      omega
    obtain ⟨y, -, rfl⟩ := Finset.mem_map.1 ((hm0 i).2 hi0)
    rw [View.write_emb_of_mem _ _ (Finset.mem_univ y)]
    have h0 : (y 0).val = 0 := by have : (y 0).val < 1 := (y 0).isLt; omega
    rw [if_pos hi0]
    refine congrArg w₀ ?_
    funext a; fin_cases a
    · exact Fin.ext h0
    · exact Fin.ext (show (y 1).val = 0 + 1 * (y 1).val by omega)
    · exact Fin.ext (show (y 2).val = 0 + 1 * (y 2).val by omega)
    · exact Fin.ext (show (y 3).val = 0 + 1 * (y 3).val by omega)

end Cert.Sparse
-- ==== Proof.Words.lean ====
/-
# The words the body computes from its device number, and its parts at the launch's buffers
-/
module

public import proofs.«01_k».proof.Proof.Contents

@[expose] public section

noncomputable section

namespace Cert.Sparse

open Cert.KernelIdeal Cert.KernelIdeal.Gen
open Idealize.ShloMosaic
open Idealize.ShloMosaic.TcCoe

variable {F : FTy → Type} [FloatOps F]

/-! ## The words -/

abbrev w2 (c : Dev nD) : BitVec 32 := Scalar.remsi (Scalar.divsi (Dev.word c) 1#32) 8#32
abbrev w5 (c : Dev nD) : BitVec 32 := Scalar.remsi (Scalar.addi (Scalar.subi (w2 c) 1#32) 8#32) 8#32
abbrev w7 (c : Dev nD) : BitVec 32 := Scalar.remsi (Scalar.addi (w2 c) 1#32) 8#32
/-- Device 0, -/
abbrev w8 (c : Dev nD) : BitVec 1 := Scalar.cmpi .eq (w2 c) 0#32
/-- a middle device, -/
abbrev w11 (c : Dev nD) : BitVec 1 := Scalar.andi (Scalar.cmpi .sge (w2 c) 2#32) (Scalar.cmpi .sle (w2 c) 6#32)
/-- a leaf, -/
abbrev w14 (c : Dev nD) : BitVec 1 := Scalar.ori (Scalar.cmpi .eq (w2 c) 2#32) (Scalar.cmpi .eq (w2 c) 6#32)
/-- an aggregator, -/
abbrev w17 (c : Dev nD) : BitVec 1 := Scalar.ori (Scalar.cmpi .eq (w2 c) 3#32) (Scalar.cmpi .eq (w2 c) 5#32)
/-- a sender to device 0. -/
abbrev w20 (c : Dev nD) : BitVec 1 := Scalar.andi (Scalar.cmpi .sge (w2 c) 3#32) (Scalar.cmpi .sle (w2 c) 5#32)

theorem zero_iff (c : Dev nD) : Scalar.cmpi .ne (Scalar.extui (w8 c) : BitVec 32) 0#32 = 1#1 ↔ c = 0 := by revert c; decide
theorem mid_iff (c : Dev nD) : Scalar.cmpi .ne (Scalar.extui (w11 c) : BitVec 32) 0#32 = 1#1 ↔ Mid c := by revert c; decide
theorem leaf_iff (c : Dev nD) : Scalar.cmpi .ne (Scalar.extui (w14 c) : BitVec 32) 0#32 = 1#1 ↔ Leaf c := by revert c; decide
theorem agg_iff (c : Dev nD) : Scalar.cmpi .ne (Scalar.extui (w17 c) : BitVec 32) 0#32 = 1#1 ↔ Agg c := by revert c; decide
theorem nonmid_iff (c : Dev nD) : Scalar.cmpi .ne (Scalar.extui (Scalar.xori (w11 c) 1#1) : BitVec 32) 0#32 = 1#1 ↔ ¬Mid c := by revert c; decide
theorem nonzero_iff (c : Dev nD) : Scalar.cmpi .ne (Scalar.extui (Scalar.xori (w8 c) 1#1) : BitVec 32) 0#32 = 1#1 ↔ c ≠ 0 := by revert c; decide
theorem cond1_iff (c : Dev nD) : k0_cond1 c = 1#1 ↔ c = 0 := by revert c; decide
theorem cond5_iff (c : Dev nD) : k0_cond5 c = 1#1 ↔ c = 0 := by revert c; decide
theorem cond7_iff (c : Dev nD) : k0_cond7 c = 1#1 ↔ c = 0 := by revert c; decide
theorem cond2_iff (c : Dev nD) : k0_cond2 c = 1#1 ↔ Mid c := by revert c; decide
theorem cond9_iff (c : Dev nD) : k0_cond9 c = 1#1 ↔ Leaf c := by revert c; decide
theorem cond11_iff (c : Dev nD) : k0_cond11 c = 1#1 ↔ Snd c := by revert c; decide
theorem cond17_iff (c : Dev nD) : k0_cond17 c = 1#1 ↔ Snd c := by revert c; decide

theorem dev1_is (c : Dev nD) (h : k0_dev1 c < nD) : (⟨k0_dev1 c, h⟩ : Dev nD) = prv c := Fin.ext (k0_dev1_eq c)
theorem dev2_is (c : Dev nD) (h : k0_dev2 c < nD) : (⟨k0_dev2 c, h⟩ : Dev nD) = nxt c := Fin.ext (k0_dev2_eq c)
theorem dev19_is (c : Dev nD) (h : k0_dev19 c < nD) : (⟨k0_dev19 c, h⟩ : Dev nD) = nxt c := Fin.ext (k0_dev19_eq c)
theorem dev20_is (c : Dev nD) (h : k0_dev20 c < nD) : (⟨k0_dev20 c, h⟩ : Dev nD) = prv c := Fin.ext (k0_dev20_eq c)
theorem dev21_is (c : Dev nD) (hc : Leaf c) (h : k0_dev21 c < nD) : (⟨k0_dev21 c, h⟩ : Dev nD) = aggOf c :=
  Fin.ext ((k0_dev21_eq c).trans ((by decide : ∀ c : Dev nD, (if c.val = 2 then 3 else 5) = (aggOf c).val) c))

/-! ## The parts -/

/-- Part 1 of the body at the launch's buffers. -/
abbrev K1 := k0_part1 (F := F) xM (Memref.isWhole_whole _) wqM (Memref.isWhole_whole _) kM (Memref.isWhole_whole _) vM (Memref.isWhole_whole _) woM (Memref.isWhole_whole _) oM (Memref.isWhole_whole _)
  nbM (Memref.isWhole_whole _) qM (Memref.isWhole_whole _) gM (Memref.isWhole_whole _) paM (Memref.isWhole_whole _) inM (Memref.isWhole_whole _) agM (Memref.isWhole_whole _) nuM (Memref.isWhole_whole _) deM (Memref.isWhole_whole _)
  cc0_scratch8 cc0_scratch9 cc0_scratch10 cc0_scratch11 cc0_scratch12 cc0_scratch13 cc0_scratch14 cc0_scratch15 cc0_scratch16 cc0_scratch17 cc0_scratch18
/-- Part 2 of the body at the launch's buffers. -/
abbrev K2 := k0_part2 (F := F) xM (Memref.isWhole_whole _) wqM (Memref.isWhole_whole _) kM (Memref.isWhole_whole _) vM (Memref.isWhole_whole _) woM (Memref.isWhole_whole _) oM (Memref.isWhole_whole _)
  nbM (Memref.isWhole_whole _) qM (Memref.isWhole_whole _) gM (Memref.isWhole_whole _) paM (Memref.isWhole_whole _) inM (Memref.isWhole_whole _) agM (Memref.isWhole_whole _) nuM (Memref.isWhole_whole _) deM (Memref.isWhole_whole _)
  cc0_scratch8 cc0_scratch9 cc0_scratch10 cc0_scratch11 cc0_scratch12 cc0_scratch13 cc0_scratch14 cc0_scratch15 cc0_scratch16 cc0_scratch17 cc0_scratch18
/-- Part 3 of the body at the launch's buffers. -/
abbrev K3 := k0_part3 (F := F) xM (Memref.isWhole_whole _) wqM (Memref.isWhole_whole _) kM (Memref.isWhole_whole _) vM (Memref.isWhole_whole _) woM (Memref.isWhole_whole _) oM (Memref.isWhole_whole _)
  nbM (Memref.isWhole_whole _) qM (Memref.isWhole_whole _) gM (Memref.isWhole_whole _) paM (Memref.isWhole_whole _) inM (Memref.isWhole_whole _) agM (Memref.isWhole_whole _) nuM (Memref.isWhole_whole _) deM (Memref.isWhole_whole _)
  cc0_scratch8 cc0_scratch9 cc0_scratch10 cc0_scratch11 cc0_scratch12 cc0_scratch13 cc0_scratch14 cc0_scratch15 cc0_scratch16 cc0_scratch17 cc0_scratch18
/-- Part 4 of the body at the launch's buffers. -/
abbrev K4 := k0_part4 (F := F) xM (Memref.isWhole_whole _) wqM (Memref.isWhole_whole _) kM (Memref.isWhole_whole _) vM (Memref.isWhole_whole _) woM (Memref.isWhole_whole _) oM (Memref.isWhole_whole _)
  nbM (Memref.isWhole_whole _) qM (Memref.isWhole_whole _) gM (Memref.isWhole_whole _) paM (Memref.isWhole_whole _) inM (Memref.isWhole_whole _) agM (Memref.isWhole_whole _) nuM (Memref.isWhole_whole _) deM (Memref.isWhole_whole _)
  cc0_scratch8 cc0_scratch9 cc0_scratch10 cc0_scratch11 cc0_scratch12 cc0_scratch13 cc0_scratch14 cc0_scratch15 cc0_scratch16 cc0_scratch17 cc0_scratch18
/-- Part 5 of the body at the launch's buffers. -/
abbrev K5 := k0_part5 (F := F) xM (Memref.isWhole_whole _) wqM (Memref.isWhole_whole _) kM (Memref.isWhole_whole _) vM (Memref.isWhole_whole _) woM (Memref.isWhole_whole _) oM (Memref.isWhole_whole _)
  nbM (Memref.isWhole_whole _) qM (Memref.isWhole_whole _) gM (Memref.isWhole_whole _) paM (Memref.isWhole_whole _) inM (Memref.isWhole_whole _) agM (Memref.isWhole_whole _) nuM (Memref.isWhole_whole _) deM (Memref.isWhole_whole _)
  cc0_scratch8 cc0_scratch9 cc0_scratch10 cc0_scratch11 cc0_scratch12 cc0_scratch13 cc0_scratch14 cc0_scratch15 cc0_scratch16 cc0_scratch17 cc0_scratch18
/-- Part 6 of the body at the launch's buffers. -/
abbrev K6 := k0_part6 (F := F) xM (Memref.isWhole_whole _) wqM (Memref.isWhole_whole _) kM (Memref.isWhole_whole _) vM (Memref.isWhole_whole _) woM (Memref.isWhole_whole _) oM (Memref.isWhole_whole _)
  nbM (Memref.isWhole_whole _) qM (Memref.isWhole_whole _) gM (Memref.isWhole_whole _) paM (Memref.isWhole_whole _) inM (Memref.isWhole_whole _) agM (Memref.isWhole_whole _) nuM (Memref.isWhole_whole _) deM (Memref.isWhole_whole _)
  cc0_scratch8 cc0_scratch9 cc0_scratch10 cc0_scratch11 cc0_scratch12 cc0_scratch13 cc0_scratch14 cc0_scratch15 cc0_scratch16 cc0_scratch17 cc0_scratch18
/-- Part 7 of the body at the launch's buffers. -/
abbrev K7 := k0_part7 (F := F) xM (Memref.isWhole_whole _) wqM (Memref.isWhole_whole _) kM (Memref.isWhole_whole _) vM (Memref.isWhole_whole _) woM (Memref.isWhole_whole _) oM (Memref.isWhole_whole _)
  nbM (Memref.isWhole_whole _) qM (Memref.isWhole_whole _) gM (Memref.isWhole_whole _) paM (Memref.isWhole_whole _) inM (Memref.isWhole_whole _) agM (Memref.isWhole_whole _) nuM (Memref.isWhole_whole _) deM (Memref.isWhole_whole _)
  cc0_scratch8 cc0_scratch9 cc0_scratch10 cc0_scratch11 cc0_scratch12 cc0_scratch13 cc0_scratch14 cc0_scratch15 cc0_scratch16 cc0_scratch17 cc0_scratch18
/-- Part 8 of the body at the launch's buffers. -/
abbrev K8 := k0_part8 (F := F) xM (Memref.isWhole_whole _) wqM (Memref.isWhole_whole _) kM (Memref.isWhole_whole _) vM (Memref.isWhole_whole _) woM (Memref.isWhole_whole _) oM (Memref.isWhole_whole _)
  nbM (Memref.isWhole_whole _) qM (Memref.isWhole_whole _) gM (Memref.isWhole_whole _) paM (Memref.isWhole_whole _) inM (Memref.isWhole_whole _) agM (Memref.isWhole_whole _) nuM (Memref.isWhole_whole _) deM (Memref.isWhole_whole _)
  cc0_scratch8 cc0_scratch9 cc0_scratch10 cc0_scratch11 cc0_scratch12 cc0_scratch13 cc0_scratch14 cc0_scratch15 cc0_scratch16 cc0_scratch17 cc0_scratch18
/-- Part 9 of the body at the launch's buffers. -/
abbrev K9 := k0_part9 (F := F) xM (Memref.isWhole_whole _) wqM (Memref.isWhole_whole _) kM (Memref.isWhole_whole _) vM (Memref.isWhole_whole _) woM (Memref.isWhole_whole _) oM (Memref.isWhole_whole _)
  nbM (Memref.isWhole_whole _) qM (Memref.isWhole_whole _) gM (Memref.isWhole_whole _) paM (Memref.isWhole_whole _) inM (Memref.isWhole_whole _) agM (Memref.isWhole_whole _) nuM (Memref.isWhole_whole _) deM (Memref.isWhole_whole _)
  cc0_scratch8 cc0_scratch9 cc0_scratch10 cc0_scratch11 cc0_scratch12 cc0_scratch13 cc0_scratch14 cc0_scratch15 cc0_scratch16 cc0_scratch17 cc0_scratch18
/-- Part 10 of the body at the launch's buffers. -/
abbrev K10 := k0_part10 (F := F) xM (Memref.isWhole_whole _) wqM (Memref.isWhole_whole _) kM (Memref.isWhole_whole _) vM (Memref.isWhole_whole _) woM (Memref.isWhole_whole _) oM (Memref.isWhole_whole _)
  nbM (Memref.isWhole_whole _) qM (Memref.isWhole_whole _) gM (Memref.isWhole_whole _) paM (Memref.isWhole_whole _) inM (Memref.isWhole_whole _) agM (Memref.isWhole_whole _) nuM (Memref.isWhole_whole _) deM (Memref.isWhole_whole _)
  cc0_scratch8 cc0_scratch9 cc0_scratch10 cc0_scratch11 cc0_scratch12 cc0_scratch13 cc0_scratch14 cc0_scratch15 cc0_scratch16 cc0_scratch17 cc0_scratch18
/-- Part 11 of the body at the launch's buffers. -/
abbrev K11 := k0_part11 (F := F) xM (Memref.isWhole_whole _) wqM (Memref.isWhole_whole _) kM (Memref.isWhole_whole _) vM (Memref.isWhole_whole _) woM (Memref.isWhole_whole _) oM (Memref.isWhole_whole _)
  nbM (Memref.isWhole_whole _) qM (Memref.isWhole_whole _) gM (Memref.isWhole_whole _) paM (Memref.isWhole_whole _) inM (Memref.isWhole_whole _) agM (Memref.isWhole_whole _) nuM (Memref.isWhole_whole _) deM (Memref.isWhole_whole _)
  cc0_scratch8 cc0_scratch9 cc0_scratch10 cc0_scratch11 cc0_scratch12 cc0_scratch13 cc0_scratch14 cc0_scratch15 cc0_scratch16 cc0_scratch17 cc0_scratch18
/-- Part 12 of the body at the launch's buffers. -/
abbrev K12 := k0_part12 (F := F) xM (Memref.isWhole_whole _) wqM (Memref.isWhole_whole _) kM (Memref.isWhole_whole _) vM (Memref.isWhole_whole _) woM (Memref.isWhole_whole _) oM (Memref.isWhole_whole _)
  nbM (Memref.isWhole_whole _) qM (Memref.isWhole_whole _) gM (Memref.isWhole_whole _) paM (Memref.isWhole_whole _) inM (Memref.isWhole_whole _) agM (Memref.isWhole_whole _) nuM (Memref.isWhole_whole _) deM (Memref.isWhole_whole _)
  cc0_scratch8 cc0_scratch9 cc0_scratch10 cc0_scratch11 cc0_scratch12 cc0_scratch13 cc0_scratch14 cc0_scratch15 cc0_scratch16 cc0_scratch17 cc0_scratch18
/-- Part 13 of the body at the launch's buffers. -/
abbrev K13 := k0_part13 (F := F) xM (Memref.isWhole_whole _) wqM (Memref.isWhole_whole _) kM (Memref.isWhole_whole _) vM (Memref.isWhole_whole _) woM (Memref.isWhole_whole _) oM (Memref.isWhole_whole _)
  nbM (Memref.isWhole_whole _) qM (Memref.isWhole_whole _) gM (Memref.isWhole_whole _) paM (Memref.isWhole_whole _) inM (Memref.isWhole_whole _) agM (Memref.isWhole_whole _) nuM (Memref.isWhole_whole _) deM (Memref.isWhole_whole _)
  cc0_scratch8 cc0_scratch9 cc0_scratch10 cc0_scratch11 cc0_scratch12 cc0_scratch13 cc0_scratch14 cc0_scratch15 cc0_scratch16 cc0_scratch17 cc0_scratch18

end Cert.Sparse
-- ==== Proof.Body5.lean ====
/-
# The entry: who opens what to whom
-/
module

public import proofs.«01_k».proof.Proof.Words

@[expose] public section

noncomputable section

namespace Cert.Sparse

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig Unit (Elt F) ℕ UU ℕ

variable (m : (ℓ : Loc nD τ sig) → Buf (Elt F) ℓ) (K : Dev nD × Fin 22 → ℕ)

/-! ## The protocol's state between the parts -/

/-- The raises device `c` has to pay of the kinds `ks`. -/
def Tk (c : Dev nD) (ks : Finset (Fin 22)) : Finset (Dev nD × Fin 22) := Finset.univ.filter fun g => c ∈ pay g.1 g.2 ∧ g.2 ∈ ks
/-- Its cells that are not among the kinds `ks` waited for. -/
def Sk (c : Dev nD) (ks : Finset (Fin 22)) : Finset (Fin 22) := Finset.univ.filter fun k => ¬(k ∈ ks ∧ (pay c k).Nonempty)
/-- The credits it has: of the cells others raise and of its own copies `sent`, less those of the kinds `ks` waited for. -/
def Ck (c : Dev nD) (sent ks : Finset (Fin 22)) : Finset (Fin 22) :=
  Finset.univ.filter fun k => (pay c k).Nonempty ∧ (Owed k ∨ k ∈ sent) ∧ k ∉ ks

/-! ## The signals' payloads -/

theorem onlyIf_iff {a b : Prop} [Decidable a] [Decidable b] (h : a ↔ b) (P : sProp 𝕄) : onlyIf a P = onlyIf b P := by
  by_cases hb : b
  · rw [onlyIf_pos hb, onlyIf_pos (h.2 hb)]
  · rw [onlyIf_neg hb, onlyIf_neg fun ha => hb (h.1 ha)]

theorem give_prv (c : Dev nD) : iprop(ptE nbL c ∗ onlyIf (c = 3) (ptE agM c)) ⊢ (barPay (prv c) c : sProp 𝕄) := by
  unfold barPay
  rw [onlyIf_pos ((by decide : ∀ c : Dev nD, c = nxt (prv c)) c), onlyIf_neg ((by decide : ∀ c : Dev nD, ¬c = prv (prv c)) c),
    onlyIf_neg ((by decide : ∀ c : Dev nD, ¬((prv c).val = 0 ∧ Mid c)) c),
    onlyIf_iff ((by decide : ∀ c : Dev nD, (Leaf (prv c) ∧ c = aggOf (prv c)) ↔ c = 3) c),
    onlyIf_neg ((by decide : ∀ c : Dev nD, ¬(Snd (prv c) ∧ c.val = 0)) c)]
  iintro ⟨H, A⟩
  isplitl [H]; · iexact H
  isplitr; · iempintro
  isplitr; · iempintro
  isplitl [A]; · iexact A
  iempintro

theorem give_nxt (c : Dev nD) : iprop(ptE nbR c ∗ onlyIf (c = 5) (ptE agM c)) ⊢ (barPay (nxt c) c : sProp 𝕄) := by
  unfold barPay
  rw [onlyIf_neg ((by decide : ∀ c : Dev nD, ¬c = nxt (nxt c)) c), onlyIf_pos ((by decide : ∀ c : Dev nD, c = prv (nxt c)) c),
    onlyIf_neg ((by decide : ∀ c : Dev nD, ¬((nxt c).val = 0 ∧ Mid c)) c),
    onlyIf_iff ((by decide : ∀ c : Dev nD, (Leaf (nxt c) ∧ c = aggOf (nxt c)) ↔ c = 5) c),
    onlyIf_neg ((by decide : ∀ c : Dev nD, ¬(Snd (nxt c) ∧ c.val = 0)) c)]
  iintro ⟨H, A⟩
  isplitr; · iempintro
  isplitl [H]; · iexact H
  isplitr; · iempintro
  isplitl [A]; · iexact A
  iempintro

theorem give_mid (c : Dev nD) (hc : Mid c) : iprop(ptE qM c ∗ ptE gM c) ⊢ (barPay 0 c : sProp 𝕄) := by
  unfold barPay
  rw [onlyIf_neg ((by decide : ∀ c : Dev nD, Mid c → ¬c = nxt 0) c hc), onlyIf_neg ((by decide : ∀ c : Dev nD, Mid c → ¬c = prv 0) c hc),
    onlyIf_pos (show (0 : Dev nD).val = 0 ∧ Mid c from ⟨rfl, hc⟩),
    onlyIf_neg ((by decide : ∀ c : Dev nD, ¬(Leaf 0 ∧ c = aggOf 0)) c),
    onlyIf_neg ((by decide : ∀ c : Dev nD, ¬(Snd 0 ∧ c.val = 0)) c)]
  iintro H
  isplitr; · iempintro
  isplitr; · iempintro
  isplitl [H]; · iexact H
  isplitr; · iempintro
  iempintro

theorem give_zero (d : Dev nD) (hd : Mid d) : onlyIf (Snd d) (ptE (slotM (slotOf d)) 0) ⊢ (barPay d 0 : sProp 𝕄) := by
  unfold barPay
  rw [onlyIf_neg ((by decide : ∀ d : Dev nD, Mid d → ¬0 = nxt d) d hd), onlyIf_neg ((by decide : ∀ d : Dev nD, Mid d → ¬0 = prv d) d hd),
    onlyIf_neg ((by decide : ∀ d : Dev nD, ¬(d.val = 0 ∧ Mid 0)) d),
    onlyIf_neg ((by decide : ∀ d : Dev nD, ¬(Leaf d ∧ 0 = aggOf d)) d),
    onlyIf_iff ((by decide : ∀ d : Dev nD, (Snd d ∧ (0 : Dev nD).val = 0) ↔ Snd d) d)]
  iintro H
  isplitr; · iempintro
  isplitr; · iempintro
  isplitr; · iempintro
  isplitr; · iempintro
  iexact H

/-- The landing buffer for a neighbour's sums: an aggregator gives it away, to the left or to the right. -/
theorem ag_ways (c : Dev nD) : (ptE agM c : sProp 𝕄) ⊢ iprop(onlyIf (c = 3) (ptE agM c) ∗ onlyIf (c = 5) (ptE agM c) ∗ onlyIf (¬Agg c) (ptE agM c)) := by
  by_cases h3 : c = 3
  · rw [onlyIf_pos h3, onlyIf_neg (by rw [h3]; decide), onlyIf_neg (by rw [h3]; decide)]
    iintro H; isplitl [H]; · iexact H
    isplitr <;> iempintro
  by_cases h5 : c = 5
  · rw [onlyIf_neg h3, onlyIf_pos h5, onlyIf_neg (by rw [h5]; decide)]
    iintro H; isplitr; · iempintro
    isplitl [H]; · iexact H
    iempintro
  rw [onlyIf_neg h3, onlyIf_neg h5, onlyIf_pos ((by decide : ∀ c : Dev nD, ¬c = 3 → ¬c = 5 → ¬Agg c) c h3 h5)]
  iintro H; isplitr; · iempintro
  isplitr; · iempintro
  iexact H

/-! ## The part -/

/-- Device 0's three slots. -/
abbrev slots : sProp 𝕄 := iprop(ptE (slotM 0) 0 ∗ ptE (slotM 1) 0 ∗ ptE (slotM 2) 0)

/-- The two signals every device makes: its landing rows to its neighbours. -/
theorem two_signals (c : Dev nD) {α : Type} {Q : α → sProp 𝕄} {k : PUnit → Prog (TpuEff nD τ sig (Elt F) Λ₀ .tc) α} :
    iprop(Env m K ∗ St c (Tk c Finset.univ) (Sk c ∅) (Ck c ∅ ∅) ∗ ptE nbL c ∗ ptE nbR c ∗ ptE agM c)
      ⊢ iprop(((St c (((Tk c Finset.univ).erase (prv c, 0)).erase (nxt c, 0)) (Sk c ∅) (Ck c ∅ ∅) ∗ onlyIf (¬Agg c) (ptE agM c))
            -∗ wp frame (wpE (defs₀ (F := F)) 𝒱₀ (c : Thread nD τ) none) Set.univ (k ⟨⟩) Q)
          -∗ wp frame (wpE (defs₀ (F := F)) 𝒱₀ (c : Thread nD τ) none) Set.univ
              (.op (.semSignal (prv c : Thread nD τ) barS (1#32 : BitVec 32).toInt) fun _ =>
                .op (.semSignal (nxt c : Thread nD τ) barS (1#32 : BitVec 32).toInt) k) Q) := by
  iintro ⟨#HE, HS, HL, HR, HA⟩ Hk
  ihave HA' := (ag_ways c) $$ HA
  icases HA' with ⟨HA3, HA5, HAn⟩
  iapply (st_signal m K (c := c) (d := prv c) (T := Tk c Finset.univ) (by revert c; decide +kernel) (by revert c; decide)) $$ [HS HL HA3]
  · isplitr; · iexact HE
    isplitl [HS]; · iexact HS
    iapply (give_prv c); isplitl [HL]; · iexact HL
    iexact HA3
  iintro HS
  iapply (st_signal m K (c := c) (d := nxt c) (T := (Tk c Finset.univ).erase (prv c, 0)) (by revert c; decide +kernel) (by revert c; decide)) $$ [HS HR HA5]
  · isplitr; · iexact HE
    isplitl [HS]; · iexact HS
    iapply (give_nxt c); isplitl [HR]; · iexact HR
    iexact HA5
  iintro HS
  iapply Hk
  isplitl [HS]; · iexact HS
  iexact HAn

/-- Device 0's signal to a middle device, which opens it its slot. -/
theorem zero_signal (d : Dev nD) (hd : Mid d) {T : Finset (Dev nD × Fin 22)} (hT : (d, (0 : Fin 22)) ∈ T) {n : ℕ} {hn : n < nD} (hdn : n = d.val)
    {α : Type} {Q : α → sProp 𝕄} {k : PUnit → Prog (TpuEff nD τ sig (Elt F) Λ₀ .tc) α} :
    iprop(Env m K ∗ St 0 T (Sk 0 ∅) (Ck 0 ∅ ∅) ∗ onlyIf (Snd d) (ptE (slotM (slotOf d)) 0))
      ⊢ iprop((St 0 (T.erase (d, 0)) (Sk 0 ∅) (Ck 0 ∅ ∅)
            -∗ wp frame (wpE (defs₀ (F := F)) 𝒱₀ ((0 : Dev nD) : Thread nD τ) none) Set.univ (k ⟨⟩) Q)
          -∗ wp frame (wpE (defs₀ (F := F)) 𝒱₀ ((0 : Dev nD) : Thread nD τ) none) Set.univ
              (.op (.semSignal ((⟨n, hn⟩ : Dev nD) : Thread nD τ) barS (1#32 : BitVec 32).toInt) k) Q) := by
  subst hdn
  iintro ⟨#HE, HS, HZ⟩ Hk
  iapply (st_signal m K (c := 0) (d := d) (T := T) hT ((by decide : ∀ d : Dev nD, Mid d → (0 : Dev nD) ∈ pay d 0) d hd)) $$ [HS HZ]
  · isplitr; · iexact HE
    isplitl [HS]; · iexact HS
    iapply (give_zero d hd); iexact HZ
  iexact Hk

theorem emp_onlyIf {b : Prop} [Decidable b] (h : ¬b) (P : sProp 𝕄) : (iprop(emp) : sProp 𝕄) ⊢ onlyIf b P := by
  rw [onlyIf_neg h]
theorem to_onlyIf {b : Prop} [Decidable b] (h : b) (P : sProp 𝕄) : P ⊢ onlyIf b P := by
  rw [onlyIf_pos h]
theorem of_onlyIf {b : Prop} [Decidable b] (h : b) (P : sProp 𝕄) : onlyIf b P ⊢ P := by
  rw [onlyIf_pos h]

theorem st_eq {c : Dev nD} {T T' : Finset (Dev nD × Fin 22)} {S S' C C' : Finset (Fin 22)} (hT : T = T') (hS : S = S') (hC : C = C') :
    St c T S C ⊢ (St c T' S' C' : sProp 𝕄) := by rw [hT, hS, hC]

set_option maxHeartbeats 1000000 in
theorem part5 (c : Dev nD) :
    iprop(Env m K ∗ St c (Tk c Finset.univ) (Sk c ∅) (Ck c ∅ ∅) ∗ ptE nbL c ∗ ptE nbR c ∗ ptE qM c ∗ ptE gM c ∗ ptE agM c
        ∗ onlyIf (c = 0) slots)
      ⊢ wp frame (wpE (defs₀ (F := F)) 𝒱₀ (c : Thread nD τ) none) Set.univ K5 (fun v =>
          iprop(⌜v = ⟨c, w2 c, w5 c, w7 c, w8 c, w11 c, w14 c, w17 c, w20 c, SemArray.scalar (sig.barrier 0 rfl)⟩⌝
            ∗ St c (Tk c (Finset.univ \ {0})) (Sk c ∅) (Ck c ∅ ∅) ∗ onlyIf (¬Mid c) iprop(ptE qM c ∗ ptE gM c) ∗ onlyIf (¬Agg c) (ptE agM c))) := by
  simp only [K5, k0_part5_eq_skeleton]; unfold k0_part5_skel
  simp only [semSignalWord, Prog.lift, Prog.bind_op, Prog.bind_ret, Prog.pure_eq_ret, wp_deviceId, dev1_is, dev2_is]
  by_cases h0 : c = 0
  · subst h0
    rw [onlyIf_pos (rfl : (0 : Dev nD) = 0)]
    simp only [dif_pos ((cond1_iff 0).2 rfl), dif_neg (fun h => absurd ((cond2_iff 0).1 h) (by decide) : ¬k0_cond2 0 = 1#1), Prog.bind_op, Prog.bind_ret]
    iintro ⟨#HE, HS, HL, HR, HQ, HG, HA, HZ⟩
    icases HZ with ⟨Z0, Z1, Z2⟩
    iapply (two_signals m K 0) $$ [HS HL HR HA]
    · isplitr; · iexact HE
      isplitl [HS]; · iexact HS
      isplitl [HL]; · iexact HL
      isplitl [HR]; · iexact HR
      iexact HA
    iintro ⟨HS, HAn⟩
    iapply (zero_signal m K 2 (by decide) (T := ((Tk 0 Finset.univ).erase (prv 0, 0)).erase (nxt 0, 0)) (by decide +kernel) k0_dev3_eq) $$ [HS]
    · isplitr; · iexact HE
      isplitl [HS]; · iexact HS
      iapply (emp_onlyIf (F := F) (show ¬Snd 2 by decide)); iempintro
    iintro HS
    iapply (zero_signal m K 3 (by decide) (T := (((Tk 0 Finset.univ).erase (prv 0, 0)).erase (nxt 0, 0)).erase (2, 0)) (by decide +kernel) k0_dev4_eq) $$ [HS Z0]
    · isplitr; · iexact HE
      isplitl [HS]; · iexact HS
      iapply (to_onlyIf (F := F) (show Snd 3 by decide)); iexact Z0
    iintro HS
    iapply (zero_signal m K 4 (by decide) (T := ((((Tk 0 Finset.univ).erase (prv 0, 0)).erase (nxt 0, 0)).erase (2, 0)).erase (3, 0)) (by decide +kernel) k0_dev5_eq) $$ [HS Z1]
    · isplitr; · iexact HE
      isplitl [HS]; · iexact HS
      iapply (to_onlyIf (F := F) (show Snd 4 by decide)); iexact Z1
    iintro HS
    iapply (zero_signal m K 5 (by decide) (T := (((((Tk 0 Finset.univ).erase (prv 0, 0)).erase (nxt 0, 0)).erase (2, 0)).erase (3, 0)).erase (4, 0)) (by decide +kernel) k0_dev6_eq) $$ [HS Z2]
    · isplitr; · iexact HE
      isplitl [HS]; · iexact HS
      iapply (to_onlyIf (F := F) (show Snd 5 by decide)); iexact Z2
    iintro HS
    iapply (zero_signal m K 6 (by decide) (T := ((((((Tk 0 Finset.univ).erase (prv 0, 0)).erase (nxt 0, 0)).erase (2, 0)).erase (3, 0)).erase (4, 0)).erase (5, 0)) (by decide +kernel) k0_dev7_eq) $$ [HS]
    · isplitr; · iexact HE
      isplitl [HS]; · iexact HS
      iapply (emp_onlyIf (F := F) (show ¬Snd 6 by decide)); iempintro
    iintro HS
    rw [wp_ret]; imodintro
    isplitr; · ipureintro; rfl
    isplitl [HS]
    · iapply (st_eq (T := (((((((Tk 0 Finset.univ).erase (prv 0, 0)).erase (nxt 0, 0)).erase (2, 0)).erase (3, 0)).erase (4, 0)).erase (5, 0)).erase (6, 0)) (by decide +kernel) rfl rfl); iexact HS
    isplitl [HQ HG]
    · iapply (to_onlyIf (F := F) (show ¬Mid 0 by decide)); isplitl [HQ] <;> iassumption
    iexact HAn
  · simp only [dif_neg (fun h => h0 ((cond1_iff c).1 h) : ¬k0_cond1 c = 1#1)]
    by_cases h2 : Mid c
    · simp only [dif_pos ((cond2_iff c).2 h2), Prog.bind_op, Prog.bind_ret, show (⟨k0_dev8, k0_dev8_lt c ((cond2_iff c).2 h2)⟩ : Dev nD) = 0 from Fin.ext k0_dev8_eq]
      iintro ⟨#HE, HS, HL, HR, HQ, HG, HA, HZ⟩
      iapply (two_signals m K c) $$ [HS HL HR HA]
      · isplitr; · iexact HE
        isplitl [HS]; · iexact HS
        isplitl [HL]; · iexact HL
        isplitl [HR]; · iexact HR
        iexact HA
      iintro ⟨HS, HAn⟩
      iapply (st_signal m K (c := c) (d := 0) (T := ((Tk c Finset.univ).erase (prv c, 0)).erase (nxt c, 0)) (by revert c; decide +kernel) (by revert c; decide)) $$ [HS HQ HG]
      · isplitr; · iexact HE
        isplitl [HS]; · iexact HS
        iapply (give_mid c h2); isplitl [HQ] <;> iassumption
      iintro HS
      rw [wp_ret]; imodintro
      isplitr; · ipureintro; rfl
      isplitl [HS]
      · iapply (st_eq (T := (((Tk c Finset.univ).erase (prv c, 0)).erase (nxt c, 0)).erase (0, 0)) (by revert c; decide +kernel) rfl rfl); iexact HS
      isplitr
      · iapply (emp_onlyIf (F := F) (not_not.2 h2)); iempintro
      iexact HAn
    · simp only [dif_neg (fun h => h2 ((cond2_iff c).1 h) : ¬k0_cond2 c = 1#1), Prog.bind_ret]
      iintro ⟨#HE, HS, HL, HR, HQ, HG, HA, HZ⟩
      iapply (two_signals m K c) $$ [HS HL HR HA]
      · isplitr; · iexact HE
        isplitl [HS]; · iexact HS
        isplitl [HL]; · iexact HL
        isplitl [HR]; · iexact HR
        iexact HA
      iintro ⟨HS, HAn⟩
      rw [wp_ret]; imodintro
      isplitr; · ipureintro; rfl
      isplitl [HS]
      · iapply (st_eq (T := ((Tk c Finset.univ).erase (prv c, 0)).erase (nxt c, 0)) (by revert c; decide +kernel) rfl rfl); iexact HS
      isplitl [HQ HG]
      · iapply (to_onlyIf (F := F) h2); isplitl [HQ] <;> iassumption
      iexact HAn

end Cert.Sparse
-- ==== Proof.Steps.lean ====
/-
# Loads and stores as steps of the body
-/
module

public import proofs.«01_k».proof.Proof.Body5

@[expose] public section

noncomputable section

namespace Cert.Sparse

open Cert.KernelIdeal Cert.KernelIdeal.Gen
open Idealize.ShloMosaic
open Idealize.ShloMosaic.TcCoe
open Idealize.ShloMosaic.ValueIdx (ix3 ix4 ix5)
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig Unit (Elt F) ℕ UU ℕ

variable (m : (ℓ : Loc nD τ sig) → Buf (Elt F) ℓ) (K : Dev nD × Fin 22 → ℕ)

/-- The weakest precondition of a program of device `c`. -/
abbrev wpc (c : Dev nD) {α : Type} (p : Prog (TpuEff nD τ sig (Elt F) Λ₀ .tc) α) (Q : α → sProp 𝕄) : sProp 𝕄 :=
  wp frame (wpE (defs₀ (F := F)) 𝒱₀ (c : Thread nD τ) none) Set.univ p Q

theorem wpc_ret (c : Dev nD) {α : Type} (a : α) (Q : α → sProp 𝕄) : Q a ⊢ wpc c (.ret a) Q := le_wp_ret _ _ _ a Q

section
variable {c : Dev nD} {s : Shape} {e : EltTy} {α : Type} {Q : α → sProp (MT nD τ sig Unit (Elt F) ℕ UU ℕ)}

/-- A load through a view whose elements the device holds at some share. -/
theorem load_pt {M : Memref sig .tc .vmem s e} {r : Rect s} {q : PosShare TreeShare} {f : Buf (Elt F) (M.view.loc (c : Thread nD τ))}
    {hl : M.view.LoadsAt r.toLoadRect} {k : (r.toLoadRect.shape.Idx → Elt F e) → Prog (TpuEff nD τ sig (Elt F) Λ₀ .tc) α} :
    (pt M c q f : sProp 𝕄) ⊢ iprop((pt M c q f -∗ wpc c (k (ld M r f)) Q) -∗ wpc c (.op (.load M r.toLoadRect hl) k) Q) :=
  wp_load 𝒱₀ (c : Thread nD τ) none Set.univ (m := M) (r := r.toLoadRect) (View.setOn_subset_set _ _)

/-- A load of part of the elements under a view. -/
theorem load_set {M : Memref sig .tc .vmem s e} {r : Rect s} {S : Finset (Idx (M.view.loc (c : Thread nD τ)))} (hS : M.view.setOn r.toLoadRect.set ⊆ S)
    {q : PosShare TreeShare} {f : Buf (Elt F) (M.view.loc (c : Thread nD τ))}
    {hl : M.view.LoadsAt r.toLoadRect} {k : (r.toLoadRect.shape.Idx → Elt F e) → Prog (TpuEff nD τ sig (Elt F) Λ₀ .tc) α} :
    (M.view.loc (c : Thread nD τ) ↦[S]{q} f : sProp 𝕄)
      ⊢ iprop(((M.view.loc (c : Thread nD τ) ↦[S]{q} f) -∗ wpc c (k (ld M r f)) Q) -∗ wpc c (.op (.load M r.toLoadRect hl) k) Q) :=
  wp_load 𝒱₀ (c : Thread nD τ) none Set.univ (m := M) (r := r.toLoadRect) hS

/-- A store, and the load of what it covers before it: the view's elements then hold what the store leaves. -/
theorem store_pt {M : Memref sig .tc .vmem s e} {r : Rect s} {w : r.shape.Idx → Elt F e} {f : Buf (Elt F) (M.view.loc (c : Thread nD τ))}
    {hl : M.view.LoadsAt r.toLoadRect} {hx : (M.access r).Stores Finset.univ} {hm : (Finset.univ : Finset r.shape.Idx) = Finset.univ ∨ ∀ a, r.stride a = 1}
    {k : PUnit → Prog (TpuEff nD τ sig (Elt F) Λ₀ .tc) α} :
    (pt M c fullShare f : sProp 𝕄)
      ⊢ iprop((pt M c fullShare ((M.access r).write (Elt F) f w Finset.univ) -∗ wpc c (k ⟨⟩) Q)
        -∗ wpc c (.op (.load M r.toLoadRect hl) fun _ => .op (.store M r w Finset.univ hx hm) k) Q) := by
  iintro H Hk
  iapply (load_pt (M := M) (r := r)) $$ [H]
  · iexact H
  iintro H
  iapply (wp_store 𝒱₀ (c : Thread nD τ) none Set.univ (m := M) (r := r) (Mk := Finset.univ) (S := M.view.set)
    (by rw [View.setOn_univ]; exact View.set_slice_subset _ _)) $$ [H]
  · iexact H
  iexact Hk

/-- A store of a whole buffer. -/
theorem store_all {M : Memref sig .tc .vmem s e} {r : Rect s} {w : r.shape.Idx → Elt F e} (g : Buf (Elt F) (M.view.loc (c : Thread nD τ)))
    (hw : ∀ f : M.view.ty.Contents (Elt F), (M.access r).write (Elt F) f w Finset.univ = g)
    {hl : M.view.LoadsAt r.toLoadRect} {hx : (M.access r).Stores Finset.univ} {hm : (Finset.univ : Finset r.shape.Idx) = Finset.univ ∨ ∀ a, r.stride a = 1}
    {k : PUnit → Prog (TpuEff nD τ sig (Elt F) Λ₀ .tc) α} :
    (ptE M c : sProp 𝕄)
      ⊢ iprop((pt M c fullShare g -∗ wpc c (k ⟨⟩) Q)
        -∗ wpc c (.op (.load M r.toLoadRect hl) fun _ => .op (.store M r w Finset.univ hx hm) k) Q) := by
  iintro H Hk
  unfold ptE
  icases H with ⟨%f, H⟩
  iapply (store_pt (M := M) (r := r)) $$ [H]
  · iexact H
  rw [hw f]
  iexact Hk

/-- The device's own key/value rows, with the planes `D` stored. -/
def own (c : Dev nD) (D : Finset ℕ) : sProp 𝕄 :=
  iprop(∃ f : Buf (Elt F) (nbO.view.loc (c : Thread nD τ)), ⌜Ok m c D f⌝ ∗ pt nbO c fullShare f)

/-- A store of two planes of the own rows. -/
theorem store_planes {D : Finset ℕ} (g : ℕ) (hg : g + 1 < 16)
    {h : ∀ a, (![g, 128, 0] : Fin 3 → ℕ) a + S2x128x64.size a ≤ S16x384x64.size a} {w : S2x128x64.Idx → Elt F .bf16}
    (hw : ∀ (b : Fin 2) (r : Fin 128) (e : Fin 64), w (ix3 b r e) = kvAt m c ⟨g + b.val, by omega⟩ r e)
    {hl : nbM.view.LoadsAt (Rect.unit (s := S16x384x64) ![g, 128, 0] S2x128x64.size h).toLoadRect}
    {hx : (nbM.access (Rect.unit (s := S16x384x64) ![g, 128, 0] S2x128x64.size h)).Stores Finset.univ}
    {hm : (Finset.univ : Finset (Rect.unit (s := S16x384x64) ![g, 128, 0] S2x128x64.size h).shape.Idx) = Finset.univ
      ∨ ∀ a, (Rect.unit (s := S16x384x64) ![g, 128, 0] S2x128x64.size h).stride a = 1}
    {k : PUnit → Prog (TpuEff nD τ sig (Elt F) Λ₀ .tc) α} :
    own m c D ⊢ iprop((own m c (insert g (insert (g + 1) D)) -∗ wpc c (k ⟨⟩) Q)
        -∗ wpc c (.op (.load nbM (Rect.unit (s := S16x384x64) ![g, 128, 0] S2x128x64.size h).toLoadRect hl) fun _ =>
          .op (.store nbM (Rect.unit (s := S16x384x64) ![g, 128, 0] S2x128x64.size h) w Finset.univ hx hm) k) Q) := by
  iintro H Hk
  unfold own
  icases H with ⟨%f, %hf, H⟩
  iapply (load_set (M := nbM) (S := nbO.view.set) (load_sub 2 g 64 h)) $$ [H]
  · iexact H
  iintro H
  iapply (wp_store 𝒱₀ (c : Thread nD τ) none Set.univ (m := nbM) (r := Rect.unit (s := S16x384x64) ![g, 128, 0] S2x128x64.size h) (Mk := Finset.univ) (S := nbO.view.set) (store_sub g h)) $$ [H]
  · iexact H
  iintro H
  iapply Hk
  iexists _
  isplitr
  · ipureintro; exact ok_store m c g hf hg h w hw
  iexact H

end

/-! ## One part after another -/

/-- A part that returns `v` and turns `A` into `B`, then the rest. -/
theorem part_then {c : Dev nD} {α β : Type} {p : Prog (TpuEff nD τ sig (Elt F) Λ₀ .tc) α} {k : α → Prog (TpuEff nD τ sig (Elt F) Λ₀ .tc) β}
    {A B R : sProp 𝕄} {v : α} {Q : β → sProp 𝕄} (h : A ⊢ wpc c p (fun x => iprop(⌜x = v⌝ ∗ B))) (hk : iprop(B ∗ R) ⊢ wpc c (k v) Q) :
    iprop(A ∗ R) ⊢ wpc c (p >>= k) Q := by
  unfold wpc
  rw [wp_bind]
  iintro ⟨HA, HR⟩
  ihave H := h $$ HA
  iapply wp_wand_r
  isplitl [H]; · iexact H
  iintro %x ⟨%hx, HB⟩
  subst hx
  iapply hk
  isplitl [HB] <;> iassumption

end Cert.Sparse
-- ==== Proof.Body6.lean ====
/-
# The barrier's wait, device 0's copies of its first 32 query rows, the first keys and values stored
-/
module

public import proofs.«01_k».proof.Proof.Steps

@[expose] public section

noncomputable section

namespace Cert.Sparse

open Cert.KernelIdeal Cert.KernelIdeal.Gen
open Idealize.ShloMosaic
open Idealize.ShloMosaic.TcCoe
open Idealize.ShloMosaic.ValueIdx (ix3 ix4 ix5)
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig Unit (Elt F) ℕ UU ℕ

variable (m : (ℓ : Loc nD τ sig) → Buf (Elt F) ℓ) (K : Dev nD × Fin 22 → ℕ)

/-! ## What the barrier's signals open -/

theorem one_of {s : Finset (Dev nD)} {a : Dev nD} (h : a ∈ s) (Φ : Dev nD → sProp 𝕄) :
    bigSep s (fun p => onlyIf (p = a) (Φ p)) ⊢ Φ a := by
  have e : bigSep s (fun p => onlyIf (p = a) (Φ p)) ⊢ onlyIf (a = a) (Φ a) := bigSep_elim h
  rwa [onlyIf_pos rfl] at e

/-- The five middle devices' buffers of one kind. -/
abbrev mids {s : Shape} {e : EltTy} (M : Memref sig .tc .vmem s e) : sProp 𝕄 :=
  iprop(ptE M 2 ∗ ptE M 3 ∗ ptE M 4 ∗ ptE M 5 ∗ ptE M 6)

/-- What a signal from `p` opens at device 0, when `p` is a middle device. -/
abbrev mid2 (p : Dev nD) : sProp 𝕄 := onlyIf ((0 : Dev nD).val = 0 ∧ Mid p) iprop(ptE qM p ∗ ptE gM p)
theorem mid2_out (p : Dev nD) (h : Mid p) : mid2 p ⊢ (iprop(ptE qM p ∗ ptE gM p) : sProp 𝕄) := of_onlyIf ⟨rfl, h⟩ _

theorem bar_mids : bigSep (pay 0 0) (fun p => mid2 p) ⊢ (iprop(mids qM ∗ mids gM) : sProp 𝕄) := by
  have e : bigSep (pay 0 0) (fun p => mid2 p) = (iprop(mid2 1 ∗ mid2 2 ∗ mid2 3 ∗ mid2 4 ∗ mid2 5 ∗ mid2 6 ∗ mid2 7) : sProp 𝕄) :=
    bigSep_eq_bigSepL_of_eq (S := pay 0 0) [1, 2, 3, 4, 5, 6, 7] (by decide +kernel) (by decide) _
  rw [e]
  iintro ⟨-, H2, H3, H4, H5, H6, -⟩
  ihave H2 := (mid2_out 2 (by decide)) $$ H2
  ihave H3 := (mid2_out 3 (by decide)) $$ H3
  ihave H4 := (mid2_out 4 (by decide)) $$ H4
  ihave H5 := (mid2_out 5 (by decide)) $$ H5
  ihave H6 := (mid2_out 6 (by decide)) $$ H6
  icases H2 with ⟨Q2, G2⟩
  icases H3 with ⟨Q3, G3⟩
  icases H4 with ⟨Q4, G4⟩
  icases H5 with ⟨Q5, G5⟩
  icases H6 with ⟨Q6, G6⟩
  isplitl [Q2 Q3 Q4 Q5 Q6]
  · isplitl [Q2]; · iexact Q2
    isplitl [Q3]; · iexact Q3
    isplitl [Q4]; · iexact Q4
    isplitl [Q5]; · iexact Q5
    iexact Q6
  · isplitl [G2]; · iexact G2
    isplitl [G3]; · iexact G3
    isplitl [G4]; · iexact G4
    isplitl [G5]; · iexact G5
    iexact G6

/-- All that the barrier's signals open to device `c`. -/
theorem bar_got (c : Dev nD) : bigSep (pay c 0) (fun p => payP m 0 c p)
    ⊢ (iprop(ptE nbL (nxt c) ∗ ptE nbR (prv c) ∗ onlyIf (c = 0) iprop(mids qM ∗ mids gM) ∗ onlyIf (Leaf c) (ptE agM (aggOf c))
      ∗ onlyIf (Snd c) (ptE (slotM (slotOf c)) 0)) : sProp 𝕄) := by
  have e : bigSep (pay c 0) (fun p => payP m 0 c p) = iprop(bigSep (pay c 0) (fun p => onlyIf (p = nxt c) (ptE nbL p))
      ∗ bigSep (pay c 0) (fun p => onlyIf (p = prv c) (ptE nbR p))
      ∗ bigSep (pay c 0) (fun p => onlyIf (c.val = 0 ∧ Mid p) iprop(ptE qM p ∗ ptE gM p))
      ∗ bigSep (pay c 0) (fun p => onlyIf (Leaf c ∧ p = aggOf c) (ptE agM p))
      ∗ bigSep (pay c 0) (fun p => onlyIf (Snd c ∧ p.val = 0) (ptE (slotM (slotOf c)) p))) := by
    rw [← bigSep_sep', ← bigSep_sep', ← bigSep_sep', ← bigSep_sep']; rfl
  rw [e]
  iintro ⟨H1, H2, H3, H4, H5⟩
  isplitl [H1]
  · iapply (one_of (F := F) ((by decide : ∀ c : Dev nD, nxt c ∈ pay c 0) c) (fun p => ptE nbL p)); iexact H1
  isplitl [H2]
  · iapply (one_of (F := F) ((by decide : ∀ c : Dev nD, prv c ∈ pay c 0) c) (fun p => ptE nbR p)); iexact H2
  isplitl [H3]
  · by_cases h : c = 0
    · subst h
      iapply (to_onlyIf (F := F) (rfl : (0 : Dev nD) = 0)); iapply (bar_mids (F := F)); iexact H3
    · iapply (emp_onlyIf (F := F) h); iempintro
  isplitl [H4]
  · by_cases h : Leaf c
    · have e4 : bigSep (pay c 0) (fun p => onlyIf (Leaf c ∧ p = aggOf c) (ptE agM p)) ⊢ (ptE agM (aggOf c) : sProp 𝕄) :=
        (bigSep_elim ((by decide : ∀ c : Dev nD, Leaf c → aggOf c ∈ pay c 0) c h)).trans (of_onlyIf ⟨h, rfl⟩ _)
      iapply (to_onlyIf (F := F) h); iapply e4; iexact H4
    · iapply (emp_onlyIf (F := F) h); iempintro
  · by_cases h : Snd c
    · have e5 : bigSep (pay c 0) (fun p => onlyIf (Snd c ∧ p.val = 0) (ptE (slotM (slotOf c)) p)) ⊢ (ptE (slotM (slotOf c)) 0 : sProp 𝕄) :=
        (bigSep_elim ((by decide : ∀ c : Dev nD, Snd c → (0 : Dev nD) ∈ pay c 0) c h)).trans (of_onlyIf ⟨h, rfl⟩ _)
      iapply (to_onlyIf (F := F) h); iapply e5; iexact H5
    · iapply (emp_onlyIf (F := F) h); iempintro

/-! ## Device 0's copies of its first query rows -/

/-- A share is its two halves. -/
theorem half_split {s : Shape} {e : EltTy} (M : Memref sig .tc .vmem s e) (c : Dev nD) (q : PosShare TreeShare) (f : Buf (Elt F) (M.view.loc (c : Thread nD τ))) :
    (pt M c q f : sProp 𝕄) ⊢ iprop(pt M c q.left f ∗ pt M c q.right f) := (pointsTo_share (PosShare.mem_left_op_right q)).1
theorem half_join {s : Shape} {e : EltTy} (M : Memref sig .tc .vmem s e) (c : Dev nD) (q : PosShare TreeShare) (f : Buf (Elt F) (M.view.loc (c : Thread nD τ))) :
    iprop(pt M c q.left f ∗ pt M c q.right f) ⊢ (pt M c q f : sProp 𝕄) := (pointsTo_share (PosShare.mem_left_op_right q)).2

/-- And its five shares. -/
theorem five_split {s : Shape} {e : EltTy} (M : Memref sig .tc .vmem s e) (c : Dev nD) (q : PosShare TreeShare) (f : Buf (Elt F) (M.view.loc (c : Thread nD τ))) :
    (pt M c q f : sProp 𝕄) ⊢ iprop(pt M c (sh q 0) f ∗ pt M c (sh q 1) f ∗ pt M c (sh q 2) f ∗ pt M c (sh q 3) f ∗ pt M c (sh q 4) f) := by
  iintro H
  ihave H := (half_split M c q f) $$ H
  icases H with ⟨H0, H⟩
  ihave H := (half_split M c q.right f) $$ H
  icases H with ⟨H1, H⟩
  ihave H := (half_split M c q.right.right f) $$ H
  icases H with ⟨H2, H⟩
  ihave H := (half_split M c q.right.right.right f) $$ H
  icases H with ⟨H3, H⟩
  isplitl [H0]; · iexact H0
  isplitl [H1]; · iexact H1
  isplitl [H2]; · iexact H2
  isplitl [H3]; · iexact H3
  iexact H
theorem five_join {s : Shape} {e : EltTy} (M : Memref sig .tc .vmem s e) (c : Dev nD) (q : PosShare TreeShare) (f : Buf (Elt F) (M.view.loc (c : Thread nD τ))) :
    iprop(pt M c (sh q 0) f ∗ pt M c (sh q 1) f ∗ pt M c (sh q 2) f ∗ pt M c (sh q 3) f ∗ pt M c (sh q 4) f) ⊢ (pt M c q f : sProp 𝕄) := by
  iintro ⟨H0, H1, H2, H3, H4⟩
  iapply (half_join M c q f)
  isplitl [H0]; · iexact H0
  iapply (half_join M c q.right f)
  isplitl [H1]; · iexact H1
  iapply (half_join M c q.right.right f)
  isplitl [H2]; · iexact H2
  iapply (half_join M c q.right.right.right f)
  isplitl [H3]; · iexact H3
  iexact H4

theorem send_q (i : Fin 5) (kS : Fin 22) (hkS : kS.val = 5 + i.val) (d : Dev nD) (hd : d.val = 2 + i.val)
    {T : Finset (Dev nD × Fin 22)} {S C : Finset (Fin 22)} {sS sem : SemLoc sig} (hsS : sS = csem kS) (hsR : sem = csem 10)
    {n : ℕ} {hn : n < nD} (hdn : n = d.val)
    {hsc : (show Memref sig (Dev.tc (⟨n, hn⟩ : Dev nD) : Thread nD τ).2.kind .vmem S8x32x64 .bf16 from qM).view.ref.isScScratch = false}
    {hsrc : qM.view.WordExact} {hdst : qM.view.WordExact}
    {hsem : DmaTarget.Typed .vmem sem (.remote (Dev.tc (⟨n, hn⟩ : Dev nD) : Thread nD τ) qM sS hsc)}
    (hTS : ((0 : Dev nD), kS) ∈ T) (hTR : (d, (10 : Fin 22)) ∈ T) (hC : kS ∉ C)
    {α : Type} {Q : α → sProp 𝕄} {k : PUnit → Prog (TpuEff nD τ sig (Elt F) Λ₀ .tc) α} :
    iprop(Env m K ∗ St 0 T S C ∗ pt qM 0 (sh fullShare i) (qF m) ∗ ptE qM d)
      ⊢ iprop((St 0 ((T.erase (0, kS)).erase (d, 10)) S (insert kS C)
            -∗ wp frame (wpE (defs₀ (F := F)) 𝒱₀ ((0 : Dev nD) : Thread nD τ) none) Set.univ (k ⟨⟩) Q)
          -∗ wp frame (wpE (defs₀ (F := F)) 𝒱₀ ((0 : Dev nD) : Thread nD τ) none) Set.univ
              (.op (.enqueueDma qM (.remote (Dev.tc (⟨n, hn⟩ : Dev nD) : Thread nD τ) qM sS hsc) sem hsrc hdst hsem) k) Q) := by
  subst hdn
  have e5 : pay 0 kS = {0} := (by decide : ∀ k : Fin 22, 5 ≤ k.val → k.val ≤ 9 → pay 0 k = {0}) kS (by omega) (by omega)
  have e10 : (0 : Dev nD) ∈ pay d 10 := (by decide : ∀ d : Dev nD, 2 ≤ d.val → d.val ≤ 6 → (0 : Dev nD) ∈ pay d 10) d (by omega) (by omega)
  have hp : (pt qM 0 (sh fullShare i) (qF m) : sProp 𝕄) ⊢ payP m kS 0 0 := by
    rcases i with ⟨i, hi⟩
    interval_cases i
    · obtain rfl : kS = 5 := Fin.ext hkS; exact Entails.rfl
    · obtain rfl : kS = 6 := Fin.ext hkS; exact Entails.rfl
    · obtain rfl : kS = 7 := Fin.ext hkS; exact Entails.rfl
    · obtain rfl : kS = 8 := Fin.ext hkS; exact Entails.rfl
    · obtain rfl : kS = 9 := Fin.ext hkS; exact Entails.rfl
  iintro ⟨#HE, HS, H1, H2⟩
  unfold ptE
  icases H2 with ⟨%fd, H2⟩
  iapply (st_send m K (c := 0) (d := d) kS 10 hsS hsR hTS hTR (by intro h; rw [h] at hkS; have : (10 : Fin 22).val = 10 := rfl; omega)
    ((by decide : ∀ k : Fin 22, 5 ≤ k.val → k.val ≤ 9 → ¬Owed k) kS (by omega) (by omega)) (by decide) hC e5 e10 (by subst hsR; rfl)
    ((by decide : ∀ k : Fin 22, 5 ≤ k.val → k.val ≤ 9 → amt k = amt 10) kS (by omega) (by omega)) fd hp (land_q m d fd)) $$ [HS H1 H2]
  isplitr; · iexact HE
  isplitl [HS]; · iexact HS
  isplitl [H1]; · iexact H1
  iexact H2

/-- Device 0 computes its first 32 query rows and copies them to the five middle devices. -/
theorem part1 (h5 : k0_cond5 0 = 1#1) {v : FVec F S512x256 .bf16} (hv : k0_pay1 v (ld xM rX32 (xB m 0)) = qF m)
    {α : Type} {Q : α → sProp 𝕄} {k : PUnit → Prog (TpuEff nD τ sig (Elt F) Λ₀ .tc) α} :
    iprop(Env m K ∗ St 0 (Tk 0 (Finset.univ \ {0})) (Sk 0 {0}) (Ck 0 ∅ {0}) ∗ pt xM 0 fullShare (xB m 0) ∗ ptE qM 0 ∗ mids qM)
      ⊢ iprop(((St 0 (((((((((Tk 0 (Finset.univ \ {0})).erase (0, 5)).erase (2, 10)).erase (0, 6)).erase (3, 10)).erase (0, 7)).erase (4, 10)).erase (0, 8)).erase (5, 10))
              (Sk 0 {0}) (insert 8 (insert 7 (insert 6 (insert 5 (Ck 0 ∅ {0}))))) ∗ pt xM 0 fullShare (xB m 0)
              ∗ pt qM 0 (sh fullShare 4) (qF m) ∗ ptE qM 6) -∗ wpc 0 (k ⟨⟩) Q)
          -∗ wpc 0 (K1 0 v h5 >>= k) Q) := by
  simp only [K1, k0_part1_eq_skeleton]; unfold k0_part1_skel
  simp only [Prog.lift, Prog.bind_op, Prog.bind_ret, Prog.pure_eq_ret]
  iintro ⟨#HE, HS, HX, HQ, Q2, Q3, Q4, Q5, Q6⟩ Hk
  iapply (load_pt (M := xM)) $$ [HX]
  · iexact HX
  iintro HX
  iapply (store_all (M := qM) (qF m) (fun f => (Memref.write_access_unit_zero_univ (Elt F) cc0_scratch1 (by funext a; fin_cases a <;> rfl) _ f _).trans hv)) $$ [HQ]
  · iexact HQ
  iintro HQ
  ihave HQ := (five_split qM 0 fullShare (qF m)) $$ HQ
  icases HQ with ⟨A0, A1, A2, A3, A4⟩
  iapply (send_q m K 0 5 rfl 2 rfl (T := Tk 0 (Finset.univ \ {0})) (C := Ck 0 ∅ {0}) rfl rfl k0_dev9_eq (by decide +kernel) (by decide +kernel) (by decide +kernel)) $$ [HS A0 Q2]
  · isplitr; · iexact HE
    isplitl [HS]; · iexact HS
    isplitl [A0] <;> iassumption
  iintro HS
  iapply (send_q m K 1 6 rfl 3 rfl (T := ((Tk 0 (Finset.univ \ {0})).erase (0, 5)).erase (2, 10)) (C := insert 5 (Ck 0 ∅ {0})) rfl rfl k0_dev10_eq (by decide +kernel) (by decide +kernel) (by decide +kernel)) $$ [HS A1 Q3]
  · isplitr; · iexact HE
    isplitl [HS]; · iexact HS
    isplitl [A1] <;> iassumption
  iintro HS
  iapply (send_q m K 2 7 rfl 4 rfl (T := ((((Tk 0 (Finset.univ \ {0})).erase (0, 5)).erase (2, 10)).erase (0, 6)).erase (3, 10)) (C := insert 6 (insert 5 (Ck 0 ∅ {0}))) rfl rfl k0_dev11_eq (by decide +kernel) (by decide +kernel) (by decide +kernel)) $$ [HS A2 Q4]
  · isplitr; · iexact HE
    isplitl [HS]; · iexact HS
    isplitl [A2] <;> iassumption
  iintro HS
  iapply (send_q m K 3 8 rfl 5 rfl (T := ((((((Tk 0 (Finset.univ \ {0})).erase (0, 5)).erase (2, 10)).erase (0, 6)).erase (3, 10)).erase (0, 7)).erase (4, 10)) (C := insert 7 (insert 6 (insert 5 (Ck 0 ∅ {0})))) rfl rfl k0_dev12_eq (by decide +kernel) (by decide +kernel) (by decide +kernel)) $$ [HS A3 Q5]
  · isplitr; · iexact HE
    isplitl [HS]; · iexact HS
    isplitl [A3] <;> iassumption
  iintro HS
  iapply Hk
  isplitl [HS]; · iexact HS
  isplitl [HX]; · iexact HX
  isplitl [A4]; · iexact A4
  iexact Q6

/-- The stores of the first keys and values, and the load of the next: the end of the part. -/
theorem part6_end (c : Dev nD) {v : FVec F S512x256 .bf16}
    {h1 h2 h3 h4 h5 h6 h7 h8 h9}
    {Q : (Σ' (_ : FVec F S512x256 .bf16), FVec F S2x128x64 .bf16) → sProp 𝕄} :
    iprop(pt kM c fullShare (kB m c) ∗ pt vM c fullShare (vB m c) ∗ ptE nbO c)
      ⊢ iprop(((pt kM c fullShare (kB m c) ∗ pt vM c fullShare (vB m c) ∗ own m c {8, 9, 0, 1})
          -∗ Q ⟨v, k0_pay6 (ld kM (Rect.unit (s := S2x128x4x64) ![0, 0, 1, 0] S2x128x1x64.size inb_S2x128x4x64_S2x128x1x64_0_0_1_0) (kB m c))⟩)
        -∗ wpc c (.op (.load kM (Rect.unit (s := S2x128x4x64) ![0, 0, 0, 0] S2x128x1x64.size inb_S2x128x4x64_S2x128x1x64_0_0_0_0).toLoadRect h1) fun v38 =>
            .op (.load nbM (Rect.unit (s := S16x384x64) ![0, 128, 0] S2x128x64.size inb_S16x384x64_S2x128x64_0_128_0).toLoadRect h2) fun _ =>
            .op (.store nbM (Rect.unit (s := S16x384x64) ![0, 128, 0] S2x128x64.size inb_S16x384x64_S2x128x64_0_128_0) (k0_pay4 v38) Finset.univ h3 h4) fun _ =>
            .op (.load vM (Rect.unit (s := S2x128x4x64) ![0, 0, 0, 0] S2x128x1x64.size inb_S2x128x4x64_S2x128x1x64_0_0_0_0).toLoadRect h5) fun v43 =>
            .op (.load nbM (Rect.unit (s := S16x384x64) ![8, 128, 0] S2x128x64.size inb_S16x384x64_S2x128x64_8_128_0).toLoadRect h6) fun _ =>
            .op (.store nbM (Rect.unit (s := S16x384x64) ![8, 128, 0] S2x128x64.size inb_S16x384x64_S2x128x64_8_128_0) (k0_pay5 v43) Finset.univ h7 h8) fun _ =>
            .op (.load kM (Rect.unit (s := S2x128x4x64) ![0, 0, 1, 0] S2x128x1x64.size inb_S2x128x4x64_S2x128x1x64_0_0_1_0).toLoadRect h9) fun v48 =>
            .ret ⟨v, k0_pay6 v48⟩) Q) := by
  iintro ⟨HK, HV, HN⟩ Hk
  ihave HO : own m c ∅ $$ [HN]
  · unfold ptE own
    icases HN with ⟨%f, HN⟩
    iexists f
    isplitr; · ipureintro; exact ok_empty m c f
    iexact HN
  iapply (load_pt (M := kM)) $$ [HK]
  · iexact HK
  iintro HK
  iapply (store_planes m (c := c) (D := ∅) 0 (by decide) (fun b r e => pay_k m c 0 (by decide) _ b r e)) $$ [HO]
  · iexact HO
  iintro HO
  iapply (load_pt (M := vM)) $$ [HV]
  · iexact HV
  iintro HV
  iapply (store_planes m (c := c) 8 (by decide) (fun b r e => pay_v m c 0 (by decide) _ b r e)) $$ [HO]
  · iexact HO
  iintro HO
  iapply (load_pt (M := kM)) $$ [HK]
  · iexact HK
  iintro HK
  iapply (wpc_ret c)
  iapply Hk
  isplitl [HK]; · iexact HK
  isplitl [HV]; · iexact HV
  iexact HO

/-- The projected weights a device holds, -/
abbrev wq (c : Dev nD) : FVec F S512x256 .bf16 := k0_pay3 (ld wqM rWq (wqB m c))
/-- and the second head of its keys. -/
abbrev hd1 (c : Dev nD) : FVec F S2x128x64 .bf16 :=
  k0_pay6 (ld kM (Rect.unit (s := S2x128x4x64) ![0, 0, 1, 0] S2x128x1x64.size inb_S2x128x4x64_S2x128x1x64_0_0_1_0) (kB m c))

set_option maxHeartbeats 1000000 in
theorem part6 (c : Dev nD) :
    iprop(Env m K ∗ St c (Tk c (Finset.univ \ {0})) (Sk c ∅) (Ck c ∅ ∅) ∗ pt xM c fullShare (xB m c) ∗ pt wqM c fullShare (wqB m c)
        ∗ pt kM c fullShare (kB m c) ∗ pt vM c fullShare (vB m c) ∗ ptE nbO c ∗ onlyIf (c = 0) (ptE qM c))
      ⊢ wpc c (K6 c (w8 c) (w11 c) (SemArray.scalar (sig.barrier 0 rfl))) (fun v => iprop(⌜v = ⟨wq m c, hd1 m c⟩⌝
          ∗ St c (Tk c (Finset.univ \ {0, 5, 6, 7, 8, 9, 10})) (Sk c {0}) (Ck c {5, 6, 7, 8, 9} {0})
          ∗ pt xM c fullShare (xB m c) ∗ pt wqM c fullShare (wqB m c) ∗ pt kM c fullShare (kB m c) ∗ pt vM c fullShare (vB m c)
          ∗ own m c {8, 9, 0, 1} ∗ ptE nbL (nxt c) ∗ ptE nbR (prv c) ∗ onlyIf (c = 0) (mids gM) ∗ onlyIf (Leaf c) (ptE agM (aggOf c))
          ∗ onlyIf (Snd c) (ptE (slotM (slotOf c)) 0))) := by
  simp only [K6, k0_part6_eq_skeleton]; unfold k0_part6_skel
  simp only [semWaitWord, Prog.lift, Prog.bind_op, Prog.bind_ret, Prog.pure_eq_ret]
  by_cases h0 : c = 0
  · subst h0
    rw [onlyIf_pos (rfl : (0 : Dev nD) = 0), onlyIf_pos (rfl : (0 : Dev nD) = 0)]
    simp only [dif_pos ((zero_iff 0).2 rfl), dif_neg (fun h => absurd ((mid_iff 0).1 h) (by decide) : ¬Scalar.cmpi .ne (Scalar.extui (w11 0) : BitVec 32) 0#32 = 1#1),
      dif_pos ((cond5_iff 0).2 rfl), Prog.bind_op, Prog.bind_ret, Prog.bind_assoc]
    iintro ⟨#HE, HS, HX, HW, HK, HV, HN, HQ⟩
    iapply (st_wait_two m K 2 5 (by decide +kernel) (T := Tk 0 (Finset.univ \ {0})) (S := Sk 0 ∅) (C := Ck 0 ∅ ∅) (by decide +kernel) (by decide +kernel) (by decide +kernel)) $$ [HS]
    · isplitr; · iexact HE
      iexact HS
    iintro ⟨HS, HB⟩
    ihave HB := (bar_got m 0) $$ HB
    icases HB with ⟨BL, BR, BQ, BA, BS⟩
    ihave BQ := (of_onlyIf (F := F) (rfl : (0 : Dev nD) = 0) _) $$ BQ
    icases BQ with ⟨BQ, BG⟩
    iapply (load_pt (M := wqM)) $$ [HW]
    · iexact HW
    iintro HW
    iapply (part1 m K ((cond5_iff 0).2 rfl) (v := wq m 0) rfl) $$ [HS HX HQ BQ]
    · isplitr; · iexact HE
      isplitl [HS]
      · iapply (st_eq (S := (Sk 0 ∅).erase 0) (C := (Ck 0 ∅ ∅).erase 0) rfl (by decide +kernel) (by decide +kernel)); iexact HS
      isplitl [HX]; · iexact HX
      isplitl [HQ]; · iexact HQ
      iexact BQ
    iintro ⟨HS, HX, A4, Q6⟩
    iapply (send_q m K 4 9 rfl 6 rfl (T := ((((((((Tk 0 (Finset.univ \ {0})).erase (0, 5)).erase (2, 10)).erase (0, 6)).erase (3, 10)).erase (0, 7)).erase (4, 10)).erase (0, 8)).erase (5, 10)) (C := insert 8 (insert 7 (insert 6 (insert 5 (Ck 0 ∅ {0}))))) rfl rfl k0_dev13_eq (by decide +kernel) (by decide +kernel) (by decide +kernel)) $$ [HS A4 Q6]
    · isplitr; · iexact HE
      isplitl [HS]; · iexact HS
      isplitl [A4] <;> iassumption
    iintro HS
    iapply (part6_end m 0) $$ [HK HV HN]
    · isplitl [HK]; · iexact HK
      isplitl [HV] <;> iassumption
    iintro ⟨HK, HV, HO⟩
    isplitr; · ipureintro; rfl
    isplitl [HS]
    · iapply (st_eq (T := ((((((((((Tk 0 (Finset.univ \ {0})).erase (0, 5)).erase (2, 10)).erase (0, 6)).erase (3, 10)).erase (0, 7)).erase (4, 10)).erase (0, 8)).erase (5, 10)).erase (0, 9)).erase (6, 10)) (C := insert 9 (insert 8 (insert 7 (insert 6 (insert 5 (Ck 0 ∅ {0})))))) (by decide +kernel) rfl (by decide +kernel)); iexact HS
    isplitl [HX]; · iexact HX
    isplitl [HW]; · iexact HW
    isplitl [HK]; · iexact HK
    isplitl [HV]; · iexact HV
    isplitl [HO]; · iexact HO
    isplitl [BL]; · iexact BL
    isplitl [BR]; · iexact BR
    isplitl [BG]; · iexact BG
    isplitl [BA] <;> iassumption
  simp only [dif_neg (fun h => h0 ((zero_iff c).1 h) : ¬Scalar.cmpi .ne (Scalar.extui (w8 c) : BitVec 32) 0#32 = 1#1),
    dif_neg (fun h => h0 ((cond5_iff c).1 h) : ¬k0_cond5 c = 1#1), Prog.bind_ret]
  by_cases h2 : Mid c
  · simp only [dif_pos ((mid_iff c).2 h2), Prog.bind_op, Prog.bind_ret]
    iintro ⟨#HE, HS, HX, HW, HK, HV, HN, HQ⟩
    iapply (st_wait_two m K 2 1 (by revert c; decide +kernel) (T := Tk c (Finset.univ \ {0})) (S := Sk c ∅) (C := Ck c ∅ ∅) (by revert c; decide +kernel) (by revert c; decide +kernel) (by revert c; decide +kernel)) $$ [HS]
    · isplitr; · iexact HE
      iexact HS
    iintro ⟨HS, HB⟩
    ihave HB := (bar_got m c) $$ HB
    icases HB with ⟨BL, BR, BQ, BA, BS⟩
    iapply (load_pt (M := wqM)) $$ [HW]
    · iexact HW
    iintro HW
    iapply (part6_end m c) $$ [HK HV HN]
    · isplitl [HK]; · iexact HK
      isplitl [HV] <;> iassumption
    iintro ⟨HK, HV, HO⟩
    isplitr; · ipureintro; rfl
    isplitl [HS]
    · iapply (st_eq (T := Tk c (Finset.univ \ {0})) (S := (Sk c ∅).erase 0) (C := (Ck c ∅ ∅).erase 0) (by revert c; decide +kernel) (by revert c; decide +kernel) (by revert c; decide +kernel)); iexact HS
    isplitl [HX]; · iexact HX
    isplitl [HW]; · iexact HW
    isplitl [HK]; · iexact HK
    isplitl [HV]; · iexact HV
    isplitl [HO]; · iexact HO
    isplitl [BL]; · iexact BL
    isplitl [BR]; · iexact BR
    isplitr; · iapply (emp_onlyIf (F := F) h0); iempintro
    isplitl [BA] <;> iassumption
  · simp only [dif_neg (fun h => h2 ((mid_iff c).1 h) : ¬Scalar.cmpi .ne (Scalar.extui (w11 c) : BitVec 32) 0#32 = 1#1), Prog.bind_ret]
    iintro ⟨#HE, HS, HX, HW, HK, HV, HN, HQ⟩
    iapply (st_wait m K 0 (n := 2) (wpE_semWait_eq 𝒱₀ (c : Thread nD τ) none Set.univ) rfl (by revert c; decide +kernel) (T := Tk c (Finset.univ \ {0})) (S := Sk c ∅) (C := Ck c ∅ ∅) (by revert c; decide +kernel) (by revert c; decide +kernel) (by revert c; decide +kernel)) $$ [HS]
    · isplitr; · iexact HE
      iexact HS
    iintro ⟨HS, HB⟩
    ihave HB := (bar_got m c) $$ HB
    icases HB with ⟨BL, BR, BQ, BA, BS⟩
    iapply (load_pt (M := wqM)) $$ [HW]
    · iexact HW
    iintro HW
    iapply (part6_end m c) $$ [HK HV HN]
    · isplitl [HK]; · iexact HK
      isplitl [HV] <;> iassumption
    iintro ⟨HK, HV, HO⟩
    isplitr; · ipureintro; rfl
    isplitl [HS]
    · iapply (st_eq (T := Tk c (Finset.univ \ {0})) (S := (Sk c ∅).erase 0) (C := (Ck c ∅ ∅).erase 0) (by revert c; decide +kernel) (by revert c; decide +kernel) (by revert c; decide +kernel)); iexact HS
    isplitl [HX]; · iexact HX
    isplitl [HW]; · iexact HW
    isplitl [HK]; · iexact HK
    isplitl [HV]; · iexact HV
    isplitl [HO]; · iexact HO
    isplitl [BL]; · iexact BL
    isplitl [BR]; · iexact BR
    isplitr; · iapply (emp_onlyIf (F := F) h0); iempintro
    isplitl [BA] <;> iassumption

end Cert.Sparse
-- ==== Proof.Body8.lean ====
/-
# The other keys and values stored; device 0's copies of its first rows, the copy to the right
-/
module

public import proofs.«01_k».proof.Proof.Body6

@[expose] public section

noncomputable section

namespace Cert.Sparse

open Cert.KernelIdeal Cert.KernelIdeal.Gen
open Idealize.ShloMosaic
open Idealize.ShloMosaic.TcCoe
open Idealize.ShloMosaic.ValueIdx (ix3 ix4 ix5)
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig Unit (Elt F) ℕ UU ℕ

variable (m : (ℓ : Loc nD τ sig) → Buf (Elt F) ℓ) (K : Dev nD × Fin 22 → ℕ)

/-- The kinds of raise left after device 0's copies of its query rows, -/
abbrev kR6 : Finset (Fin 22) := Finset.univ \ {0, 5, 6, 7, 8, 9, 10}
/-- the cells of those copies. -/
abbrev kQ : Finset (Fin 22) := {5, 6, 7, 8, 9}

theorem part7 (c : Dev nD) :
    iprop(pt kM c fullShare (kB m c) ∗ pt vM c fullShare (vB m c) ∗ own m c {8, 9, 0, 1})
      ⊢ wpc c (K7 (hd1 m c)) (fun v => iprop(⌜v = ⟨⟩⌝ ∗ pt kM c fullShare (kB m c) ∗ pt vM c fullShare (vB m c)
          ∗ own m c {6, 7, 12, 13, 4, 5, 10, 11, 2, 3, 8, 9, 0, 1})) := by
  simp only [K7, k0_part7_eq_skeleton]; unfold k0_part7_skel
  simp only [Prog.lift, Prog.bind_op, Prog.bind_ret, Prog.pure_eq_ret]
  iintro ⟨HK, HV, HO⟩
  iapply (store_planes m (c := c) 2 (by decide) (fun b r e => pay_k m c 1 (by decide) _ b r e)) $$ [HO]
  · iexact HO
  iintro HO
  iapply (load_pt (M := vM)) $$ [HV]
  · iexact HV
  iintro HV
  iapply (store_planes m (c := c) 10 (by decide) (fun b r e => pay_v m c 1 (by decide) _ b r e)) $$ [HO]
  · iexact HO
  iintro HO
  iapply (load_pt (M := kM)) $$ [HK]
  · iexact HK
  iintro HK
  iapply (store_planes m (c := c) 4 (by decide) (fun b r e => pay_k m c 2 (by decide) _ b r e)) $$ [HO]
  · iexact HO
  iintro HO
  iapply (load_pt (M := vM)) $$ [HV]
  · iexact HV
  iintro HV
  iapply (store_planes m (c := c) 12 (by decide) (fun b r e => pay_v m c 2 (by decide) _ b r e)) $$ [HO]
  · iexact HO
  iintro HO
  iapply (load_pt (M := kM)) $$ [HK]
  · iexact HK
  iintro HK
  iapply (store_planes m (c := c) 6 (by decide) (fun b r e => pay_k m c 3 (by decide) _ b r e)) $$ [HO]
  · iexact HO
  iintro HO
  iapply (wpc_ret c)
  isplitr; · ipureintro; trivial
  isplitl [HK]; · iexact HK
  isplitl [HV]; · iexact HV
  iexact HO

/-- The share of its own rows that a device reads through. -/
def qk (c : Dev nD) : PosShare TreeShare := if c = 0 then shH else shK
/-- Device 0's own rows but its first 32, at the share lent to its copies of those. -/
def keptG : sProp 𝕄 := nbM.view.loc ((0 : Dev nD) : Thread nD τ) ↦[nbO.view.set \ nbG.view.set]{shG} (nbF m 0)

theorem send_g (i : Fin 5) (kS : Fin 22) (hkS : kS.val = 11 + i.val) (d : Dev nD) (hd : d.val = 2 + i.val)
    {T : Finset (Dev nD × Fin 22)} {S C : Finset (Fin 22)} {sS sem : SemLoc sig} (hsS : sS = csem kS) (hsR : sem = csem 16)
    {n : ℕ} {hn : n < nD} (hdn : n = d.val)
    {hsc : (show Memref sig (Dev.tc (⟨n, hn⟩ : Dev nD) : Thread nD τ).2.kind .vmem S16x32x64 .bf16 from gM).view.ref.isScScratch = false}
    {hsrc : nbG.view.WordExact} {hdst : gM.view.WordExact}
    {hsem : DmaTarget.Typed .vmem sem (.remote (Dev.tc (⟨n, hn⟩ : Dev nD) : Thread nD τ) gM sS hsc)}
    (hTS : ((0 : Dev nD), kS) ∈ T) (hTR : (d, (16 : Fin 22)) ∈ T) (hC : kS ∉ C)
    {α : Type} {Q : α → sProp 𝕄} {k : PUnit → Prog (TpuEff nD τ sig (Elt F) Λ₀ .tc) α} :
    iprop(Env m K ∗ St 0 T S C ∗ pt nbG 0 (sh shG i) (nbF m 0) ∗ ptE gM d)
      ⊢ iprop((St 0 ((T.erase (0, kS)).erase (d, 16)) S (insert kS C)
            -∗ wp frame (wpE (defs₀ (F := F)) 𝒱₀ ((0 : Dev nD) : Thread nD τ) none) Set.univ (k ⟨⟩) Q)
          -∗ wp frame (wpE (defs₀ (F := F)) 𝒱₀ ((0 : Dev nD) : Thread nD τ) none) Set.univ
              (.op (.enqueueDma nbG (.remote (Dev.tc (⟨n, hn⟩ : Dev nD) : Thread nD τ) gM sS hsc) sem hsrc hdst hsem) k) Q) := by
  subst hdn
  have e5 : pay 0 kS = {0} := (by decide : ∀ k : Fin 22, 11 ≤ k.val → k.val ≤ 15 → pay 0 k = {0}) kS (by omega) (by omega)
  have e10 : (0 : Dev nD) ∈ pay d 16 := (by decide : ∀ d : Dev nD, 2 ≤ d.val → d.val ≤ 6 → (0 : Dev nD) ∈ pay d 16) d (by omega) (by omega)
  have hp : (pt nbG 0 (sh shG i) (nbF m 0) : sProp 𝕄) ⊢ payP m kS 0 0 := by
    rcases i with ⟨i, hi⟩
    interval_cases i
    · obtain rfl : kS = 11 := Fin.ext hkS; exact Entails.rfl
    · obtain rfl : kS = 12 := Fin.ext hkS; exact Entails.rfl
    · obtain rfl : kS = 13 := Fin.ext hkS; exact Entails.rfl
    · obtain rfl : kS = 14 := Fin.ext hkS; exact Entails.rfl
    · obtain rfl : kS = 15 := Fin.ext hkS; exact Entails.rfl
  iintro ⟨#HE, HS, H1, H2⟩
  unfold ptE
  icases H2 with ⟨%fd, H2⟩
  iapply (st_send m K (c := 0) (d := d) kS 16 hsS hsR hTS hTR (by intro h; rw [h] at hkS; have : (16 : Fin 22).val = 16 := rfl; omega)
    ((by decide : ∀ k : Fin 22, 11 ≤ k.val → k.val ≤ 15 → ¬Owed k) kS (by omega) (by omega)) (by decide) hC e5 e10 (by subst hsR; rfl)
    ((by decide : ∀ k : Fin 22, 11 ≤ k.val → k.val ≤ 15 → amt k = amt 16) kS (by omega) (by omega)) fd hp (land_g m d fd)) $$ [HS H1 H2]
  isplitr; · iexact HE
  isplitl [HS]; · iexact HS
  isplitl [H1]; · iexact H1
  iexact H2

/-- The first four of device 0's copies of its first 32 key and value rows. -/
theorem part2 (h7 : k0_cond7 0 = 1#1)
    {α : Type} {Q : α → sProp 𝕄} {k : (Σ' (_ : BitVec 32), BitVec 32) → Prog (TpuEff nD τ sig (Elt F) Λ₀ .tc) α} {k' : Prog (TpuEff nD τ sig (Elt F) Λ₀ .tc) α}
    (hk : ∀ x, k x = k') :
    iprop(Env m K ∗ St 0 (Tk 0 kR6) (Sk 0 {0}) (Ck 0 kQ {0}) ∗ pt nbG 0 shG (nbF m 0) ∗ mids gM)
      ⊢ iprop(((St 0 (((((((((Tk 0 kR6).erase (0, 11)).erase (2, 16)).erase (0, 12)).erase (3, 16)).erase (0, 13)).erase (4, 16)).erase (0, 14)).erase (5, 16))
              (Sk 0 {0}) (insert 14 (insert 13 (insert 12 (insert 11 (Ck 0 kQ {0})))))
              ∗ pt nbG 0 (sh shG 4) (nbF m 0) ∗ ptE gM 6) -∗ wpc 0 k' Q)
          -∗ wpc 0 (K2 0 h7 >>= k) Q) := by
  simp only [K2, k0_part2_eq_skeleton]; unfold k0_part2_skel
  simp only [Prog.lift, Prog.bind_op, Prog.bind_ret, Prog.pure_eq_ret, hk]
  iintro ⟨#HE, HS, HG, G2, G3, G4, G5, G6⟩ Hk
  ihave HG := (five_split nbG 0 shG (nbF m 0)) $$ HG
  icases HG with ⟨A0, A1, A2, A3, A4⟩
  iapply (send_g m K 0 11 rfl 2 rfl (T := Tk 0 kR6) (C := Ck 0 kQ {0}) rfl rfl k0_dev14_eq (by decide +kernel) (by decide +kernel) (by decide +kernel)) $$ [HS A0 G2]
  · isplitr; · iexact HE
    isplitl [HS]; · iexact HS
    isplitl [A0] <;> iassumption
  iintro HS
  iapply (send_g m K 1 12 rfl 3 rfl (T := ((Tk 0 kR6).erase (0, 11)).erase (2, 16)) (C := insert 11 (Ck 0 kQ {0})) rfl rfl k0_dev15_eq (by decide +kernel) (by decide +kernel) (by decide +kernel)) $$ [HS A1 G3]
  · isplitr; · iexact HE
    isplitl [HS]; · iexact HS
    isplitl [A1] <;> iassumption
  iintro HS
  iapply (send_g m K 2 13 rfl 4 rfl (T := ((((Tk 0 kR6).erase (0, 11)).erase (2, 16)).erase (0, 12)).erase (3, 16)) (C := insert 12 (insert 11 (Ck 0 kQ {0}))) rfl rfl k0_dev16_eq (by decide +kernel) (by decide +kernel) (by decide +kernel)) $$ [HS A2 G4]
  · isplitr; · iexact HE
    isplitl [HS]; · iexact HS
    isplitl [A2] <;> iassumption
  iintro HS
  iapply (send_g m K 3 14 rfl 5 rfl (T := ((((((Tk 0 kR6).erase (0, 11)).erase (2, 16)).erase (0, 12)).erase (3, 16)).erase (0, 13)).erase (4, 16)) (C := insert 13 (insert 12 (insert 11 (Ck 0 kQ {0})))) rfl rfl k0_dev17_eq (by decide +kernel) (by decide +kernel) (by decide +kernel)) $$ [HS A3 G5]
  · isplitr; · iexact HE
    isplitl [HS]; · iexact HS
    isplitl [A3] <;> iassumption
  iintro HS
  iapply Hk
  isplitl [HS]; · iexact HS
  isplitl [A4]; · iexact A4
  iexact G6

/-- All planes stored: the own rows whole, at the shares of their two copies and the kept one. -/
theorem own_full (c : Dev nD) : own m c {14, 15, 6, 7, 12, 13, 4, 5, 10, 11, 2, 3, 8, 9, 0, 1}
    ⊢ (iprop(pt nbO c shR (nbF m c) ∗ pt nbO c shL (nbF m c) ∗ pt nbO c shK (nbF m c)) : sProp 𝕄) := by
  iintro H
  unfold own
  icases H with ⟨%f, %hf, H⟩
  ihave H := (ok_all m c hf (by decide) fullShare) $$ H
  ihave H := (half_split nbO c fullShare (nbF m c)) $$ H
  icases H with ⟨H1, H2⟩
  ihave H1 := (half_split nbO c fullShare.left (nbF m c)) $$ H1
  icases H1 with ⟨H0, H1⟩
  isplitl [H0]; · iexact H0
  isplitl [H1]; · iexact H1
  iexact H2

/-- Device 0's first 32 rows set apart in what it lends to its copies of them. -/
theorem lend_g : (pt nbO 0 shK (nbF m 0) : sProp 𝕄) ⊢ iprop(pt nbG 0 shG (nbF m 0) ∗ keptG m ∗ pt nbO 0 shH (nbF m 0)) := by
  have e : (pt nbO 0 shG (nbF m 0) : sProp 𝕄) ⊢ iprop(pt nbG 0 shG (nbF m 0) ∗ keptG m) := (pointsTo_split_subset nbG_sub).1
  iintro H
  ihave H := (half_split nbO 0 shK (nbF m 0)) $$ H
  icases H with ⟨H1, H2⟩
  ihave H1 := e $$ H1
  icases H1 with ⟨H0, H1⟩
  isplitl [H0]; · iexact H0
  isplitl [H1]; · iexact H1
  iexact H2

/-- The copy of its own rows to the right neighbour's left rows, -/
theorem send_right (c : Dev nD) {T : Finset (Dev nD × Fin 22)} {S C : Finset (Fin 22)} {sS sem : SemLoc sig} (hsS : sS = csem 1) (hsR : sem = csem 2)
    {n : ℕ} {hn : n < nD} (hdn : (⟨n, hn⟩ : Dev nD) = nxt c)
    {hsc : (show Memref sig (Dev.tc (⟨n, hn⟩ : Dev nD) : Thread nD τ).2.kind .vmem S16x128x64 .bf16 from nbL).view.ref.isScScratch = false}
    {hsrc : nbO.view.WordExact} {hdst : nbL.view.WordExact}
    {hsem : DmaTarget.Typed .vmem sem (.remote (Dev.tc (⟨n, hn⟩ : Dev nD) : Thread nD τ) nbL sS hsc)}
    (hTS : (c, (1 : Fin 22)) ∈ T) (hTR : (nxt c, (2 : Fin 22)) ∈ T) (hC : (1 : Fin 22) ∉ C)
    {α : Type} {Q : α → sProp 𝕄} {k : PUnit → Prog (TpuEff nD τ sig (Elt F) Λ₀ .tc) α} :
    iprop(Env m K ∗ St c T S C ∗ pt nbO c shR (nbF m c) ∗ ptE nbL (nxt c))
      ⊢ iprop((St c ((T.erase (c, 1)).erase (nxt c, 2)) S (insert 1 C) -∗ wpc c (k ⟨⟩) Q)
          -∗ wpc c (.op (.enqueueDma nbO (.remote (Dev.tc (⟨n, hn⟩ : Dev nD) : Thread nD τ) nbL sS hsc) sem hsrc hdst hsem) k) Q) := by
  obtain rfl : n = (nxt c).val := congrArg Fin.val hdn
  iintro ⟨#HE, HS, H1, H2⟩
  unfold ptE
  icases H2 with ⟨%fd, H2⟩
  iapply (st_send m K (c := c) (d := nxt c) 1 2 hsS hsR hTS hTR (by decide) (by decide) (by decide) hC rfl
    ((by decide : ∀ c : Dev nD, c ∈ pay (nxt c) 2) c) (by subst hsR; rfl) rfl fd Entails.rfl (land_left m c fd)) $$ [HS H1 H2]
  isplitr; · iexact HE
  isplitl [HS]; · iexact HS
  isplitl [H1]; · iexact H1
  iexact H2

/-- and to the left neighbour's right rows. -/
theorem send_left (c : Dev nD) {T : Finset (Dev nD × Fin 22)} {S C : Finset (Fin 22)} {sS sem : SemLoc sig} (hsS : sS = csem 3) (hsR : sem = csem 4)
    {n : ℕ} {hn : n < nD} (hdn : (⟨n, hn⟩ : Dev nD) = prv c)
    {hsc : (show Memref sig (Dev.tc (⟨n, hn⟩ : Dev nD) : Thread nD τ).2.kind .vmem S16x128x64 .bf16 from nbR).view.ref.isScScratch = false}
    {hsrc : nbO.view.WordExact} {hdst : nbR.view.WordExact}
    {hsem : DmaTarget.Typed .vmem sem (.remote (Dev.tc (⟨n, hn⟩ : Dev nD) : Thread nD τ) nbR sS hsc)}
    (hTS : (c, (3 : Fin 22)) ∈ T) (hTR : (prv c, (4 : Fin 22)) ∈ T) (hC : (3 : Fin 22) ∉ C)
    {α : Type} {Q : α → sProp 𝕄} {k : PUnit → Prog (TpuEff nD τ sig (Elt F) Λ₀ .tc) α} :
    iprop(Env m K ∗ St c T S C ∗ pt nbO c shL (nbF m c) ∗ ptE nbR (prv c))
      ⊢ iprop((St c ((T.erase (c, 3)).erase (prv c, 4)) S (insert 3 C) -∗ wpc c (k ⟨⟩) Q)
          -∗ wpc c (.op (.enqueueDma nbO (.remote (Dev.tc (⟨n, hn⟩ : Dev nD) : Thread nD τ) nbR sS hsc) sem hsrc hdst hsem) k) Q) := by
  obtain rfl : n = (prv c).val := congrArg Fin.val hdn
  iintro ⟨#HE, HS, H1, H2⟩
  unfold ptE
  icases H2 with ⟨%fd, H2⟩
  iapply (st_send m K (c := c) (d := prv c) 3 4 hsS hsR hTS hTR (by decide) (by decide) (by decide) hC rfl
    ((by decide : ∀ c : Dev nD, c ∈ pay (prv c) 4) c) (by subst hsR; rfl) rfl fd Entails.rfl (land_right m c fd)) $$ [HS H1 H2]
  isplitr; · iexact HE
  isplitl [HS]; · iexact HS
  isplitl [H1]; · iexact H1
  iexact H2

/-- The kinds of raise left after the copy to the right, -/
abbrev kR8 : Finset (Fin 22) := {3, 4, 17, 18, 19, 20, 21}
/-- the copies made by then. -/
abbrev kS8 : Finset (Fin 22) := {1, 5, 6, 7, 8, 9, 11, 12, 13, 14, 15}

set_option maxHeartbeats 1000000 in
theorem part8 (c : Dev nD) :
    iprop(Env m K ∗ St c (Tk c kR6) (Sk c {0}) (Ck c kQ {0}) ∗ pt xM c fullShare (xB m c) ∗ pt vM c fullShare (vB m c)
        ∗ own m c {6, 7, 12, 13, 4, 5, 10, 11, 2, 3, 8, 9, 0, 1} ∗ onlyIf (¬Mid c) (ptE gM c) ∗ ptE nbL (nxt c) ∗ onlyIf (c = 0) (mids gM))
      ⊢ wpc c (K8 c (w5 c) (w7 c) (w8 c) (w11 c)) (fun v => iprop(⌜v = ⟨k0_pay14 (ld xM rX (xB m c)), Scalar.muli (w5 c) 1#32⟩⌝
          ∗ St c (Tk c kR8) (Sk c {0}) (Ck c kS8 {0}) ∗ pt xM c fullShare (xB m c) ∗ pt vM c fullShare (vB m c)
          ∗ pt nbO c shL (nbF m c) ∗ pt nbO c (qk c) (nbF m c) ∗ onlyIf (c = 0) (keptG m) ∗ onlyIf (¬Mid c) (pt gM c fullShare (gC m c)))) := by
  simp only [K8, k0_part8_eq_skeleton]; unfold k0_part8_skel
  simp only [Prog.lift, Prog.bind_op, Prog.bind_ret, Prog.pure_eq_ret]
  by_cases h0 : c = 0
  · subst h0
    have h2 : ¬Mid (0 : Dev nD) := by decide
    rw [onlyIf_pos (rfl : (0 : Dev nD) = 0), onlyIf_pos (rfl : (0 : Dev nD) = 0), onlyIf_pos h2, onlyIf_pos h2]
    simp only [dif_pos ((nonmid_iff 0).2 h2), dif_pos ((cond7_iff 0).2 rfl), Prog.bind_op, Prog.bind_ret, Prog.bind_assoc]
    iintro ⟨#HE, HS, HX, HV, HO, HG, HL, HM⟩
    iapply (load_pt (M := vM)) $$ [HV]
    · iexact HV
    iintro HV
    iapply (store_planes m (c := 0) 14 (by decide) (fun b r e => pay_v m 0 3 (by decide) _ b r e)) $$ [HO]
    · iexact HO
    iintro HO
    ihave HO := (own_full m 0) $$ HO
    icases HO with ⟨OR, OL, OK⟩
    iapply (store_all (M := gM) (gC m 0) (fun f => (Memref.write_access_unit_zero_univ (Elt F) cc0_scratch2 (by funext a; fin_cases a <;> rfl) _ f _).trans (if_neg h2).symm)) $$ [HG]
    · iexact HG
    iintro HG
    iapply (load_pt (M := xM)) $$ [HX]
    · iexact HX
    iintro HX
    ihave OK := (lend_g m) $$ OK
    icases OK with ⟨OG, OT, OK⟩
    iapply (part2 m K ((cond7_iff 0).2 rfl) (fun _ => rfl)) $$ [HS OG HM]
    · isplitr; · iexact HE
      isplitl [HS]; · iexact HS
      isplitl [OG] <;> iassumption
    iintro ⟨HS, A4, G6⟩
    iapply (send_g m K 4 15 rfl 6 rfl (T := ((((((((Tk 0 kR6).erase (0, 11)).erase (2, 16)).erase (0, 12)).erase (3, 16)).erase (0, 13)).erase (4, 16)).erase (0, 14)).erase (5, 16)) (C := insert 14 (insert 13 (insert 12 (insert 11 (Ck 0 kQ {0}))))) rfl rfl k0_dev18_eq (by decide +kernel) (by decide +kernel) (by decide +kernel)) $$ [HS A4 G6]
    · isplitr; · iexact HE
      isplitl [HS]; · iexact HS
      isplitl [A4] <;> iassumption
    iintro HS
    iapply (send_right m K 0 (T := ((((((((((Tk 0 kR6).erase (0, 11)).erase (2, 16)).erase (0, 12)).erase (3, 16)).erase (0, 13)).erase (4, 16)).erase (0, 14)).erase (5, 16)).erase (0, 15)).erase (6, 16)) (S := Sk 0 {0}) (C := insert 15 (insert 14 (insert 13 (insert 12 (insert 11 (Ck 0 kQ {0})))))) rfl rfl (dev19_is 0 _) (by decide +kernel) (by decide +kernel) (by decide +kernel)) $$ [HS OR HL]
    · isplitr; · iexact HE
      isplitl [HS]; · iexact HS
      isplitl [OR] <;> iassumption
    iintro HS
    iapply (wpc_ret 0)
    isplitr; · ipureintro; rfl
    isplitl [HS]
    · iapply (st_eq (T := ((((((((((((Tk 0 kR6).erase (0, 11)).erase (2, 16)).erase (0, 12)).erase (3, 16)).erase (0, 13)).erase (4, 16)).erase (0, 14)).erase (5, 16)).erase (0, 15)).erase (6, 16)).erase (0, 1)).erase (nxt 0, 2)) (S := Sk 0 {0}) (C := insert 1 (insert 15 (insert 14 (insert 13 (insert 12 (insert 11 (Ck 0 kQ {0}))))))) (by decide +kernel) rfl (by decide +kernel)); iexact HS
    isplitl [HX]; · iexact HX
    isplitl [HV]; · iexact HV
    isplitl [OL]; · iexact OL
    isplitl [OK]; · iexact OK
    isplitl [OT]; · iexact OT
    iexact HG
  have hq : qk c = shK := if_neg h0
  simp only [dif_neg (fun h => h0 ((cond7_iff c).1 h) : ¬k0_cond7 c = 1#1), Prog.bind_ret, hq]
  by_cases h2 : Mid c
  · simp only [dif_neg (fun h => (nonmid_iff c).1 h h2 : ¬Scalar.cmpi .ne (Scalar.extui (Scalar.xori (w11 c) 1#1) : BitVec 32) 0#32 = 1#1), Prog.bind_ret]
    iintro ⟨#HE, HS, HX, HV, HO, HG, HL, HM⟩
    iapply (load_pt (M := vM)) $$ [HV]
    · iexact HV
    iintro HV
    iapply (store_planes m (c := c) 14 (by decide) (fun b r e => pay_v m c 3 (by decide) _ b r e)) $$ [HO]
    · iexact HO
    iintro HO
    ihave HO := (own_full m c) $$ HO
    icases HO with ⟨OR, OL, OK⟩
    iapply (load_pt (M := xM)) $$ [HX]
    · iexact HX
    iintro HX
    iapply (send_right m K c (T := Tk c kR6) (S := Sk c {0}) (C := Ck c kQ {0}) rfl rfl (dev19_is c _) (by revert c; decide +kernel) (by revert c; decide +kernel) (by revert c; decide +kernel)) $$ [HS OR HL]
    · isplitr; · iexact HE
      isplitl [HS]; · iexact HS
      isplitl [OR] <;> iassumption
    iintro HS
    iapply (wpc_ret c)
    isplitr; · ipureintro; rfl
    isplitl [HS]
    · iapply (st_eq (T := ((Tk c kR6).erase (c, 1)).erase (nxt c, 2)) (S := Sk c {0}) (C := insert 1 (Ck c kQ {0})) (by revert c; decide +kernel) rfl (by revert c; decide +kernel)); iexact HS
    isplitl [HX]; · iexact HX
    isplitl [HV]; · iexact HV
    isplitl [OL]; · iexact OL
    isplitl [OK]; · iexact OK
    isplitr; · iapply (emp_onlyIf (F := F) h0); iempintro
    iapply (emp_onlyIf (F := F) (not_not.2 h2)); iempintro
  · simp only [dif_pos ((nonmid_iff c).2 h2), Prog.bind_op, Prog.bind_ret]
    rw [onlyIf_pos h2, onlyIf_pos h2]
    iintro ⟨#HE, HS, HX, HV, HO, HG, HL, HM⟩
    iapply (load_pt (M := vM)) $$ [HV]
    · iexact HV
    iintro HV
    iapply (store_planes m (c := c) 14 (by decide) (fun b r e => pay_v m c 3 (by decide) _ b r e)) $$ [HO]
    · iexact HO
    iintro HO
    ihave HO := (own_full m c) $$ HO
    icases HO with ⟨OR, OL, OK⟩
    iapply (store_all (M := gM) (gC m c) (fun f => (Memref.write_access_unit_zero_univ (Elt F) cc0_scratch2 (by funext a; fin_cases a <;> rfl) _ f _).trans (if_neg h2).symm)) $$ [HG]
    · iexact HG
    iintro HG
    iapply (load_pt (M := xM)) $$ [HX]
    · iexact HX
    iintro HX
    iapply (send_right m K c (T := Tk c kR6) (S := Sk c {0}) (C := Ck c kQ {0}) rfl rfl (dev19_is c _) (by revert c; decide +kernel) (by revert c; decide +kernel) (by revert c; decide +kernel)) $$ [HS OR HL]
    · isplitr; · iexact HE
      isplitl [HS]; · iexact HS
      isplitl [OR] <;> iassumption
    iintro HS
    iapply (wpc_ret c)
    isplitr; · ipureintro; rfl
    isplitl [HS]
    · iapply (st_eq (T := ((Tk c kR6).erase (c, 1)).erase (nxt c, 2)) (S := Sk c {0}) (C := insert 1 (Ck c kQ {0})) (by revert c; decide +kernel) rfl (by revert c; decide +kernel)); iexact HS
    isplitl [HX]; · iexact HX
    isplitl [HV]; · iexact HV
    isplitl [OL]; · iexact OL
    isplitl [OK]; · iexact OK
    isplitr; · iapply (emp_onlyIf (F := F) h0); iempintro
    iexact HG

end Cert.Sparse
-- ==== Proof.Body9.lean ====
/-
# The body, continued: the copy to the left, and the middle devices' partial sums
-/
module

public import proofs.«01_k».proof.Proof.Body8

@[expose] public section

noncomputable section

namespace Cert.Sparse

open Cert.KernelIdeal Cert.KernelIdeal.Gen
open Idealize.ShloMosaic
open Idealize.ShloMosaic.TcCoe
open Idealize.ShloMosaic.ValueIdx (ix3 ix4 ix5)
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig Unit (Elt F) ℕ UU ℕ

variable (m : (ℓ : Loc nD τ sig) → Buf (Elt F) ℓ) (K : Dev nD × Fin 22 → ℕ)

/-- The kinds of raise of a partial sum. -/
abbrev kP : Finset (Fin 22) := {17, 18, 19, 20, 21}
/-- The copies made by the time the rows have gone both ways. -/
abbrev kS9 : Finset (Fin 22) := {1, 3, 5, 6, 7, 8, 9, 11, 12, 13, 14, 15}
/-- With the partial sums'. -/
abbrev kS10 : Finset (Fin 22) := {1, 3, 5, 6, 7, 8, 9, 11, 12, 13, 14, 15, 17}
/-- The cells waited for by then. -/
abbrev kW9 : Finset (Fin 22) := {0, 10, 21}

/-- What the second slab holds is not changed by a store of the first. -/
theorem second_slab (f : S2x8x32x64.Idx → Elt F .bf16) (w : S1x8x32x64.Idx → Elt F .bf16) :
    ld paM rP1 ((paM.access rP0).write (Elt F) f w Finset.univ) = ld paM rP1 f := by
  funext y
  refine View.write_of_not_mem (v := paM.access rP0) f w Finset.univ (i := (paM.access rP1).emb y) (fun h => ?_)
  rw [View.setOn_univ, show (paM.access rP0).set = rP0.set from set_whole_slice _ _, Rect.mem_set_unit] at h
  have h1 : 1 + 1 * (y 0).val < 0 + 1 := (h 0).2
  omega

/-- The two stores of a middle device's partial sums. -/
theorem sums_pt (c : Dev nD) (f : S2x8x32x64.Idx → Elt F .bf16) :
    (pt paM c fullShare ((paM.access rP1).write (Elt F) ((paM.access rP0).write (Elt F) f
        (k0_pay17 (ld nbM rOk (nbF m c)) (ld nbM rOv (nbF m c)) (ld qM rQ (qF m))) Finset.univ)
        (k0_pay18 (ld nbM rOk (nbF m c)) (ld qM rQ (qF m))) Finset.univ) : sProp 𝕄) ⊢ pt paM c fullShare (paF m c) :=
  Entails.of_eq (congrArg (pt paM c fullShare) (two_slabs _ _ _))

/-- And an aggregator's, with its leaf's added. -/
theorem added_pt (c : Dev nD) :
    (pt paM c fullShare ((paM.access rP1).write (Elt F) ((paM.access rP0).write (Elt F) (paF m c)
        (k0_pay19 (ld paM rP0 (paF m c)) (ld agM rP0 (paF m (leafOf c)))) Finset.univ)
        (k0_pay20 (ld paM rP1 ((paM.access rP0).write (Elt F) (paF m c)
          (k0_pay19 (ld paM rP0 (paF m c)) (ld agM rP0 (paF m (leafOf c)))) Finset.univ)) (ld agM rP1 (paF m (leafOf c)))) Finset.univ) : sProp 𝕄)
      ⊢ pt paM c fullShare (agF m c) :=
  Entails.of_eq (congrArg (pt paM c fullShare) ((two_slabs _ _ _).trans (by rw [second_slab]; rfl)))

/-- A leaf's copy of its sums inward, -/
theorem send_leaf (c : Dev nD) (hc : Leaf c) {T : Finset (Dev nD × Fin 22)} {S C : Finset (Fin 22)} {sS sem : SemLoc sig} (hsS : sS = csem 17) (hsR : sem = csem 21)
    {n : ℕ} {hn : n < nD} (hdn : (⟨n, hn⟩ : Dev nD) = aggOf c)
    {hsc : (show Memref sig (Dev.tc (⟨n, hn⟩ : Dev nD) : Thread nD τ).2.kind .vmem S2x8x32x64 .bf16 from agM).view.ref.isScScratch = false}
    {hsrc : paM.view.WordExact} {hdst : agM.view.WordExact}
    {hsem : DmaTarget.Typed .vmem sem (.remote (Dev.tc (⟨n, hn⟩ : Dev nD) : Thread nD τ) agM sS hsc)}
    (hTS : (c, (17 : Fin 22)) ∈ T) (hTR : (aggOf c, (21 : Fin 22)) ∈ T) (hC : (17 : Fin 22) ∉ C)
    {α : Type} {Q : α → sProp 𝕄} {k : PUnit → Prog (TpuEff nD τ sig (Elt F) Λ₀ .tc) α} :
    iprop(Env m K ∗ St c T S C ∗ pt paM c fullShare (paF m c) ∗ ptE agM (aggOf c))
      ⊢ iprop((St c ((T.erase (c, 17)).erase (aggOf c, 21)) S (insert 17 C) -∗ wpc c (k ⟨⟩) Q)
          -∗ wpc c (.op (.enqueueDma paM (.remote (Dev.tc (⟨n, hn⟩ : Dev nD) : Thread nD τ) agM sS hsc) sem hsrc hdst hsem) k) Q) := by
  obtain rfl : n = (aggOf c).val := congrArg Fin.val hdn
  have e : psF m c = paF m c := if_neg ((by decide : ∀ c : Dev nD, Leaf c → ¬Agg c) c hc)
  rw [← e]
  iintro ⟨#HE, HS, H1, H2⟩
  unfold ptE
  icases H2 with ⟨%fd, H2⟩
  iapply (st_send m K (c := c) (d := aggOf c) 17 21 hsS hsR hTS hTR (by decide) (by decide) (by decide) hC
    ((by decide : ∀ c : Dev nD, Leaf c → pay c 17 = {c}) c hc)
    ((by decide : ∀ c : Dev nD, Leaf c → c ∈ pay (aggOf c) 21) c hc) (by subst hsR; rfl) rfl fd Entails.rfl (land_ag m c hc fd)) $$ [HS H1 H2]
  isplitr; · iexact HE
  isplitl [HS]; · iexact HS
  isplitl [H1]; · iexact H1
  iexact H2

/-- The cell of device 0 a sender's copy raises. -/
def kSl (c : Dev nD) : Fin 22 := ⟨18 + (slotOf c).val, by have := (slotOf c).isLt; omega⟩

theorem pay_slot (c : Dev nD) (hc : Snd c) : payP m (kSl c) 0 c = pt (slotM (slotOf c)) 0 fullShare (inF m) := by
  have h : c = 3 ∨ c = 4 ∨ c = 5 := (by decide : ∀ c : Dev nD, Snd c → c = 3 ∨ c = 4 ∨ c = 5) c hc
  rcases h with rfl | rfl | rfl <;> rfl

/-- and a sender's copy to its slot of device 0. -/
theorem send_slot (c : Dev nD) (hc : Snd c) {T : Finset (Dev nD × Fin 22)} {S C : Finset (Fin 22)} {sS sem : SemLoc sig} (hsS : sS = csem 17) (hsR : sem = csem (kSl c))
    {n : ℕ} {hn : n < nD} (hdn : n = 0) {M : Memref sig .tc .vmem S2x8x32x64 .bf16} (hM : M = slotM (slotOf c))
    {hsc : (show Memref sig (Dev.tc (⟨n, hn⟩ : Dev nD) : Thread nD τ).2.kind .vmem S2x8x32x64 .bf16 from M).view.ref.isScScratch = false}
    {hsrc : paM.view.WordExact} {hdst : M.view.WordExact}
    {hsem : DmaTarget.Typed .vmem sem (.remote (Dev.tc (⟨n, hn⟩ : Dev nD) : Thread nD τ) M sS hsc)}
    (hTS : (c, (17 : Fin 22)) ∈ T) (hTR : ((0 : Dev nD), kSl c) ∈ T) (hC : (17 : Fin 22) ∉ C)
    {α : Type} {Q : α → sProp 𝕄} {k : PUnit → Prog (TpuEff nD τ sig (Elt F) Λ₀ .tc) α} :
    iprop(Env m K ∗ St c T S C ∗ pt paM c fullShare (psF m c) ∗ ptE (slotM (slotOf c)) 0)
      ⊢ iprop((St c ((T.erase (c, 17)).erase (0, kSl c)) S (insert 17 C) -∗ wpc c (k ⟨⟩) Q)
          -∗ wpc c (.op (.enqueueDma paM (.remote (Dev.tc (⟨n, hn⟩ : Dev nD) : Thread nD τ) M sS hsc) sem hsrc hdst hsem) k) Q) := by
  subst hdn hM
  iintro ⟨#HE, HS, H1, H2⟩
  unfold ptE
  icases H2 with ⟨%fd, H2⟩
  iapply (st_send m K (c := c) (d := 0) 17 (kSl c) hsS hsR hTS hTR ((by decide : ∀ c : Dev nD, 17 ≠ kSl c) c) (by decide)
    ((by decide : ∀ c : Dev nD, Owed (kSl c)) c) hC ((by decide : ∀ c : Dev nD, Snd c → pay c 17 = {c}) c hc)
    ((by decide : ∀ c : Dev nD, Snd c → c ∈ pay 0 (kSl c)) c hc)
    (by have h := (by decide : ∀ c : Dev nD, ¬(kSl c).val = 0 ∧ ¬(kSl c).val ≤ 4 ∧ ¬(kSl c).val ≤ 10 ∧ ¬(kSl c).val ≤ 16) c
        rw [show amt (kSl c) = NP from by unfold amt; rw [if_neg h.1, if_neg h.2.1, if_neg h.2.2.1, if_neg h.2.2.2], hsR]
        unfold csem; rw [if_neg h.1])
    (by have h := (by decide : ∀ c : Dev nD, ¬(kSl c).val = 0 ∧ ¬(kSl c).val ≤ 4 ∧ ¬(kSl c).val ≤ 10 ∧ ¬(kSl c).val ≤ 16) c
        rw [show amt (kSl c) = NP from by unfold amt; rw [if_neg h.1, if_neg h.2.1, if_neg h.2.2.1, if_neg h.2.2.2]]; rfl)
    fd Entails.rfl ((land_slot m c hc fd).trans (Entails.of_eq (pay_slot m c hc).symm))) $$ [HS H1 H2]
  isplitr; · iexact HE
  isplitl [HS]; · iexact HS
  isplitl [H1]; · iexact H1
  iexact H2

theorem slot_memref (c : Dev nD) (hc : Snd c) (h : ∀ a, (k0_off2 c) a + S1x2x8x32x64.size a ≤ S3x2x8x32x64.size a) :
    (inM.slice (Rect.unit (s := S3x2x8x32x64) (k0_off2 c) S1x2x8x32x64.size h) (fun _ => rfl)).squeeze S2x8x32x64 squeezes_S1x2x8x32x64_S2x8x32x64
      = slotM (slotOf c) := by
  have e : k0_off2 c = ![(slotOf c).val, 0, 0, 0, 0] := (by decide +kernel : ∀ c : Dev nD, Snd c → k0_off2 c = ![(slotOf c).val, 0, 0, 0, 0]) c hc
  revert h; rw [e]; intro h; rfl

theorem slot_sem (c : Dev nD) (hc : Snd c) (h : ∀ a, (k0_off1 c) a + S1.size a ≤ S3.size a) :
    (SemLoc.dma ((cc0_scratch17.slice (Rect.unit (s := S3) (k0_off1 c) S1.size h)).squeeze S_ squeezes_S1_S_).sem : SemLoc sig) = csem (kSl c) := by
  have h' : c = 3 ∨ c = 4 ∨ c = 5 := (by decide : ∀ c : Dev nD, Snd c → c = 3 ∨ c = 4 ∨ c = 5) c hc
  rcases h' with rfl | rfl | rfl
  · have e : k0_off1 3 = ![0] := by decide +kernel
    rw [show csem (kSl 3) = csem 18 from by decide +kernel]
    revert h; rw [e]; intro h
    exact (rfl : (SemLoc.dma ((cc0_scratch17.slice (Rect.unit (s := S3) ![0] S1.size inb_S3_S1_0)).squeeze S_ squeezes_S1_S_).sem : SemLoc sig) = csem 18)
  · have e : k0_off1 4 = ![1] := by decide +kernel
    rw [show csem (kSl 4) = csem 19 from by decide +kernel]
    revert h; rw [e]; intro h
    exact (rfl : (SemLoc.dma ((cc0_scratch17.slice (Rect.unit (s := S3) ![1] S1.size inb_S3_S1_1)).squeeze S_ squeezes_S1_S_).sem : SemLoc sig) = csem 19)
  · have e : k0_off1 5 = ![2] := by decide +kernel
    rw [show csem (kSl 5) = csem 20 from by decide +kernel]
    revert h; rw [e]; intro h
    exact (rfl : (SemLoc.dma ((cc0_scratch17.slice (Rect.unit (s := S3) ![2] S1.size inb_S3_S1_2)).squeeze S_ squeezes_S1_S_).sem : SemLoc sig) = csem 20)

/-- The value the part passes on: the query rows. -/
def qAll (c : Dev nD) : S8x128x64.Idx → Elt F .bf16 := k0_pay15 (wq m c) (k0_pay14 (ld xM rX (xB m c)))

set_option maxHeartbeats 2000000 in
theorem part9 (c : Dev nD) (v93 : BitVec 32) :
    iprop(Env m K ∗ St c (Tk c kR8) (Sk c {0}) (Ck c kS8 {0}) ∗ pt nbO c shL (nbF m c) ∗ pt nbO c (qk c) (nbF m c) ∗ ptE nbR (prv c) ∗ ptE paM c
        ∗ onlyIf (¬Agg c) (ptE agM c) ∗ onlyIf (Leaf c) (ptE agM (aggOf c)) ∗ onlyIf (Snd c) (ptE (slotM (slotOf c)) 0))
      ⊢ wpc c (K9 c (w2 c) (w11 c) (w14 c) (w17 c) (w20 c) (wq m c) (k0_pay14 (ld xM rX (xB m c))) v93) (fun v => iprop(⌜v = ⟨qAll m c, Scalar.extui (w11 c)⟩⌝
          ∗ St c (Tk c ∅) (Sk c kW9) (Ck c kS10 kW9) ∗ pt nbO c (qk c) (nbF m c) ∗ onlyIf (Mid c) (pt qM c fullShare (qF m))
          ∗ onlyIf (¬Mid c) (ptE paM c) ∗ ptE agM c)) := by
  simp only [K9, k0_part9_eq_skeleton]; unfold k0_part9_skel
  simp only [Prog.lift, Prog.bind_op, Prog.bind_ret, Prog.pure_eq_ret]
  have hT : ((Tk c kR8).erase (c, 3)).erase (prv c, 4) = Tk c kP := by revert c; decide +kernel
  have hC : insert 3 (Ck c kS8 {0}) = Ck c kS9 {0} := by revert c; decide +kernel
  have hm1 : (c, (3 : Fin 22)) ∈ Tk c kR8 := by revert c; decide +kernel
  have hm2 : (prv c, (4 : Fin 22)) ∈ (Tk c kR8) := by revert c; decide +kernel
  have hm3 : (3 : Fin 22) ∉ Ck c kS8 {0} := by revert c; decide +kernel
  by_cases h2 : Mid c
  · have hq : qk c = shK := if_neg ((by decide : ∀ c : Dev nD, Mid c → ¬c = 0) c h2)
    rw [hq, onlyIf_pos h2]
    have hp10 : pay c 10 = {0} := if_pos h2
    have hS10 : (10 : Fin 22) ∈ Sk c {0} := (by decide +kernel : ∀ c : Dev nD, (10 : Fin 22) ∈ Sk c {0}) c
    have hC10 : (10 : Fin 22) ∈ Ck c kS9 {0} := (by decide +kernel : ∀ c : Dev nD, Mid c → (10 : Fin 22) ∈ Ck c kS9 {0}) c h2
    have hl10 : ∀ g ∈ Tk c kP, Owed g.2 → lvl 10 < lvl g.2 := (by decide +kernel : ∀ c : Dev nD, ∀ g ∈ Tk c kP, Owed g.2 → lvl 10 < lvl g.2) c
    by_cases hc : Leaf c
    · have hT' : ((Tk c kP).erase (c, 17)).erase (aggOf c, 21) = Tk c ∅ := (by decide +kernel : ∀ c : Dev nD, Leaf c → ((Tk c kP).erase (c, 17)).erase (aggOf c, 21) = Tk c ∅) c hc
      have hS' : (Sk c {0}).erase 10 = Sk c kW9 := (by decide +kernel : ∀ c : Dev nD, Leaf c → (Sk c {0}).erase 10 = Sk c kW9) c hc
      have hC' : insert 17 ((Ck c kS9 {0}).erase 10) = Ck c kS10 kW9 := (by decide +kernel : ∀ c : Dev nD, Leaf c → insert 17 ((Ck c kS9 {0}).erase 10) = Ck c kS10 kW9) c hc
      have ha : ¬Agg c := (by decide : ∀ c : Dev nD, Leaf c → ¬Agg c) c hc
      have hs : ¬Snd c := (by decide : ∀ c : Dev nD, Leaf c → ¬Snd c) c hc
      rw [onlyIf_pos hc, onlyIf_pos ha]
      simp only [dif_pos ((mid_iff c).2 h2), dif_pos ((cond9_iff c).2 hc), dif_neg (fun h => ha ((agg_iff c).1 h) : ¬Scalar.cmpi .ne (Scalar.extui (w17 c) : BitVec 32) 0#32 = 1#1), dif_neg (fun h => hs ((cond11_iff c).1 h) : ¬k0_cond11 c = 1#1), Prog.bind_op, Prog.bind_ret]
      iintro ⟨#HE, HS, OL, OK, HR, HP, HA, HB, HZ⟩
      iapply (send_left m K c (T := Tk c kR8) (S := Sk c {0}) (C := Ck c kS8 {0}) rfl rfl (dev20_is c _) hm1 hm2 hm3) $$ [HS OL HR]
      · isplitr; · iexact HE
        isplitl [HS]; · iexact HS
        isplitl [OL] <;> iassumption
      iintro HS
      ihave HS := (st_eq (T := ((Tk c kR8).erase (c, 3)).erase (prv c, 4)) (S := Sk c {0}) (C := insert 3 (Ck c kS8 {0})) hT rfl hC) $$ HS
      iapply (st_wait1 m K 10 0 (wpE_waitDma2_eq 𝒱₀ (c : Thread nD τ) none Set.univ) rfl hp10 (show qM.view.dmaCredit = amt 10 from rfl) (T := Tk c kP) (S := Sk c {0}) (C := Ck c kS9 {0}) hS10 hC10 hl10) $$ [HS]
      · isplitr; · iexact HE
        iexact HS
      iintro ⟨HS, HQ⟩
      ihave HQ := (Entails.of_eq (show payP m 10 c 0 = pt qM c fullShare (qF m) from rfl)) $$ HQ
      iapply (load_set (M := nbM) (r := rOk) (S := nbO.view.set) (load_sub 8 0 64 _)) $$ [OK]
      · iexact OK
      iintro OK
      iapply (load_set (M := nbM) (r := rOv) (S := nbO.view.set) (load_sub 8 8 64 _)) $$ [OK]
      · iexact OK
      iintro OK
      iapply (load_pt (M := qM) (r := rQ) (q := fullShare) (f := qF m)) $$ [HQ]
      · iexact HQ
      iintro HQ
      unfold ptE
      icases HP with ⟨%fp, HP⟩
      iapply (store_pt (M := paM) (r := rP0)) $$ [HP]
      · iexact HP
      iintro HP
      iapply (store_pt (M := paM) (r := rP1)) $$ [HP]
      · iexact HP
      iintro HP
      ihave HP := (sums_pt m c _) $$ HP
      iapply (send_leaf m K c hc (T := Tk c kP) (S := (Sk c {0}).erase 10) (C := (Ck c kS9 {0}).erase 10) rfl rfl (dev21_is c hc _)
        ((by decide +kernel : ∀ c : Dev nD, Leaf c → (c, (17 : Fin 22)) ∈ Tk c kP) c hc) ((by decide +kernel : ∀ c : Dev nD, Leaf c → (aggOf c, (21 : Fin 22)) ∈ Tk c kP) c hc) ((by decide +kernel : ∀ c : Dev nD, (17 : Fin 22) ∉ (Ck c kS9 {0}).erase 10) c )) $$ [HS HP HB]
      · isplitr; · iexact HE
        isplitl [HS]; · iexact HS
        isplitl [HP]; · iexact HP
        unfold ptE; iexact HB
      iintro HS
      iapply (wpc_ret c)
      isplitr; · ipureintro; rfl
      isplitl [HS]
      · iapply (st_eq (T := ((Tk c kP).erase (c, 17)).erase (aggOf c, 21)) (S := (Sk c {0}).erase 10) (C := insert 17 ((Ck c kS9 {0}).erase 10)) hT' hS' hC'); iexact HS
      isplitl [OK]; · iexact OK
      isplitl [HQ]; · iexact HQ
      isplitr; · iapply (emp_onlyIf (F := F) (not_not.2 h2)); iempintro
      iexact HA
    · have hl := hc
      by_cases hc : Agg c
      · have hT' : ((Tk c kP).erase (c, 17)).erase (0, kSl c) = Tk c ∅ := (by decide +kernel : ∀ c : Dev nD, Agg c → ((Tk c kP).erase (c, 17)).erase (0, kSl c) = Tk c ∅) c hc
        have hS' : ((Sk c {0}).erase 10).erase 21 = Sk c kW9 := (by decide +kernel : ∀ c : Dev nD, Agg c → ((Sk c {0}).erase 10).erase 21 = Sk c kW9) c hc
        have hC' : insert 17 (((Ck c kS9 {0}).erase 10).erase 21) = Ck c kS10 kW9 := (by decide +kernel : ∀ c : Dev nD, Agg c → insert 17 (((Ck c kS9 {0}).erase 10).erase 21) = Ck c kS10 kW9) c hc
        have hl : ¬Leaf c := (by decide : ∀ c : Dev nD, Agg c → ¬Leaf c) c hc
        have hs : Snd c := (by decide : ∀ c : Dev nD, Agg c → Snd c) c hc
        have hp21 : pay c 21 = {leafOf c} := (by decide : ∀ c : Dev nD, Agg c → pay c 21 = {leafOf c}) c hc
        have e : agF m c = psF m c := (if_pos hc).symm
        rw [onlyIf_pos hs]
        simp only [dif_pos ((mid_iff c).2 h2), dif_neg (fun h => hl ((cond9_iff c).1 h) : ¬k0_cond9 c = 1#1), dif_pos ((agg_iff c).2 hc), dif_pos ((cond11_iff c).2 hs), Prog.bind_op, Prog.bind_ret]
        iintro ⟨#HE, HS, OL, OK, HR, HP, HA, HB, HZ⟩
        iapply (send_left m K c (T := Tk c kR8) (S := Sk c {0}) (C := Ck c kS8 {0}) rfl rfl (dev20_is c _) hm1 hm2 hm3) $$ [HS OL HR]
        · isplitr; · iexact HE
          isplitl [HS]; · iexact HS
          isplitl [OL] <;> iassumption
        iintro HS
        ihave HS := (st_eq (T := ((Tk c kR8).erase (c, 3)).erase (prv c, 4)) (S := Sk c {0}) (C := insert 3 (Ck c kS8 {0})) hT rfl hC) $$ HS
        iapply (st_wait1 m K 10 0 (wpE_waitDma2_eq 𝒱₀ (c : Thread nD τ) none Set.univ) rfl hp10 (show qM.view.dmaCredit = amt 10 from rfl) (T := Tk c kP) (S := Sk c {0}) (C := Ck c kS9 {0}) hS10 hC10 hl10) $$ [HS]
        · isplitr; · iexact HE
          iexact HS
        iintro ⟨HS, HQ⟩
        ihave HQ := (Entails.of_eq (show payP m 10 c 0 = pt qM c fullShare (qF m) from rfl)) $$ HQ
        iapply (load_set (M := nbM) (r := rOk) (S := nbO.view.set) (load_sub 8 0 64 _)) $$ [OK]
        · iexact OK
        iintro OK
        iapply (load_set (M := nbM) (r := rOv) (S := nbO.view.set) (load_sub 8 8 64 _)) $$ [OK]
        · iexact OK
        iintro OK
        iapply (load_pt (M := qM) (r := rQ) (q := fullShare) (f := qF m)) $$ [HQ]
        · iexact HQ
        iintro HQ
        unfold ptE
        icases HP with ⟨%fp, HP⟩
        iapply (store_pt (M := paM) (r := rP0)) $$ [HP]
        · iexact HP
        iintro HP
        iapply (store_pt (M := paM) (r := rP1)) $$ [HP]
        · iexact HP
        iintro HP
        ihave HP := (sums_pt m c _) $$ HP
        iapply (st_wait1 m K 21 (leafOf c) (wpE_waitDma2_eq 𝒱₀ (c : Thread nD τ) none Set.univ) rfl hp21 (show agM.view.dmaCredit = amt 21 from rfl) (T := Tk c kP) (S := (Sk c {0}).erase 10) (C := (Ck c kS9 {0}).erase 10)
          ((by decide +kernel : ∀ c : Dev nD, (21 : Fin 22) ∈ (Sk c {0}).erase 10) c ) ((by decide +kernel : ∀ c : Dev nD, Agg c → (21 : Fin 22) ∈ (Ck c kS9 {0}).erase 10) c hc) ((by decide +kernel : ∀ c : Dev nD, Agg c → ∀ g ∈ Tk c kP, Owed g.2 → lvl 21 < lvl g.2) c hc)) $$ [HS]
        · isplitr; · iexact HE
          iexact HS
        iintro ⟨HS, HA'⟩
        ihave HA' := (Entails.of_eq (show payP m 21 c (leafOf c) = pt agM c fullShare (paF m (leafOf c)) from rfl)) $$ HA'
        iapply (load_pt (M := paM) (r := rP0)) $$ [HP]
        · iexact HP
        iintro HP
        iapply (load_pt (M := agM) (r := rP0) (q := fullShare) (f := paF m (leafOf c))) $$ [HA']
        · iexact HA'
        iintro HA'
        iapply (store_pt (M := paM) (r := rP0)) $$ [HP]
        · iexact HP
        iintro HP
        iapply (load_pt (M := paM) (r := rP1)) $$ [HP]
        · iexact HP
        iintro HP
        iapply (load_pt (M := agM) (r := rP1) (q := fullShare) (f := paF m (leafOf c))) $$ [HA']
        · iexact HA'
        iintro HA'
        iapply (store_pt (M := paM) (r := rP1)) $$ [HP]
        · iexact HP
        iintro HP
        ihave HP := (added_pt m c) $$ HP
        ihave HP := (Entails.of_eq (congrArg (pt (F := F) paM c fullShare) e)) $$ HP
        iapply (send_slot m K c hs (T := Tk c kP) (S := ((Sk c {0}).erase 10).erase 21) (C := ((Ck c kS9 {0}).erase 10).erase 21) rfl (slot_sem c hs _) k0_dev22_eq (slot_memref c hs _)
          ((by decide +kernel : ∀ c : Dev nD, Agg c → (c, (17 : Fin 22)) ∈ Tk c kP) c hc) ((by decide +kernel : ∀ c : Dev nD, Agg c → ((0 : Dev nD), kSl c) ∈ Tk c kP) c hc) ((by decide +kernel : ∀ c : Dev nD, (17 : Fin 22) ∉ ((Ck c kS9 {0}).erase 10).erase 21) c )) $$ [HS HP HZ]
        · isplitr; · iexact HE
          isplitl [HS]; · iexact HS
          isplitl [HP]; · iexact HP
          unfold ptE; iexact HZ
        iintro HS
        iapply (wpc_ret c)
        isplitr; · ipureintro; rfl
        isplitl [HS]
        · iapply (st_eq (T := ((Tk c kP).erase (c, 17)).erase (0, kSl c)) (S := ((Sk c {0}).erase 10).erase 21) (C := insert 17 (((Ck c kS9 {0}).erase 10).erase 21)) hT' hS' hC'); iexact HS
        isplitl [OK]; · iexact OK
        isplitl [HQ]; · iexact HQ
        isplitr; · iapply (emp_onlyIf (F := F) (not_not.2 h2)); iempintro
        iexists _; iexact HA'
      · have ha := hc
        clear hc
        have hc : c = 4 := (by decide : ∀ c : Dev nD, Mid c → ¬Leaf c → ¬Agg c → c = 4) c h2 hl ha
        have hs : Snd c := (by decide : ∀ c : Dev nD, c = 4 → Snd c) c hc
        have e : paF m c = psF m c := (if_neg ha).symm
        rw [onlyIf_pos hs, onlyIf_pos ha]
        have hT' : ((Tk c kP).erase (c, 17)).erase (0, kSl c) = Tk c ∅ := (by decide +kernel : ∀ c : Dev nD, c = 4 → ((Tk c kP).erase (c, 17)).erase (0, kSl c) = Tk c ∅) c hc
        have hS' : (Sk c {0}).erase 10 = Sk c kW9 := (by decide +kernel : ∀ c : Dev nD, c = 4 → (Sk c {0}).erase 10 = Sk c kW9) c hc
        have hC' : insert 17 ((Ck c kS9 {0}).erase 10) = Ck c kS10 kW9 := (by decide +kernel : ∀ c : Dev nD, c = 4 → insert 17 ((Ck c kS9 {0}).erase 10) = Ck c kS10 kW9) c hc
        simp only [dif_pos ((mid_iff c).2 h2), dif_neg (fun h => hl ((cond9_iff c).1 h) : ¬k0_cond9 c = 1#1), dif_neg (fun h => ha ((agg_iff c).1 h) : ¬Scalar.cmpi .ne (Scalar.extui (w17 c) : BitVec 32) 0#32 = 1#1), dif_pos ((cond11_iff c).2 hs), Prog.bind_op, Prog.bind_ret]
        iintro ⟨#HE, HS, OL, OK, HR, HP, HA, HB, HZ⟩
        iapply (send_left m K c (T := Tk c kR8) (S := Sk c {0}) (C := Ck c kS8 {0}) rfl rfl (dev20_is c _) hm1 hm2 hm3) $$ [HS OL HR]
        · isplitr; · iexact HE
          isplitl [HS]; · iexact HS
          isplitl [OL] <;> iassumption
        iintro HS
        ihave HS := (st_eq (T := ((Tk c kR8).erase (c, 3)).erase (prv c, 4)) (S := Sk c {0}) (C := insert 3 (Ck c kS8 {0})) hT rfl hC) $$ HS
        iapply (st_wait1 m K 10 0 (wpE_waitDma2_eq 𝒱₀ (c : Thread nD τ) none Set.univ) rfl hp10 (show qM.view.dmaCredit = amt 10 from rfl) (T := Tk c kP) (S := Sk c {0}) (C := Ck c kS9 {0}) hS10 hC10 hl10) $$ [HS]
        · isplitr; · iexact HE
          iexact HS
        iintro ⟨HS, HQ⟩
        ihave HQ := (Entails.of_eq (show payP m 10 c 0 = pt qM c fullShare (qF m) from rfl)) $$ HQ
        iapply (load_set (M := nbM) (r := rOk) (S := nbO.view.set) (load_sub 8 0 64 _)) $$ [OK]
        · iexact OK
        iintro OK
        iapply (load_set (M := nbM) (r := rOv) (S := nbO.view.set) (load_sub 8 8 64 _)) $$ [OK]
        · iexact OK
        iintro OK
        iapply (load_pt (M := qM) (r := rQ) (q := fullShare) (f := qF m)) $$ [HQ]
        · iexact HQ
        iintro HQ
        unfold ptE
        icases HP with ⟨%fp, HP⟩
        iapply (store_pt (M := paM) (r := rP0)) $$ [HP]
        · iexact HP
        iintro HP
        iapply (store_pt (M := paM) (r := rP1)) $$ [HP]
        · iexact HP
        iintro HP
        ihave HP := (sums_pt m c _) $$ HP
        ihave HP := (Entails.of_eq (congrArg (pt (F := F) paM c fullShare) e)) $$ HP
        iapply (send_slot m K c hs (T := Tk c kP) (S := (Sk c {0}).erase 10) (C := (Ck c kS9 {0}).erase 10) rfl (slot_sem c hs _) k0_dev22_eq (slot_memref c hs _)
          ((by decide +kernel : ∀ c : Dev nD, c = 4 → (c, (17 : Fin 22)) ∈ Tk c kP) c hc) ((by decide +kernel : ∀ c : Dev nD, c = 4 → ((0 : Dev nD), kSl c) ∈ Tk c kP) c hc) ((by decide +kernel : ∀ c : Dev nD, (17 : Fin 22) ∉ (Ck c kS9 {0}).erase 10) c )) $$ [HS HP HZ]
        · isplitr; · iexact HE
          isplitl [HS]; · iexact HS
          isplitl [HP]; · iexact HP
          unfold ptE; iexact HZ
        iintro HS
        iapply (wpc_ret c)
        isplitr; · ipureintro; rfl
        isplitl [HS]
        · iapply (st_eq (T := ((Tk c kP).erase (c, 17)).erase (0, kSl c)) (S := (Sk c {0}).erase 10) (C := insert 17 ((Ck c kS9 {0}).erase 10)) hT' hS' hC'); iexact HS
        isplitl [OK]; · iexact OK
        isplitl [HQ]; · iexact HQ
        isplitr; · iapply (emp_onlyIf (F := F) (not_not.2 h2)); iempintro
        iexact HA
  · have hc := h2
    have hl : ¬Leaf c := (by decide : ∀ c : Dev nD, ¬Mid c → ¬Leaf c) c h2
    have ha : ¬Agg c := (by decide : ∀ c : Dev nD, ¬Mid c → ¬Agg c) c h2
    have hs : ¬Snd c := (by decide : ∀ c : Dev nD, ¬Mid c → ¬Snd c) c h2
    have hT' : Tk c kP = Tk c ∅ := (by decide +kernel : ∀ c : Dev nD, ¬Mid c → Tk c kP = Tk c ∅) c hc
    have hS' : Sk c {0} = Sk c kW9 := (by decide +kernel : ∀ c : Dev nD, ¬Mid c → Sk c {0} = Sk c kW9) c hc
    have hC' : Ck c kS9 {0} = Ck c kS10 kW9 := (by decide +kernel : ∀ c : Dev nD, ¬Mid c → Ck c kS9 {0} = Ck c kS10 kW9) c hc
    rw [onlyIf_pos ha, onlyIf_pos h2]
    simp only [dif_neg (fun h => h2 ((mid_iff c).1 h) : ¬Scalar.cmpi .ne (Scalar.extui (w11 c) : BitVec 32) 0#32 = 1#1), dif_neg (fun h => hl ((cond9_iff c).1 h) : ¬k0_cond9 c = 1#1), dif_neg (fun h => ha ((agg_iff c).1 h) : ¬Scalar.cmpi .ne (Scalar.extui (w17 c) : BitVec 32) 0#32 = 1#1), dif_neg (fun h => hs ((cond11_iff c).1 h) : ¬k0_cond11 c = 1#1), Prog.bind_op, Prog.bind_ret]
    iintro ⟨#HE, HS, OL, OK, HR, HP, HA, HB, HZ⟩
    iapply (send_left m K c (T := Tk c kR8) (S := Sk c {0}) (C := Ck c kS8 {0}) rfl rfl (dev20_is c _) hm1 hm2 hm3) $$ [HS OL HR]
    · isplitr; · iexact HE
      isplitl [HS]; · iexact HS
      isplitl [OL] <;> iassumption
    iintro HS
    ihave HS := (st_eq (T := ((Tk c kR8).erase (c, 3)).erase (prv c, 4)) (S := Sk c {0}) (C := insert 3 (Ck c kS8 {0})) hT rfl hC) $$ HS
    iapply (wpc_ret c)
    isplitr; · ipureintro; rfl
    isplitl [HS]
    · iapply (st_eq (T := Tk c kP) (S := Sk c {0}) (C := Ck c kS9 {0}) hT' hS' hC'); iexact HS
    isplitl [OK]; · iexact OK
    isplitr; · iapply (emp_onlyIf (F := F) h2); iempintro
    isplitl [HP]; · iexact HP
    iexact HA

end Cert.Sparse
-- ==== Proof.Body10.lean ====
/-
# The body, continued: the global keys' part and the near keys' part
-/
module

public import proofs.«01_k».proof.Proof.Body9

@[expose] public section

noncomputable section

namespace Cert.Sparse

open Cert.KernelIdeal Cert.KernelIdeal.Gen
open Idealize.ShloMosaic
open Idealize.ShloMosaic.TcCoe
open Idealize.ShloMosaic.ValueIdx (ix3 ix4 ix5)
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig Unit (Elt F) ℕ UU ℕ

variable (m : (ℓ : Loc nD τ sig) → Buf (Elt F) ℓ) (K : Dev nD × Fin 22 → ℕ)

/-- The cells waited for once the rows have arrived. -/
abbrev kW10 : Finset (Fin 22) := {0, 2, 4, 10, 16, 21}

theorem tk_none (c : Dev nD) (k : Fin 22) : ∀ g ∈ Tk c ∅, Owed g.2 → lvl k < lvl g.2 :=
  fun g h => absurd (Finset.mem_filter.1 h).2.2 (Finset.notMem_empty _)

/-- The weighted values over the global keys (a middle device; elsewhere all zero), -/
def vGlob (c : Dev nD) : S8x128x64.Idx → Elt F .f32 := k0_pay22 (w11 c) (qAll m c) (ld gM rGk (gC m c)) (ld gM rGv (gC m c))
/-- and the weights' sums. -/
def dGlob (c : Dev nD) : S8x128x1.Idx → Elt F .f32 := k0_pay23 (w11 c) (qAll m c) (ld gM rGk (gC m c))
/-- With those over the near keys added, the weighted values -/
def vNear (c : Dev nD) : S8x128x64.Idx → Elt F .f32 := k0_pay25 (w2 c) (qAll m c) (vGlob m c) (ld nbM rAk (nbF m c)) (ld nbM rAv (nbF m c))
/-- and the weights' sums. -/
def dNear (c : Dev nD) : S8x128x1.Idx → Elt F .f32 := k0_pay26 (w2 c) (qAll m c) (dGlob m c) (ld nbM rAk (nbF m c))

set_option maxHeartbeats 1000000 in
theorem part10 (c : Dev nD) :
    iprop(Env m K ∗ St c (Tk c ∅) (Sk c kW9) (Ck c kS10 kW9) ∗ onlyIf (¬Mid c) (pt gM c fullShare (gC m c)))
      ⊢ wpc c (K10 (w5 c) (w7 c) (w11 c) (qAll m c) (Scalar.extui (w11 c))) (fun v => iprop(⌜v = ⟨vGlob m c, dGlob m c⟩⌝
          ∗ St c (Tk c ∅) (Sk c kW10) (Ck c kS10 kW10) ∗ pt gM c fullShare (gC m c) ∗ pt nbL c fullShare (nbF m c) ∗ pt nbR c fullShare (nbF m c))) := by
  simp only [K10, k0_part10_eq_skeleton]; unfold k0_part10_skel
  simp only [Prog.lift, Prog.bind_op, Prog.bind_ret, Prog.pure_eq_ret]
  by_cases h2 : Mid c
  · have e : gF m = gC m c := (if_pos h2).symm
    simp only [dif_pos ((mid_iff c).2 h2), Prog.bind_op, Prog.bind_ret]
    iintro ⟨#HE, HS, HG⟩
    iapply (st_wait1 m K 16 0 (wpE_waitDma2_eq 𝒱₀ (c : Thread nD τ) none Set.univ) rfl ((by decide +kernel : ∀ c : Dev nD, Mid c → pay c 16 = {0}) c h2) (show gM.view.dmaCredit = amt 16 from rfl) (T := Tk c ∅) (S := Sk c kW9) (C := Ck c kS10 kW9)
      ((by decide +kernel : ∀ c : Dev nD, Mid c → (16 : Fin 22) ∈ Sk c kW9) c h2) ((by decide +kernel : ∀ c : Dev nD, Mid c → (16 : Fin 22) ∈ Ck c kS10 kW9) c h2) (tk_none c 16)) $$ [HS]
    · isplitr; · iexact HE
      iexact HS
    iintro ⟨HS, H16⟩
    ihave H16 := (Entails.of_eq (show payP m 16 c 0 = pt gM c fullShare (gF m) from rfl)) $$ H16
    ihave HG := (Entails.of_eq (congrArg (pt (F := F) gM c fullShare) e)) $$ H16
    iapply (load_pt (M := gM) (r := rGk) (q := fullShare) (f := gC m c)) $$ [HG]
    · iexact HG
    iintro HG
    iapply (load_pt (M := gM) (r := rGv) (q := fullShare) (f := gC m c)) $$ [HG]
    · iexact HG
    iintro HG
    iapply (st_wait1 m K 2 (prv c) (wpE_waitDma2_eq 𝒱₀ (c : Thread nD τ) none Set.univ) rfl ((by decide +kernel : ∀ c : Dev nD, Mid c → pay c 2 = {(prv c)}) c h2) (show nbL.view.dmaCredit = amt 2 from rfl) (T := Tk c ∅) (S := (Sk c kW9).erase 16) (C := (Ck c kS10 kW9).erase 16)
      ((by decide +kernel : ∀ c : Dev nD, Mid c → (2 : Fin 22) ∈ (Sk c kW9).erase 16) c h2) ((by decide +kernel : ∀ c : Dev nD, Mid c → (2 : Fin 22) ∈ (Ck c kS10 kW9).erase 16) c h2) (tk_none c 2)) $$ [HS]
    · isplitr; · iexact HE
      iexact HS
    iintro ⟨HS, H2⟩
    ihave H2 := (Entails.of_eq (show payP m 2 c (prv c) = pt nbL c fullShare (nbF m c) from rfl)) $$ H2
    iapply (st_wait1 m K 4 (nxt c) (wpE_waitDma2_eq 𝒱₀ (c : Thread nD τ) none Set.univ) rfl ((by decide +kernel : ∀ c : Dev nD, Mid c → pay c 4 = {(nxt c)}) c h2) (show nbR.view.dmaCredit = amt 4 from rfl) (T := Tk c ∅) (S := ((Sk c kW9).erase 16).erase 2) (C := ((Ck c kS10 kW9).erase 16).erase 2)
      ((by decide +kernel : ∀ c : Dev nD, Mid c → (4 : Fin 22) ∈ ((Sk c kW9).erase 16).erase 2) c h2) ((by decide +kernel : ∀ c : Dev nD, Mid c → (4 : Fin 22) ∈ ((Ck c kS10 kW9).erase 16).erase 2) c h2) (tk_none c 4)) $$ [HS]
    · isplitr; · iexact HE
      iexact HS
    iintro ⟨HS, H4⟩
    ihave H4 := (Entails.of_eq (show payP m 4 c (nxt c) = pt nbR c fullShare (nbF m c) from rfl)) $$ H4
    iapply (wpc_ret c)
    isplitr; · ipureintro; rfl
    isplitl [HS]
    · iapply (st_eq (T := Tk c ∅) (S := (((Sk c kW9).erase 16).erase 2).erase 4) (C := (((Ck c kS10 kW9).erase 16).erase 2).erase 4) rfl ((by decide +kernel : ∀ c : Dev nD, Mid c → (((Sk c kW9).erase 16).erase 2).erase 4 = Sk c kW10) c h2) ((by decide +kernel : ∀ c : Dev nD, Mid c → (((Ck c kS10 kW9).erase 16).erase 2).erase 4 = Ck c kS10 kW10) c h2)); iexact HS
    isplitl [HG]; · iexact HG
    isplitl [H2]; · iexact H2
    iexact H4
  · rw [onlyIf_pos h2]
    simp only [dif_neg (fun h => h2 ((mid_iff c).1 h) : ¬Scalar.cmpi .ne (Scalar.extui (w11 c) : BitVec 32) 0#32 = 1#1), Prog.bind_ret]
    iintro ⟨#HE, HS, HG⟩
    iapply (load_pt (M := gM) (r := rGk) (q := fullShare) (f := gC m c)) $$ [HG]
    · iexact HG
    iintro HG
    iapply (load_pt (M := gM) (r := rGv) (q := fullShare) (f := gC m c)) $$ [HG]
    · iexact HG
    iintro HG
    iapply (st_wait1 m K 2 (prv c) (wpE_waitDma2_eq 𝒱₀ (c : Thread nD τ) none Set.univ) rfl ((by decide +kernel : ∀ c : Dev nD, ¬Mid c → pay c 2 = {(prv c)}) c h2) (show nbL.view.dmaCredit = amt 2 from rfl) (T := Tk c ∅) (S := Sk c kW9) (C := Ck c kS10 kW9)
      ((by decide +kernel : ∀ c : Dev nD, ¬Mid c → (2 : Fin 22) ∈ Sk c kW9) c h2) ((by decide +kernel : ∀ c : Dev nD, ¬Mid c → (2 : Fin 22) ∈ Ck c kS10 kW9) c h2) (tk_none c 2)) $$ [HS]
    · isplitr; · iexact HE
      iexact HS
    iintro ⟨HS, H2⟩
    ihave H2 := (Entails.of_eq (show payP m 2 c (prv c) = pt nbL c fullShare (nbF m c) from rfl)) $$ H2
    iapply (st_wait1 m K 4 (nxt c) (wpE_waitDma2_eq 𝒱₀ (c : Thread nD τ) none Set.univ) rfl ((by decide +kernel : ∀ c : Dev nD, ¬Mid c → pay c 4 = {(nxt c)}) c h2) (show nbR.view.dmaCredit = amt 4 from rfl) (T := Tk c ∅) (S := (Sk c kW9).erase 2) (C := (Ck c kS10 kW9).erase 2)
      ((by decide +kernel : ∀ c : Dev nD, ¬Mid c → (4 : Fin 22) ∈ (Sk c kW9).erase 2) c h2) ((by decide +kernel : ∀ c : Dev nD, ¬Mid c → (4 : Fin 22) ∈ (Ck c kS10 kW9).erase 2) c h2) (tk_none c 4)) $$ [HS]
    · isplitr; · iexact HE
      iexact HS
    iintro ⟨HS, H4⟩
    ihave H4 := (Entails.of_eq (show payP m 4 c (nxt c) = pt nbR c fullShare (nbF m c) from rfl)) $$ H4
    iapply (wpc_ret c)
    isplitr; · ipureintro; rfl
    isplitl [HS]
    · iapply (st_eq (T := Tk c ∅) (S := ((Sk c kW9).erase 2).erase 4) (C := ((Ck c kS10 kW9).erase 2).erase 4) rfl ((by decide +kernel : ∀ c : Dev nD, ¬Mid c → ((Sk c kW9).erase 2).erase 4 = Sk c kW10) c h2) ((by decide +kernel : ∀ c : Dev nD, ¬Mid c → ((Ck c kS10 kW9).erase 2).erase 4 = Ck c kS10 kW10) c h2)); iexact HS
    isplitl [HG]; · iexact HG
    isplitl [H2]; · iexact H2
    iexact H4

/-! ## The near keys -/

/-- Part of a whole holding set aside, to be put back. -/
theorem at_share {s : Shape} {e : EltTy} (M : Memref sig .tc .vmem s e) (c : Dev nD) (f : Buf (Elt F) (M.view.loc (c : Thread nD τ))) :
    (pt M c fullShare f : sProp 𝕄) ⊢ iprop(pt M c (qk c) f ∗ (pt M c (qk c) f -∗ pt M c fullShare f)) := by
  by_cases h0 : c = 0
  · rw [show qk c = shH from if_pos h0]
    iintro H
    ihave H := (half_split M c fullShare f) $$ H
    icases H with ⟨H1, H2⟩
    ihave H2 := (half_split M c shK f) $$ H2
    icases H2 with ⟨H2, H3⟩
    isplitl [H3]; · iexact H3
    iintro H3
    iapply (half_join M c fullShare f)
    isplitl [H1]; · iexact H1
    iapply (half_join M c shK f)
    isplitl [H2] <;> iassumption
  · rw [show qk c = shK from if_neg h0]
    iintro H
    ihave H := (half_split M c fullShare f) $$ H
    icases H with ⟨H1, H2⟩
    isplitl [H2]; · iexact H2
    iintro H2
    iapply (half_join M c fullShare f)
    isplitl [H1] <;> iassumption

theorem rows_disj : Disjoint nbL.view.set nbO.view.set :=
  Finset.disjoint_left.2 fun i h1 h2 => by rw [mem_nbL] at h1; rw [mem_nbO] at h2; omega
theorem rows_disj' : Disjoint (nbL.view.set ∪ nbO.view.set) nbR.view.set :=
  Finset.disjoint_left.2 fun i h1 h2 => by rw [Finset.mem_union, mem_nbL, mem_nbO] at h1; rw [mem_nbR] at h2; omega
theorem rows_all : (nbL.view.set ∪ nbO.view.set) ∪ nbR.view.set = nbM.view.set := by
  ext i
  rw [Finset.mem_union, Finset.mem_union, mem_nbL, mem_nbO, mem_nbR, show nbM.view.set = Finset.univ from View.set_whole _]
  exact ⟨fun _ => Finset.mem_univ _, fun _ => by omega⟩

/-- The three thirds of the key/value buffer are the whole of it. -/
theorem rows_join (c : Dev nD) (q : PosShare TreeShare) (f : S16x384x64.Idx → Elt F .bf16) :
    (iprop(pt nbL c q f ∗ pt nbO c q f ∗ pt nbR c q f) : sProp 𝕄) ⊣⊢ pt nbM c q f := by
  have h1 : (nbM.view.loc (c : Thread nD τ) ↦[nbL.view.set ∪ nbO.view.set]{q} f : sProp 𝕄)
      ⊣⊢ iprop((nbM.view.loc (c : Thread nD τ) ↦[nbL.view.set]{q} f) ∗ nbM.view.loc (c : Thread nD τ) ↦[nbO.view.set]{q} f) := pointsTo_union rows_disj
  have h2 : (nbM.view.loc (c : Thread nD τ) ↦[(nbL.view.set ∪ nbO.view.set) ∪ nbR.view.set]{q} f : sProp 𝕄)
      ⊣⊢ iprop((nbM.view.loc (c : Thread nD τ) ↦[nbL.view.set ∪ nbO.view.set]{q} f) ∗ nbM.view.loc (c : Thread nD τ) ↦[nbR.view.set]{q} f) := pointsTo_union rows_disj'
  rw [rows_all] at h2
  constructor
  · iintro ⟨A, B, C⟩
    iapply h2.2
    isplitr [C]
    · iapply h1.2
      isplitl [A] <;> iassumption
    · iexact C
  · iintro H
    ihave H := h2.1 $$ H
    icases H with ⟨H, C⟩
    ihave H := h1.1 $$ H
    icases H with ⟨A, B⟩
    isplitl [A]; · iexact A
    isplitl [B]; · iexact B
    iexact C

set_option maxHeartbeats 1000000 in
theorem part11 (c : Dev nD) :
    iprop(pt nbL c fullShare (nbF m c) ∗ pt nbR c fullShare (nbF m c) ∗ pt nbO c (qk c) (nbF m c))
      ⊢ wpc c (K11 (w2 c) (w8 c) (qAll m c) (vGlob m c) (dGlob m c)) (fun v => iprop(⌜v = ⟨vNear m c, dNear m c, Scalar.extui (w8 c), 0#32⟩⌝
          ∗ pt nbL c fullShare (nbF m c) ∗ pt nbR c fullShare (nbF m c) ∗ pt nbO c (qk c) (nbF m c))) := by
  simp only [K11, k0_part11_eq_skeleton]; unfold k0_part11_skel
  simp only [Prog.lift, Prog.bind_op, Prog.bind_ret, Prog.pure_eq_ret]
  iintro ⟨HL, HR, HO⟩
  ihave HL := (at_share nbL c _) $$ HL
  icases HL with ⟨HL, WL⟩
  ihave HR := (at_share nbR c _) $$ HR
  icases HR with ⟨HR, WR⟩
  ihave HM := (rows_join c (qk c) (nbF m c)).1 $$ [HL HO HR]
  · isplitl [HL]; · iexact HL
    isplitl [HO] <;> iassumption
  iapply (load_pt (M := nbM) (r := rAk) (q := qk c) (f := nbF m c)) $$ [HM]
  · iexact HM
  iintro HM
  iapply (load_pt (M := nbM) (r := rAv) (q := qk c) (f := nbF m c)) $$ [HM]
  · iexact HM
  iintro HM
  ihave HM := (rows_join c (qk c) (nbF m c)).2 $$ HM
  icases HM with ⟨HL, HO, HR⟩
  iapply (wpc_ret c)
  isplitr; · ipureintro; rfl
  isplitl [HL WL]
  · iapply WL; iexact HL
  isplitl [HR WR]
  · iapply WR; iexact HR
  iexact HO

end Cert.Sparse
-- ==== Proof.Body12.lean ====
/-
# The body, concluded: device 0's sums, the output, and the last waits
-/
module

public import proofs.«01_k».proof.Proof.Body10

@[expose] public section

noncomputable section

namespace Cert.Sparse

open Cert.KernelIdeal Cert.KernelIdeal.Gen
open Idealize.ShloMosaic
open Idealize.ShloMosaic.TcCoe
open Idealize.ShloMosaic.ValueIdx (ix3 ix4 ix5)
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig Unit (Elt F) ℕ UU ℕ

variable (m : (ℓ : Loc nD τ sig) → Buf (Elt F) ℓ) (K : Dev nD × Fin 22 → ℕ)

/-- The cells waited for once device 0 has its partial sums, -/
abbrev kW12 : Finset (Fin 22) := {0, 2, 4, 10, 16, 18, 19, 20, 21}
/-- and after the copies' departures. -/
abbrev kW13 : Finset (Fin 22) := {0, 1, 2, 3, 4, 5, 6, 7, 8, 9, 10, 11, 12, 13, 14, 15, 16, 18, 19, 20, 21}

/-- The sums over the middle devices' keys for the first 32 query rows: on device 0, and zero elsewhere. -/
def nuF (c : Dev nD) : S8x32x64.Idx → Elt F .f32 :=
  if c = 0 then k0_pay27 (k0_pay2 (ld inM rI00 (inF m))) (ld inM rI10 (inF m)) (ld inM rI20 (inF m)) else k0_pay29
def deF (c : Dev nD) : S8x32x1.Idx → Elt F .f32 :=
  if c = 0 then k0_pay28 (ld inM rI01 (inF m)) (ld inM rI11 (inF m)) (ld inM rI21 (inF m)) else k0_pay30

/-- The output of the first three heads, -/
def oA (c : Dev nD) : S2x128x512.Idx → Elt F .f32 :=
  k0_pay32 (vNear m c) (dNear m c) (ld nuM rQ (nuF m c)) (ld deM rD (deF m c)) (ld woM rO0 (woB m c)) (ld woM rO1 (woB m c)) (ld woM rO2 (woB m c))
/-- of the last, -/
def oB (c : Dev nD) : S2x128x512.Idx → Elt F .f32 :=
  k0_pay33 (vNear m c) (dNear m c) (ld nuM rQ (nuF m c)) (ld deM rD (deF m c)) (ld woM rO3 (woB m c))
/-- and of all: what the device stores. -/
def outB (c : Dev nD) : S2x128x512.Idx → Elt F .f32 := k0_pay34 (oA m c) (oB m c)

theorem slots_disj : Disjoint (slotM 0).view.set (slotM 1).view.set :=
  Finset.disjoint_left.2 fun i h1 h2 => by rw [mem_slot] at h1 h2; rw [h1] at h2; exact absurd h2 (by decide)
theorem slots_disj' : Disjoint ((slotM 0).view.set ∪ (slotM 1).view.set) (slotM 2).view.set :=
  Finset.disjoint_left.2 fun i h1 h2 => by
    rw [Finset.mem_union, mem_slot, mem_slot] at h1; rw [mem_slot] at h2; rw [h2] at h1; exact absurd h1 (by decide)
theorem slots_all : ((slotM 0).view.set ∪ (slotM 1).view.set) ∪ (slotM 2).view.set = inM.view.set := by
  ext i
  rw [Finset.mem_union, Finset.mem_union, mem_slot, mem_slot, mem_slot, show inM.view.set = Finset.univ from View.set_whole _]
  have : (i 0).val < 3 := (i 0).isLt
  exact ⟨fun _ => Finset.mem_univ _, fun _ => by
    show ((i 0).val = 0 ∨ (i 0).val = 1) ∨ (i 0).val = 2
    omega⟩

/-- The three slots are the whole of the incoming buffer. -/
theorem slots_join (c : Dev nD) (q : PosShare TreeShare) (f : S3x2x8x32x64.Idx → Elt F .bf16) :
    (iprop(pt (slotM 0) c q f ∗ pt (slotM 1) c q f ∗ pt (slotM 2) c q f) : sProp 𝕄) ⊣⊢ pt inM c q f := by
  have h1 : (inM.view.loc (c : Thread nD τ) ↦[(slotM 0).view.set ∪ (slotM 1).view.set]{q} f : sProp 𝕄)
      ⊣⊢ iprop((inM.view.loc (c : Thread nD τ) ↦[(slotM 0).view.set]{q} f) ∗ inM.view.loc (c : Thread nD τ) ↦[(slotM 1).view.set]{q} f) := pointsTo_union slots_disj
  have h2 : (inM.view.loc (c : Thread nD τ) ↦[((slotM 0).view.set ∪ (slotM 1).view.set) ∪ (slotM 2).view.set]{q} f : sProp 𝕄)
      ⊣⊢ iprop((inM.view.loc (c : Thread nD τ) ↦[(slotM 0).view.set ∪ (slotM 1).view.set]{q} f) ∗ inM.view.loc (c : Thread nD τ) ↦[(slotM 2).view.set]{q} f) := pointsTo_union slots_disj'
  rw [slots_all] at h2
  constructor
  · iintro ⟨A, B, C⟩
    iapply h2.2
    isplitr [C]
    · iapply h1.2
      isplitl [A] <;> iassumption
    · iexact C
  · iintro H
    ihave H := h2.1 $$ H
    icases H with ⟨H, C⟩
    ihave H := h1.1 $$ H
    icases H with ⟨A, B⟩
    isplitl [A]; · iexact A
    isplitl [B]; · iexact B
    iexact C

set_option maxHeartbeats 1000000 in
theorem part12 (c : Dev nD) :
    iprop(Env m K ∗ St c (Tk c ∅) (Sk c kW10) (Ck c kS10 kW10) ∗ pt woM c fullShare (woB m c) ∗ ptE nuM c ∗ ptE deM c)
      ⊢ wpc c (K12 (w8 c) (vNear m c) (dNear m c) (Scalar.extui (w8 c)) 0#32) (fun v => iprop(⌜v = ⟨oA m c, oB m c⟩⌝
          ∗ St c (Tk c ∅) (Sk c kW12) (Ck c kS10 kW12) ∗ pt woM c fullShare (woB m c) ∗ ptE nuM c ∗ ptE deM c
          ∗ onlyIf (c = 0) (ptE inM c))) := by
  simp only [K12, k0_part12_eq_skeleton]; unfold k0_part12_skel
  simp only [Prog.lift, Prog.bind_op, Prog.bind_ret, Prog.pure_eq_ret]
  by_cases h0 : c = 0
  · subst h0
    rw [onlyIf_pos (rfl : (0 : Dev nD) = 0)]
    simp only [dif_pos ((zero_iff 0).2 rfl), dif_neg (fun h => (nonzero_iff 0).1 h rfl : ¬Scalar.cmpi .ne (Scalar.extui (Scalar.xori (w8 0) 1#1) : BitVec 32) 0#32 = 1#1),
      k0_part3_eq_skeleton, k0_part3_skel, Prog.lift, Prog.bind_op, Prog.bind_ret, Prog.pure_eq_ret]
    iintro ⟨#HE, HS, HW, HN, HD⟩
    iapply (st_wait1 m K 18 3 (wpE_waitDma2_eq 𝒱₀ ((0 : Dev nD) : Thread nD τ) none Set.univ) rfl (by decide +kernel) (show (slotM 0).view.dmaCredit = amt 18 from rfl) (T := Tk 0 ∅) (S := Sk 0 kW10) (C := Ck 0 kS10 kW10)
      (by decide +kernel) (by decide +kernel) (tk_none 0 18)) $$ [HS]
    · isplitr; · iexact HE
      iexact HS
    iintro ⟨HS, H18⟩
    ihave H18 := (Entails.of_eq (show payP m 18 0 3 = pt (slotM 0) 0 fullShare (inF m) from rfl)) $$ H18
    iapply (st_wait1 m K 19 4 (wpE_waitDma2_eq 𝒱₀ ((0 : Dev nD) : Thread nD τ) none Set.univ) rfl (by decide +kernel) (show (slotM 1).view.dmaCredit = amt 19 from rfl) (T := Tk 0 ∅) (S := (Sk 0 kW10).erase 18) (C := (Ck 0 kS10 kW10).erase 18)
      (by decide +kernel) (by decide +kernel) (tk_none 0 19)) $$ [HS]
    · isplitr; · iexact HE
      iexact HS
    iintro ⟨HS, H19⟩
    ihave H19 := (Entails.of_eq (show payP m 19 0 4 = pt (slotM 1) 0 fullShare (inF m) from rfl)) $$ H19
    iapply (st_wait1 m K 20 5 (wpE_waitDma2_eq 𝒱₀ ((0 : Dev nD) : Thread nD τ) none Set.univ) rfl (by decide +kernel) (show (slotM 2).view.dmaCredit = amt 20 from rfl) (T := Tk 0 ∅) (S := ((Sk 0 kW10).erase 18).erase 19) (C := ((Ck 0 kS10 kW10).erase 18).erase 19)
      (by decide +kernel) (by decide +kernel) (tk_none 0 20)) $$ [HS]
    · isplitr; · iexact HE
      iexact HS
    iintro ⟨HS, H20⟩
    ihave H20 := (Entails.of_eq (show payP m 20 0 5 = pt (slotM 2) 0 fullShare (inF m) from rfl)) $$ H20
    ihave HI := (slots_join 0 fullShare (inF m)).1 $$ [H18 H19 H20]
    · isplitl [H18]; · iexact H18
      isplitl [H19] <;> iassumption
    iapply (load_pt (M := inM) (r := rI00) (q := fullShare) (f := inF m)) $$ [HI]
    · iexact HI
    iintro HI
    iapply (load_pt (M := inM) (r := rI01) (q := fullShare) (f := inF m)) $$ [HI]
    · iexact HI
    iintro HI
    iapply (load_pt (M := inM) (r := rI10) (q := fullShare) (f := inF m)) $$ [HI]
    · iexact HI
    iintro HI
    iapply (load_pt (M := inM) (r := rI11) (q := fullShare) (f := inF m)) $$ [HI]
    · iexact HI
    iintro HI
    iapply (load_pt (M := inM) (r := rI20) (q := fullShare) (f := inF m)) $$ [HI]
    · iexact HI
    iintro HI
    iapply (load_pt (M := inM) (r := rI21) (q := fullShare) (f := inF m)) $$ [HI]
    · iexact HI
    iintro HI
    iapply (store_all (M := nuM) (nuF m 0) (fun f => (Memref.write_access_unit_zero_univ (Elt F) cc0_scratch6 (by funext a; fin_cases a <;> rfl) _ f _).trans (if_pos rfl : nuF m 0 = _).symm)) $$ [HN]
    · iexact HN
    iintro HN
    iapply (store_all (M := deM) (deF m 0) (fun f => (Memref.write_access_unit_zero_univ (Elt F) cc0_scratch7 (by funext a; fin_cases a <;> rfl) _ f _).trans (if_pos rfl : deF m 0 = _).symm)) $$ [HD]
    · iexact HD
    iintro HD
    iapply (load_pt (M := nuM) (r := rQ) (q := fullShare) (f := nuF m 0)) $$ [HN]
    · iexact HN
    iintro HN
    iapply (load_pt (M := deM) (r := rD) (q := fullShare) (f := deF m 0)) $$ [HD]
    · iexact HD
    iintro HD
    iapply (load_pt (M := woM) (r := rO0) (q := fullShare) (f := woB m 0)) $$ [HW]
    · iexact HW
    iintro HW
    iapply (load_pt (M := woM) (r := rO1) (q := fullShare) (f := woB m 0)) $$ [HW]
    · iexact HW
    iintro HW
    iapply (load_pt (M := woM) (r := rO2) (q := fullShare) (f := woB m 0)) $$ [HW]
    · iexact HW
    iintro HW
    iapply (load_pt (M := woM) (r := rO3) (q := fullShare) (f := woB m 0)) $$ [HW]
    · iexact HW
    iintro HW
    iapply (wpc_ret 0)
    isplitr; · ipureintro; rfl
    isplitl [HS]
    · iapply (st_eq (T := Tk 0 ∅) (S := (((Sk 0 kW10).erase 18).erase 19).erase 20) (C := (((Ck 0 kS10 kW10).erase 18).erase 19).erase 20) rfl (by decide +kernel) (by decide +kernel)); iexact HS
    isplitl [HW]; · iexact HW
    isplitl [HN]; · unfold ptE; iexists _; iexact HN
    isplitl [HD]; · unfold ptE; iexists _; iexact HD
    unfold ptE; iexists _; iexact HI
  · simp only [dif_neg (fun h => h0 ((zero_iff c).1 h) : ¬Scalar.cmpi .ne (Scalar.extui (w8 c) : BitVec 32) 0#32 = 1#1), dif_pos ((nonzero_iff c).2 h0), Prog.bind_op, Prog.bind_ret]
    iintro ⟨#HE, HS, HW, HN, HD⟩
    iapply (store_all (M := nuM) (nuF m c) (fun f => (Memref.write_access_unit_zero_univ (Elt F) cc0_scratch6 (by funext a; fin_cases a <;> rfl) _ f _).trans (if_neg h0 : nuF m c = _).symm)) $$ [HN]
    · iexact HN
    iintro HN
    iapply (store_all (M := deM) (deF m c) (fun f => (Memref.write_access_unit_zero_univ (Elt F) cc0_scratch7 (by funext a; fin_cases a <;> rfl) _ f _).trans (if_neg h0 : deF m c = _).symm)) $$ [HD]
    · iexact HD
    iintro HD
    iapply (load_pt (M := nuM) (r := rQ) (q := fullShare) (f := nuF m c)) $$ [HN]
    · iexact HN
    iintro HN
    iapply (load_pt (M := deM) (r := rD) (q := fullShare) (f := deF m c)) $$ [HD]
    · iexact HD
    iintro HD
    iapply (load_pt (M := woM) (r := rO0) (q := fullShare) (f := woB m c)) $$ [HW]
    · iexact HW
    iintro HW
    iapply (load_pt (M := woM) (r := rO1) (q := fullShare) (f := woB m c)) $$ [HW]
    · iexact HW
    iintro HW
    iapply (load_pt (M := woM) (r := rO2) (q := fullShare) (f := woB m c)) $$ [HW]
    · iexact HW
    iintro HW
    iapply (load_pt (M := woM) (r := rO3) (q := fullShare) (f := woB m c)) $$ [HW]
    · iexact HW
    iintro HW
    iapply (wpc_ret c)
    isplitr; · ipureintro; rfl
    isplitl [HS]
    · iapply (st_eq (T := Tk c ∅) (S := Sk c kW10) (C := Ck c kS10 kW10) rfl ((by decide +kernel : ∀ c : Dev nD, ¬c = 0 → Sk c kW10 = Sk c kW12) c h0) ((by decide +kernel : ∀ c : Dev nD, ¬c = 0 → Ck c kS10 kW10 = Ck c kS10 kW12) c h0)); iexact HS
    isplitl [HW]; · iexact HW
    isplitl [HN]; · unfold ptE; iexists _; iexact HN
    isplitl [HD]; · unfold ptE; iexists _; iexact HD
    iapply (emp_onlyIf (F := F) h0); iempintro

/-- What device 0 lent to its copies of query rows and of global rows, back at their departures. -/
abbrev qBack : sProp 𝕄 := iprop(pt qM 0 (sh fullShare 0) (qF m) ∗ pt qM 0 (sh fullShare 1) (qF m) ∗ pt qM 0 (sh fullShare 2) (qF m)
  ∗ pt qM 0 (sh fullShare 3) (qF m) ∗ pt qM 0 (sh fullShare 4) (qF m))
abbrev gBack : sProp 𝕄 := iprop(pt nbG 0 (sh shG 0) (nbF m 0) ∗ pt nbG 0 (sh shG 1) (nbF m 0) ∗ pt nbG 0 (sh shG 2) (nbF m 0)
  ∗ pt nbG 0 (sh shG 3) (nbF m 0) ∗ pt nbG 0 (sh shG 4) (nbF m 0))

set_option maxHeartbeats 1000000 in
theorem part13 (c : Dev nD) :
    iprop(Env m K ∗ St c (Tk c ∅) (Sk c kW12) (Ck c kS10 kW12) ∗ ptE oM c)
      ⊢ wpc c (K13 (w8 c) (w14 c) (oA m c) (oB m c)) (fun v => iprop(⌜v = Scalar.extui (w14 c)⌝
          ∗ St c (Tk c ∅) (Sk c kW13) (Ck c kS10 kW13) ∗ pt oM c fullShare (outB m c) ∗ pt nbO c shR (nbF m c) ∗ pt nbO c shL (nbF m c)
          ∗ onlyIf (c = 0) (qBack m) ∗ onlyIf (c = 0) (gBack m))) := by
  simp only [K13, k0_part13_eq_skeleton]; unfold k0_part13_skel
  simp only [Prog.lift, Prog.bind_op, Prog.bind_ret, Prog.pure_eq_ret]
  by_cases h0 : c = 0
  · subst h0
    rw [onlyIf_pos (rfl : (0 : Dev nD) = 0), onlyIf_pos (rfl : (0 : Dev nD) = 0)]
    simp only [dif_pos ((zero_iff 0).2 rfl), k0_part4_eq_skeleton, k0_part4_skel, Prog.lift, Prog.bind_op, Prog.bind_ret, Prog.pure_eq_ret]
    iintro ⟨#HE, HS, HO⟩
    iapply (store_all (M := oM) (outB m 0) (fun f => (Memref.write_access_unit_zero_univ (Elt F) cc0_stg5_0 (by funext a; fin_cases a <;> rfl) _ f _).trans rfl)) $$ [HO]
    · iexact HO
    iintro HO
    iapply (st_wait1 m K 1 0 (wpE_waitDma2_eq 𝒱₀ ((0 : Dev nD) : Thread nD τ) none Set.univ) rfl (by decide +kernel) (show nbO.view.dmaCredit = amt 1 from rfl) (T := Tk 0 ∅) (S := Sk 0 kW12) (C := Ck 0 kS10 kW12)
      (by decide +kernel) (by decide +kernel) (tk_none 0 1)) $$ [HS]
    · isplitr; · iexact HE
      iexact HS
    iintro ⟨HS, H1⟩
    ihave H1 := (Entails.of_eq (show payP m 1 0 0 = pt nbO 0 shR (nbF m 0) from rfl)) $$ H1
    iapply (st_wait1 m K 3 0 (wpE_waitDma2_eq 𝒱₀ ((0 : Dev nD) : Thread nD τ) none Set.univ) rfl (by decide +kernel) (show nbO.view.dmaCredit = amt 3 from rfl) (T := Tk 0 ∅) (S := (Sk 0 kW12).erase 1) (C := (Ck 0 kS10 kW12).erase 1)
      (by decide +kernel) (by decide +kernel) (tk_none 0 3)) $$ [HS]
    · isplitr; · iexact HE
      iexact HS
    iintro ⟨HS, H3⟩
    ihave H3 := (Entails.of_eq (show payP m 3 0 0 = pt nbO 0 shL (nbF m 0) from rfl)) $$ H3
    iapply (st_wait1 m K 5 0 (wpE_waitDma2_eq 𝒱₀ ((0 : Dev nD) : Thread nD τ) none Set.univ) rfl (by decide +kernel) (show qM.view.dmaCredit = amt 5 from rfl) (T := Tk 0 ∅) (S := ((Sk 0 kW12).erase 1).erase 3) (C := ((Ck 0 kS10 kW12).erase 1).erase 3)
      (by decide +kernel) (by decide +kernel) (tk_none 0 5)) $$ [HS]
    · isplitr; · iexact HE
      iexact HS
    iintro ⟨HS, H5⟩
    ihave H5 := (Entails.of_eq (show payP m 5 0 0 = pt qM 0 (sh fullShare 0) (qF m) from rfl)) $$ H5
    iapply (st_wait1 m K 6 0 (wpE_waitDma2_eq 𝒱₀ ((0 : Dev nD) : Thread nD τ) none Set.univ) rfl (by decide +kernel) (show qM.view.dmaCredit = amt 6 from rfl) (T := Tk 0 ∅) (S := (((Sk 0 kW12).erase 1).erase 3).erase 5) (C := (((Ck 0 kS10 kW12).erase 1).erase 3).erase 5)
      (by decide +kernel) (by decide +kernel) (tk_none 0 6)) $$ [HS]
    · isplitr; · iexact HE
      iexact HS
    iintro ⟨HS, H6⟩
    ihave H6 := (Entails.of_eq (show payP m 6 0 0 = pt qM 0 (sh fullShare 1) (qF m) from rfl)) $$ H6
    iapply (st_wait1 m K 7 0 (wpE_waitDma2_eq 𝒱₀ ((0 : Dev nD) : Thread nD τ) none Set.univ) rfl (by decide +kernel) (show qM.view.dmaCredit = amt 7 from rfl) (T := Tk 0 ∅) (S := ((((Sk 0 kW12).erase 1).erase 3).erase 5).erase 6) (C := ((((Ck 0 kS10 kW12).erase 1).erase 3).erase 5).erase 6)
      (by decide +kernel) (by decide +kernel) (tk_none 0 7)) $$ [HS]
    · isplitr; · iexact HE
      iexact HS
    iintro ⟨HS, H7⟩
    ihave H7 := (Entails.of_eq (show payP m 7 0 0 = pt qM 0 (sh fullShare 2) (qF m) from rfl)) $$ H7
    iapply (st_wait1 m K 8 0 (wpE_waitDma2_eq 𝒱₀ ((0 : Dev nD) : Thread nD τ) none Set.univ) rfl (by decide +kernel) (show qM.view.dmaCredit = amt 8 from rfl) (T := Tk 0 ∅) (S := (((((Sk 0 kW12).erase 1).erase 3).erase 5).erase 6).erase 7) (C := (((((Ck 0 kS10 kW12).erase 1).erase 3).erase 5).erase 6).erase 7)
      (by decide +kernel) (by decide +kernel) (tk_none 0 8)) $$ [HS]
    · isplitr; · iexact HE
      iexact HS
    iintro ⟨HS, H8⟩
    ihave H8 := (Entails.of_eq (show payP m 8 0 0 = pt qM 0 (sh fullShare 3) (qF m) from rfl)) $$ H8
    iapply (st_wait1 m K 9 0 (wpE_waitDma2_eq 𝒱₀ ((0 : Dev nD) : Thread nD τ) none Set.univ) rfl (by decide +kernel) (show qM.view.dmaCredit = amt 9 from rfl) (T := Tk 0 ∅) (S := ((((((Sk 0 kW12).erase 1).erase 3).erase 5).erase 6).erase 7).erase 8) (C := ((((((Ck 0 kS10 kW12).erase 1).erase 3).erase 5).erase 6).erase 7).erase 8)
      (by decide +kernel) (by decide +kernel) (tk_none 0 9)) $$ [HS]
    · isplitr; · iexact HE
      iexact HS
    iintro ⟨HS, H9⟩
    ihave H9 := (Entails.of_eq (show payP m 9 0 0 = pt qM 0 (sh fullShare 4) (qF m) from rfl)) $$ H9
    iapply (st_wait1 m K 11 0 (wpE_waitDma2_eq 𝒱₀ ((0 : Dev nD) : Thread nD τ) none Set.univ) rfl (by decide +kernel) (show nbG.view.dmaCredit = amt 11 from rfl) (T := Tk 0 ∅) (S := (((((((Sk 0 kW12).erase 1).erase 3).erase 5).erase 6).erase 7).erase 8).erase 9) (C := (((((((Ck 0 kS10 kW12).erase 1).erase 3).erase 5).erase 6).erase 7).erase 8).erase 9)
      (by decide +kernel) (by decide +kernel) (tk_none 0 11)) $$ [HS]
    · isplitr; · iexact HE
      iexact HS
    iintro ⟨HS, H11⟩
    ihave H11 := (Entails.of_eq (show payP m 11 0 0 = pt nbG 0 (sh shG 0) (nbF m 0) from rfl)) $$ H11
    iapply (st_wait1 m K 12 0 (wpE_waitDma2_eq 𝒱₀ ((0 : Dev nD) : Thread nD τ) none Set.univ) rfl (by decide +kernel) (show nbG.view.dmaCredit = amt 12 from rfl) (T := Tk 0 ∅) (S := ((((((((Sk 0 kW12).erase 1).erase 3).erase 5).erase 6).erase 7).erase 8).erase 9).erase 11) (C := ((((((((Ck 0 kS10 kW12).erase 1).erase 3).erase 5).erase 6).erase 7).erase 8).erase 9).erase 11)
      (by decide +kernel) (by decide +kernel) (tk_none 0 12)) $$ [HS]
    · isplitr; · iexact HE
      iexact HS
    iintro ⟨HS, H12⟩
    ihave H12 := (Entails.of_eq (show payP m 12 0 0 = pt nbG 0 (sh shG 1) (nbF m 0) from rfl)) $$ H12
    iapply (st_wait1 m K 13 0 (wpE_waitDma2_eq 𝒱₀ ((0 : Dev nD) : Thread nD τ) none Set.univ) rfl (by decide +kernel) (show nbG.view.dmaCredit = amt 13 from rfl) (T := Tk 0 ∅) (S := (((((((((Sk 0 kW12).erase 1).erase 3).erase 5).erase 6).erase 7).erase 8).erase 9).erase 11).erase 12) (C := (((((((((Ck 0 kS10 kW12).erase 1).erase 3).erase 5).erase 6).erase 7).erase 8).erase 9).erase 11).erase 12)
      (by decide +kernel) (by decide +kernel) (tk_none 0 13)) $$ [HS]
    · isplitr; · iexact HE
      iexact HS
    iintro ⟨HS, H13⟩
    ihave H13 := (Entails.of_eq (show payP m 13 0 0 = pt nbG 0 (sh shG 2) (nbF m 0) from rfl)) $$ H13
    iapply (st_wait1 m K 14 0 (wpE_waitDma2_eq 𝒱₀ ((0 : Dev nD) : Thread nD τ) none Set.univ) rfl (by decide +kernel) (show nbG.view.dmaCredit = amt 14 from rfl) (T := Tk 0 ∅) (S := ((((((((((Sk 0 kW12).erase 1).erase 3).erase 5).erase 6).erase 7).erase 8).erase 9).erase 11).erase 12).erase 13) (C := ((((((((((Ck 0 kS10 kW12).erase 1).erase 3).erase 5).erase 6).erase 7).erase 8).erase 9).erase 11).erase 12).erase 13)
      (by decide +kernel) (by decide +kernel) (tk_none 0 14)) $$ [HS]
    · isplitr; · iexact HE
      iexact HS
    iintro ⟨HS, H14⟩
    ihave H14 := (Entails.of_eq (show payP m 14 0 0 = pt nbG 0 (sh shG 3) (nbF m 0) from rfl)) $$ H14
    iapply (st_wait1 m K 15 0 (wpE_waitDma2_eq 𝒱₀ ((0 : Dev nD) : Thread nD τ) none Set.univ) rfl (by decide +kernel) (show nbG.view.dmaCredit = amt 15 from rfl) (T := Tk 0 ∅) (S := (((((((((((Sk 0 kW12).erase 1).erase 3).erase 5).erase 6).erase 7).erase 8).erase 9).erase 11).erase 12).erase 13).erase 14) (C := (((((((((((Ck 0 kS10 kW12).erase 1).erase 3).erase 5).erase 6).erase 7).erase 8).erase 9).erase 11).erase 12).erase 13).erase 14)
      (by decide +kernel) (by decide +kernel) (tk_none 0 15)) $$ [HS]
    · isplitr; · iexact HE
      iexact HS
    iintro ⟨HS, H15⟩
    ihave H15 := (Entails.of_eq (show payP m 15 0 0 = pt nbG 0 (sh shG 4) (nbF m 0) from rfl)) $$ H15
    iapply (wpc_ret 0)
    isplitr; · ipureintro; rfl
    isplitl [HS]
    · iapply (st_eq (T := Tk 0 ∅) (S := ((((((((((((Sk 0 kW12).erase 1).erase 3).erase 5).erase 6).erase 7).erase 8).erase 9).erase 11).erase 12).erase 13).erase 14).erase 15) (C := ((((((((((((Ck 0 kS10 kW12).erase 1).erase 3).erase 5).erase 6).erase 7).erase 8).erase 9).erase 11).erase 12).erase 13).erase 14).erase 15) rfl (by decide +kernel) (by decide +kernel)); iexact HS
    isplitl [HO]; · iexact HO
    isplitl [H1]; · iexact H1
    isplitl [H3]; · iexact H3
    isplitl [H5 H6 H7 H8 H9]
    · isplitl [H5]; · iexact H5
      isplitl [H6]; · iexact H6
      isplitl [H7]; · iexact H7
      isplitl [H8]; · iexact H8
      iexact H9
    isplitl [H11]; · iexact H11
    isplitl [H12]; · iexact H12
    isplitl [H13]; · iexact H13
    isplitl [H14]; · iexact H14
    iexact H15
  · simp only [dif_neg (fun h => h0 ((zero_iff c).1 h) : ¬Scalar.cmpi .ne (Scalar.extui (w8 c) : BitVec 32) 0#32 = 1#1), Prog.bind_ret]
    iintro ⟨#HE, HS, HO⟩
    iapply (store_all (M := oM) (outB m c) (fun f => (Memref.write_access_unit_zero_univ (Elt F) cc0_stg5_0 (by funext a; fin_cases a <;> rfl) _ f _).trans rfl)) $$ [HO]
    · iexact HO
    iintro HO
    iapply (st_wait1 m K 1 c (wpE_waitDma2_eq 𝒱₀ (c : Thread nD τ) none Set.univ) rfl ((by decide +kernel : ∀ c : Dev nD, pay c 1 = {c}) c ) (show nbO.view.dmaCredit = amt 1 from rfl) (T := Tk c ∅) (S := Sk c kW12) (C := Ck c kS10 kW12)
      ((by decide +kernel : ∀ c : Dev nD, (1 : Fin 22) ∈ Sk c kW12) c ) ((by decide +kernel : ∀ c : Dev nD, (1 : Fin 22) ∈ Ck c kS10 kW12) c ) (tk_none c 1)) $$ [HS]
    · isplitr; · iexact HE
      iexact HS
    iintro ⟨HS, H1⟩
    ihave H1 := (Entails.of_eq (show payP m 1 c c = pt nbO c shR (nbF m c) from rfl)) $$ H1
    iapply (st_wait1 m K 3 c (wpE_waitDma2_eq 𝒱₀ (c : Thread nD τ) none Set.univ) rfl ((by decide +kernel : ∀ c : Dev nD, pay c 3 = {c}) c ) (show nbO.view.dmaCredit = amt 3 from rfl) (T := Tk c ∅) (S := (Sk c kW12).erase 1) (C := (Ck c kS10 kW12).erase 1)
      ((by decide +kernel : ∀ c : Dev nD, (3 : Fin 22) ∈ (Sk c kW12).erase 1) c ) ((by decide +kernel : ∀ c : Dev nD, (3 : Fin 22) ∈ (Ck c kS10 kW12).erase 1) c ) (tk_none c 3)) $$ [HS]
    · isplitr; · iexact HE
      iexact HS
    iintro ⟨HS, H3⟩
    ihave H3 := (Entails.of_eq (show payP m 3 c c = pt nbO c shL (nbF m c) from rfl)) $$ H3
    iapply (wpc_ret c)
    isplitr; · ipureintro; rfl
    isplitl [HS]
    · iapply (st_eq (T := Tk c ∅) (S := ((Sk c kW12).erase 1).erase 3) (C := ((Ck c kS10 kW12).erase 1).erase 3) rfl ((by decide +kernel : ∀ c : Dev nD, ¬c = 0 → ((Sk c kW12).erase 1).erase 3 = Sk c kW13) c h0) ((by decide +kernel : ∀ c : Dev nD, ¬c = 0 → ((Ck c kS10 kW12).erase 1).erase 3 = Ck c kS10 kW13) c h0)); iexact HS
    isplitl [HO]; · iexact HO
    isplitl [H1]; · iexact H1
    isplitl [H3]; · iexact H3
    isplitr; · iapply (emp_onlyIf (F := F) h0); iempintro
    iapply (emp_onlyIf (F := F) h0); iempintro

/-- The last wait of a middle device: its partial sums have left. -/
theorem wait_sums (c : Dev nD) (h2 : Mid c) {w : TpuEff nD τ sig (Elt F) Λ₀ .tc PUnit} {sm : SemLoc sig} {n : ℕ}
    (hw : ∀ R : PUnit → sProp 𝕄, wpE (defs₀ (F := F)) 𝒱₀ (c : Thread nD τ) none Set.univ w R = waitSpec (c : Thread nD τ) Set.univ sm n R)
    (hsm : sm = csem 17) (hn : n = NP) {α : Type} {Q : α → sProp 𝕄} {k : PUnit → Prog (TpuEff nD τ sig (Elt F) Λ₀ .tc) α} :
    iprop(Env m K ∗ St c (Tk c ∅) (Sk c kW13) (Ck c kS10 kW13))
      ⊢ iprop(((St c (Tk c ∅) (Sk c Finset.univ) (Ck c kS10 Finset.univ) ∗ pt paM c fullShare (psF m c)) -∗ wpc c (k ⟨⟩) Q) -∗ wpc c (.op w k) Q) := by
  have h := st_wait1 m K (c := c) 17 c (T := Tk c ∅) (S := Sk c kW13) (C := Ck c kS10 kW13) hw hsm ((by decide +kernel : ∀ c : Dev nD, Mid c → pay c 17 = {c}) c h2) (hn.trans (rfl : NP = amt 17))
    ((by decide +kernel : ∀ c : Dev nD, (17 : Fin 22) ∈ Sk c kW13) c ) ((by decide +kernel : ∀ c : Dev nD, Mid c → (17 : Fin 22) ∈ Ck c kS10 kW13) c h2) (tk_none c 17) (Q := Q) (kk := k)
  rw [show (Sk c kW13).erase 17 = Sk c Finset.univ from (by decide +kernel : ∀ c : Dev nD, Mid c → (Sk c kW13).erase 17 = Sk c Finset.univ) c h2,
    show (Ck c kS10 kW13).erase 17 = Ck c kS10 Finset.univ from (by decide +kernel : ∀ c : Dev nD, Mid c → (Ck c kS10 kW13).erase 17 = Ck c kS10 Finset.univ) c h2] at h
  exact h

end Cert.Sparse
-- ==== Proof.Body.lean ====
/-
# The body as a whole

Its parts one after another, from the launch's buffers to the output, and the cells closed at the end.
-/
module

public import proofs.«01_k».proof.Proof.Body12

@[expose] public section

noncomputable section

namespace Cert.Sparse

open Cert.KernelIdeal Cert.KernelIdeal.Gen
open Idealize.ShloMosaic
open Idealize.ShloMosaic.TcCoe
open Idealize.ShloMosaic.ValueIdx (ix3 ix4 ix5)
open Idealize.SL Idealize.SL.RA Idealize.SL.BI
open Idealize.ShloMosaic.Rounds
open scoped Idealize.SL.BI
open Idealize.SL.BI.BIBase Idealize.SL.BI.Laws Idealize.SL.ProofMode Idealize.SL.Sem

variable {F : FTy → Type} [FloatOps F]

local notation "𝕄" => MT nD τ sig Unit (Elt F) ℕ UU ℕ

variable (m : (ℓ : Loc nD τ sig) → Buf (Elt F) ℓ) (K : Dev nD × Fin 22 → ℕ)

/-! ## The program as its parts -/

/-- The last two waits. -/
def KT (d0 : Dev nD) (v237 : BitVec 32) : Prog (TpuEff nD τ sig (Elt F) Λ₀ .tc) PUnit := do
  if k0_h16 : Scalar.cmpi .ne v237 0#32 = 1#1 then do
    Prog.lift (.waitDma2 ((cc0_scratch16.slice (Rect.unit (s := S1) ![0] S1.size inb_S1_S1_0)).squeeze S_ squeezes_S1_S_).sem
      agM paM (Memref.isWhole_whole cc0_scratch5).wordExact (Memref.isWhole_whole cc0_scratch3).wordExact)
    pure ⟨⟩
  else do
    pure ⟨⟩
  if k0_h17 : k0_cond17 d0 = 1#1 then do
    Prog.lift (.waitDma2 ((cc0_scratch16.slice (Rect.unit (s := S1) ![0] S1.size inb_S1_S1_0)).squeeze S_ squeezes_S1_S_).sem
      ((inM.slice (Rect.unit (s := S3x2x8x32x64) (k0_off3 d0) S1x2x8x32x64.size (k0_off3_inb d0 k0_h17)) (fun _ => rfl)).squeeze S2x8x32x64 squeezes_S1x2x8x32x64_S2x8x32x64)
      paM (((Memref.isWhole_whole cc0_scratch4).wordExact_slice rfl _ (k0_off3_wordsbf16 d0 k0_h17)).reshape _ _) (Memref.isWhole_whole cc0_scratch3).wordExact)
    pure ⟨⟩
  else do
    pure ⟨⟩
  pure ⟨⟩

/-- The body at the launch's buffers. -/
abbrev KB : Prog (TpuEff nD τ sig (Elt F) Λ₀ .tc) PUnit :=
  cc0_body (F := F) xM (Memref.isWhole_whole _) wqM (Memref.isWhole_whole _) kM (Memref.isWhole_whole _) vM (Memref.isWhole_whole _) woM (Memref.isWhole_whole _) oM (Memref.isWhole_whole _)
    nbM (Memref.isWhole_whole _) qM (Memref.isWhole_whole _) gM (Memref.isWhole_whole _) paM (Memref.isWhole_whole _) inM (Memref.isWhole_whole _) agM (Memref.isWhole_whole _) nuM (Memref.isWhole_whole _) deM (Memref.isWhole_whole _)
    cc0_scratch8 cc0_scratch9 cc0_scratch10 cc0_scratch11 cc0_scratch12 cc0_scratch13 cc0_scratch14 cc0_scratch15 cc0_scratch16 cc0_scratch17 cc0_scratch18

theorem body_parts : KB (F := F) =
    K5 >>= fun a => K6 a.1 a.2.2.2.2.1 a.2.2.2.2.2.1 a.2.2.2.2.2.2.2.2.2 >>= fun b => K7 b.2 >>= fun _ =>
      K8 a.1 a.2.2.1 a.2.2.2.1 a.2.2.2.2.1 a.2.2.2.2.2.1 >>= fun d =>
      K9 a.1 a.2.1 a.2.2.2.2.2.1 a.2.2.2.2.2.2.1 a.2.2.2.2.2.2.2.1 a.2.2.2.2.2.2.2.2.1 b.1 d.1 d.2 >>= fun e =>
      K10 a.2.2.1 a.2.2.2.1 a.2.2.2.2.2.1 e.1 e.2 >>= fun f =>
      K11 a.2.1 a.2.2.2.2.1 e.1 f.1 f.2 >>= fun g =>
      K12 a.2.2.2.2.1 g.1 g.2.1 g.2.2.1 g.2.2.2 >>= fun h =>
      K13 a.2.2.2.2.1 a.2.2.2.2.2.2.1 h.1 h.2 >>= fun v => KT a.1 v := rfl

/-- A part that returns `v` and turns `A` into `B`, and what follows from `B`. -/
theorem part_next {c : Dev nD} {α β : Type} {p : Prog (TpuEff nD τ sig (Elt F) Λ₀ .tc) α} {k : α → Prog (TpuEff nD τ sig (Elt F) Λ₀ .tc) β}
    {A B : sProp 𝕄} {v : α} {Q : β → sProp 𝕄} (h : A ⊢ wpc c p (fun x => iprop(⌜x = v⌝ ∗ B))) :
    A ⊢ iprop((B -∗ wpc c (k v) Q) -∗ wpc c (p >>= k) Q) := by
  have h' := part_then (Q := Q) (k := k) (R := iprop(B -∗ wpc c (k v) Q)) h (by iintro ⟨H1, H2⟩; iapply H2; iexact H1)
  iintro HA HR
  iapply h'
  isplitl [HA] <;> iassumption

/-! ## The buffers before and after -/

theorem zero_way (c : Dev nD) (P : sProp 𝕄) : P ⊢ iprop(onlyIf (c = 0) P ∗ onlyIf (¬c = 0) P) := by
  by_cases h : c = 0
  · rw [onlyIf_pos h, onlyIf_neg (not_not.2 h)]; iintro H; isplitl [H]; · iexact H
    iempintro
  · rw [onlyIf_neg h, onlyIf_pos h]; iintro H; isplitr; · iempintro
    iexact H
theorem zero_back (c : Dev nD) (P : sProp 𝕄) : iprop(onlyIf (c = 0) P ∗ onlyIf (¬c = 0) P) ⊢ P := by
  by_cases h : c = 0
  · rw [onlyIf_pos h, onlyIf_neg (not_not.2 h)]; iintro ⟨H, -⟩; iexact H
  · rw [onlyIf_neg h, onlyIf_pos h]; iintro ⟨-, H⟩; iexact H

theorem hold {s : Shape} {e : EltTy} (M : Memref sig .tc .vmem s e) (c : Dev nD) (f : Buf (Elt F) (M.view.loc (c : Thread nD τ))) :
    (pt M c fullShare f : sProp 𝕄) ⊢ ptE M c := by
  iintro H; unfold ptE; iexists f; iexact H

theorem rows_open (c : Dev nD) : (ptE nbM c : sProp 𝕄) ⊢ iprop(ptE nbL c ∗ ptE nbO c ∗ ptE nbR c) := by
  iintro H
  unfold ptE
  icases H with ⟨%f, H⟩
  ihave H := (rows_join c fullShare f).2 $$ H
  icases H with ⟨A, B, C⟩
  isplitl [A]; · iexists f; iexact A
  isplitl [B]; · iexists f; iexact B
  iexists f; iexact C

theorem slots_open (c : Dev nD) : (ptE inM c : sProp 𝕄) ⊢ iprop(onlyIf (c = 0) slots ∗ onlyIf (¬c = 0) (ptE inM c)) := by
  by_cases h : c = 0
  · subst h
    rw [onlyIf_pos (rfl : (0 : Dev nD) = 0), onlyIf_neg (not_not.2 (rfl : (0 : Dev nD) = 0))]
    iintro H
    unfold ptE
    icases H with ⟨%f, H⟩
    ihave H := (slots_join 0 fullShare f).2 $$ H
    icases H with ⟨A, B, C⟩
    isplitr []
    · isplitl [A]; · iapply (hold (slotM 0) 0 f); iexact A
      isplitl [B]; · iapply (hold (slotM 1) 0 f); iexact B
      iapply (hold (slotM 2) 0 f); iexact C
    iempintro
  · rw [onlyIf_neg h, onlyIf_pos h]; iintro H; isplitr; · iempintro
    iexact H

theorem q_ways (c : Dev nD) : onlyIf (¬Mid c) iprop(ptE qM c ∗ ptE gM c)
    ⊢ (iprop(onlyIf (c = 0) (ptE qM c) ∗ onlyIf (¬Mid c ∧ ¬c = 0) (ptE qM c) ∗ onlyIf (¬Mid c) (ptE gM c)) : sProp 𝕄) := by
  by_cases h2 : Mid c
  · rw [onlyIf_neg (not_not.2 h2), onlyIf_neg (not_not.2 h2), onlyIf_neg (fun h => h.1 h2 : ¬(¬Mid c ∧ ¬c = 0)), onlyIf_neg ((by decide : ∀ c : Dev nD, Mid c → ¬c = 0) c h2)]
    iintro -
    isplitr; · iempintro
    isplitr <;> iempintro
  · rw [onlyIf_pos h2, onlyIf_pos h2]
    by_cases h : c = 0
    · rw [onlyIf_pos h, onlyIf_neg (fun h' => h'.2 h : ¬(¬Mid c ∧ ¬c = 0))]
      iintro ⟨A, B⟩
      isplitl [A]; · iexact A
      isplitr; · iempintro
      iexact B
    · rw [onlyIf_neg h, onlyIf_pos ⟨h2, h⟩]
      iintro ⟨A, B⟩
      isplitr; · iempintro
      isplitl [A]; · iexact A
      iexact B

theorem q_back (c : Dev nD) : iprop(onlyIf (c = 0) (qBack m) ∗ onlyIf (Mid c) (pt qM c fullShare (qF m)) ∗ onlyIf (¬Mid c ∧ ¬c = 0) (ptE qM c))
    ⊢ (ptE qM c : sProp 𝕄) := by
  by_cases h2 : Mid c
  · rw [onlyIf_neg (fun h => h.1 h2 : ¬(¬Mid c ∧ ¬c = 0)), onlyIf_neg ((by decide : ∀ c : Dev nD, Mid c → ¬c = 0) c h2), onlyIf_pos h2]
    iintro ⟨-, H, -⟩
    unfold ptE; iexists _; iexact H
  · rw [onlyIf_neg h2]
    by_cases h : c = 0
    · subst h
      rw [onlyIf_pos (rfl : (0 : Dev nD) = 0), onlyIf_neg (fun h' => h'.2 rfl : ¬(¬Mid (0 : Dev nD) ∧ ¬(0 : Dev nD) = 0))]
      iintro ⟨H, -, -⟩
      unfold ptE; iexists qF m
      iapply (five_join qM 0 fullShare (qF m)); iexact H
    · rw [onlyIf_neg h, onlyIf_pos ⟨h2, h⟩]
      iintro ⟨-, -, H⟩; iexact H

theorem sums_back (c : Dev nD) : iprop(onlyIf (¬Mid c) (ptE paM c) ∗ onlyIf (Mid c) (pt paM c fullShare (psF m c))) ⊢ (ptE paM c : sProp 𝕄) := by
  by_cases h2 : Mid c
  · rw [onlyIf_neg (not_not.2 h2), onlyIf_pos h2]
    iintro ⟨-, H⟩; unfold ptE; iexists _; iexact H
  · rw [onlyIf_neg h2, onlyIf_pos h2]
    iintro ⟨H, -⟩; iexact H

theorem own_back (c : Dev nD) : iprop(pt nbO c (qk c) (nbF m c) ∗ pt nbO c shR (nbF m c) ∗ pt nbO c shL (nbF m c) ∗ onlyIf (c = 0) (keptG m) ∗ onlyIf (c = 0) (gBack m))
    ⊢ (pt nbO c fullShare (nbF m c) : sProp 𝕄) := by
  have hL (c : Dev nD) : iprop(pt nbO c shR (nbF m c) ∗ pt nbO c shL (nbF m c) ∗ pt nbO c shK (nbF m c)) ⊢ (pt nbO c fullShare (nbF m c) : sProp 𝕄) := by
    iintro ⟨A, B, C⟩
    iapply (half_join nbO c fullShare (nbF m c))
    isplitr [C]
    · iapply (half_join nbO c fullShare.left (nbF m c))
      isplitl [A] <;> iassumption
    · iexact C
  by_cases h : c = 0
  · subst h
    have e : iprop(pt nbG 0 shG (nbF m 0) ∗ keptG m) ⊢ (pt nbO 0 shG (nbF m 0) : sProp 𝕄) := (pointsTo_split_subset nbG_sub).2
    rw [onlyIf_pos (rfl : (0 : Dev nD) = 0), onlyIf_pos (rfl : (0 : Dev nD) = 0), show qk 0 = shH from if_pos rfl]
    iintro ⟨HH, A, B, HK, HG⟩
    iapply (hL 0)
    isplitl [A]; · iexact A
    isplitl [B]; · iexact B
    iapply (half_join nbO 0 shK (nbF m 0))
    isplitr [HH]
    · iapply e
      isplitl [HG]
      · iapply (five_join nbG 0 shG (nbF m 0)); iexact HG
      iexact HK
    iexact HH
  · rw [onlyIf_neg h, show qk c = shK from if_neg h]
    iintro ⟨HH, A, B, -, -⟩
    iapply (hL c)
    isplitl [A]; · iexact A
    isplitl [B] <;> iassumption

/-! ## The last waits -/

theorem part14 (c : Dev nD) {Q : PUnit → sProp 𝕄} :
    iprop(Env m K ∗ St c (Tk c ∅) (Sk c kW13) (Ck c kS10 kW13))
      ⊢ iprop(((St c (Tk c ∅) (Sk c Finset.univ) (Ck c kS10 Finset.univ) ∗ onlyIf (Mid c) (pt paM c fullShare (psF m c))) -∗ Q ⟨⟩)
        -∗ wpc c (KT c (Scalar.extui (w14 c))) Q) := by
  unfold KT
  by_cases h2 : Mid c
  · rw [onlyIf_pos h2]
    by_cases hl : Leaf c
    · have hs : ¬Snd c := (by decide : ∀ c : Dev nD, Leaf c → ¬Snd c) c hl
      simp only [dif_pos ((leaf_iff c).2 hl), dif_neg (fun h => hs ((cond17_iff c).1 h) : ¬k0_cond17 c = 1#1), Prog.lift, Prog.bind_op, Prog.bind_ret, Prog.pure_eq_ret]
      iintro ⟨#HE, HS⟩ Hk
      iapply (wait_sums m K c h2 (wpE_waitDma2_eq 𝒱₀ (c : Thread nD τ) none Set.univ) rfl (show paM.view.dmaCredit = NP from rfl)) $$ [HS]
      · isplitr; · iexact HE
        iexact HS
      iintro ⟨HS, HP⟩
      iapply (wpc_ret c)
      iapply Hk
      isplitl [HS] <;> iassumption
    · have hs : Snd c := (by decide : ∀ c : Dev nD, Mid c → ¬Leaf c → Snd c) c h2 hl
      simp only [dif_neg (fun h => hl ((leaf_iff c).1 h) : ¬Scalar.cmpi .ne (Scalar.extui (w14 c) : BitVec 32) 0#32 = 1#1), dif_pos ((cond17_iff c).2 hs), Prog.lift, Prog.bind_op, Prog.bind_ret, Prog.pure_eq_ret]
      iintro ⟨#HE, HS⟩ Hk
      iapply (wait_sums m K c h2 (wpE_waitDma2_eq 𝒱₀ (c : Thread nD τ) none Set.univ) rfl (show paM.view.dmaCredit = NP from rfl)) $$ [HS]
      · isplitr; · iexact HE
        iexact HS
      iintro ⟨HS, HP⟩
      iapply (wpc_ret c)
      iapply Hk
      isplitl [HS] <;> iassumption
  · have hl : ¬Leaf c := (by decide : ∀ c : Dev nD, ¬Mid c → ¬Leaf c) c h2
    have hs : ¬Snd c := (by decide : ∀ c : Dev nD, ¬Mid c → ¬Snd c) c h2
    simp only [dif_neg (fun h => hl ((leaf_iff c).1 h) : ¬Scalar.cmpi .ne (Scalar.extui (w14 c) : BitVec 32) 0#32 = 1#1),
      dif_neg (fun h => hs ((cond17_iff c).1 h) : ¬k0_cond17 c = 1#1), Prog.bind_ret, Prog.pure_eq_ret]
    iintro ⟨#HE, HS⟩ Hk
    iapply (wpc_ret c)
    iapply Hk
    isplitl [HS]
    · iapply (st_eq (T := Tk c ∅) (S := Sk c kW13) (C := Ck c kS10 kW13) rfl
        ((by decide +kernel : ∀ c : Dev nD, ¬Mid c → Sk c kW13 = Sk c Finset.univ) c h2)
        ((by decide +kernel : ∀ c : Dev nD, ¬Mid c → Ck c kS10 kW13 = Ck c kS10 Finset.univ) c h2)); iexact HS
    iapply (emp_onlyIf (F := F) h2); iempintro

/-! ## The whole -/

/-- The scratch buffers, holding something. -/
abbrev scr (c : Dev nD) : sProp 𝕄 :=
  iprop(ptE nbM c ∗ ptE qM c ∗ ptE gM c ∗ ptE paM c ∗ ptE inM c ∗ ptE agM c ∗ ptE nuM c ∗ ptE deM c)

set_option maxHeartbeats 2000000 in
theorem body (c : Dev nD) :
    iprop(Env m K ∗ St c (Tk c Finset.univ) (Sk c ∅) (Ck c ∅ ∅) ∗ pt xM c fullShare (xB m c) ∗ pt wqM c fullShare (wqB m c)
        ∗ pt kM c fullShare (kB m c) ∗ pt vM c fullShare (vB m c) ∗ pt woM c fullShare (woB m c) ∗ ptE oM c ∗ scr c)
      ⊢ wpc c KB (fun _ => iprop(St c (Tk c ∅) (Sk c Finset.univ) (Ck c kS10 Finset.univ) ∗ pt xM c fullShare (xB m c) ∗ pt wqM c fullShare (wqB m c)
        ∗ pt kM c fullShare (kB m c) ∗ pt vM c fullShare (vB m c) ∗ pt woM c fullShare (woB m c) ∗ pt oM c fullShare (outB m c) ∗ scr c)) := by
  rw [body_parts]
  iintro ⟨#HE, HS, HX, HW, HK, HV, HWo, HO, HN, HQ, HG, HP, HI, HA, Hnu, Hde⟩
  ihave HN := (rows_open c) $$ HN
  icases HN with ⟨NL, NO, NR⟩
  ihave HI := (slots_open c) $$ HI
  icases HI with ⟨I0, I1⟩
  iapply (part_next (part5 m K c)) $$ [HS NL NR HQ HG HA I0]
  · isplitr; · iexact HE
    isplitl [HS]; · iexact HS
    isplitl [NL]; · iexact NL
    isplitl [NR]; · iexact NR
    isplitl [HQ]; · iexact HQ
    isplitl [HG]; · iexact HG
    isplitl [HA]; · iexact HA
    iexact I0
  iintro ⟨HS, HQ, HA⟩
  ihave HQ := (q_ways c) $$ HQ
  icases HQ with ⟨Q0, Q1, HG⟩
  iapply (part_next (part6 m K c)) $$ [HS HX HW HK HV NO Q0]
  · isplitr; · iexact HE
    isplitl [HS]; · iexact HS
    isplitl [HX]; · iexact HX
    isplitl [HW]; · iexact HW
    isplitl [HK]; · iexact HK
    isplitl [HV]; · iexact HV
    isplitl [NO]; · iexact NO
    iexact Q0
  iintro ⟨HS, HX, HW, HK, HV, NO, NL, NR, MG, LA, SS⟩
  iapply (part_next (part7 m c)) $$ [HK HV NO]
  · isplitl [HK]; · iexact HK
    isplitl [HV]; · iexact HV
    iexact NO
  iintro ⟨HK, HV, NO⟩
  iapply (part_next (part8 m K c)) $$ [HS HX HV NO HG NL MG]
  · isplitr; · iexact HE
    isplitl [HS]; · iexact HS
    isplitl [HX]; · iexact HX
    isplitl [HV]; · iexact HV
    isplitl [NO]; · iexact NO
    isplitl [HG]; · iexact HG
    isplitl [NL]; · iexact NL
    iexact MG
  iintro ⟨HS, HX, HV, OL, OK, KG, HG⟩
  iapply (part_next (part9 m K c _)) $$ [HS OL OK NR HP HA LA SS]
  · isplitr; · iexact HE
    isplitl [HS]; · iexact HS
    isplitl [OL]; · iexact OL
    isplitl [OK]; · iexact OK
    isplitl [NR]; · iexact NR
    isplitl [HP]; · iexact HP
    isplitl [HA]; · iexact HA
    isplitl [LA]; · iexact LA
    iexact SS
  iintro ⟨HS, OK, Q2, HP, HA⟩
  iapply (part_next (part10 m K c)) $$ [HS HG]
  · isplitr; · iexact HE
    isplitl [HS] <;> iassumption
  iintro ⟨HS, HG, NL, NR⟩
  iapply (part_next (part11 m c)) $$ [NL NR OK]
  · isplitl [NL]; · iexact NL
    isplitl [NR] <;> iassumption
  iintro ⟨NL, NR, OK⟩
  iapply (part_next (part12 m K c)) $$ [HS HWo Hnu Hde]
  · isplitr; · iexact HE
    isplitl [HS]; · iexact HS
    isplitl [HWo]; · iexact HWo
    isplitl [Hnu] <;> iassumption
  iintro ⟨HS, HWo, Hnu, Hde, I0⟩
  iapply (part_next (part13 m K c)) $$ [HS HO]
  · isplitr; · iexact HE
    isplitl [HS] <;> iassumption
  iintro ⟨HS, HO, OR, OL, Q0, GB⟩
  iapply (part14 m K c) $$ [HS]
  · isplitr; · iexact HE
    iexact HS
  iintro ⟨HS, HP'⟩
  ihave HQ := (q_back m c) $$ [Q0 Q1 Q2]
  · isplitl [Q0]; · iexact Q0
    isplitl [Q2] <;> iassumption
  ihave HP := (sums_back m c) $$ [HP HP']
  · isplitl [HP] <;> iassumption
  ihave NO := (own_back m c) $$ [OK OR OL KG GB]
  · isplitl [OK]; · iexact OK
    isplitl [OR]; · iexact OR
    isplitl [OL]; · iexact OL
    isplitl [KG] <;> iassumption
  ihave HN := (rows_join c fullShare (nbF m c)).1 $$ [NL NO NR]
  · isplitl [NL]; · iexact NL
    isplitl [NO] <;> iassumption
  ihave HI := (zero_back c (ptE inM c)) $$ [I0 I1]
  · isplitl [I0] <;> iassumption
  isplitl [HS]; · iexact HS
  isplitl [HX]; · iexact HX
  isplitl [HW]; · iexact HW
  isplitl [HK]; · iexact HK
  isplitl [HV]; · iexact HV
  isplitl [HWo]; · iexact HWo
  isplitl [HO]; · iexact HO
  isplitl [HN]; · unfold ptE; iexists _; iexact HN
  isplitl [HQ]; · iexact HQ
  isplitl [HG]; · unfold ptE; iexists _; iexact HG
  isplitl [HP]; · iexact HP
  isplitl [HI]; · iexact HI
  isplitl [HA]; · iexact HA
  isplitl [Hnu] <;> iassumption

/-! ## The cells closed -/

/-- At the end nothing is owed and every cell is closed at zero. -/
theorem cells_done (c : Dev nD) :
    iprop(Env m K ∗ St c (Tk c ∅) (Sk c Finset.univ) (Ck c kS10 Finset.univ))
      ⊢ (iprop(|={Set.univ}=> ((∃ W, owes c 0 W) ∗ bigSep Finset.univ (fun k : Fin 22 => semVal (kcell (c, k)) 0))) : sProp 𝕄) := by
  have hT : Tk c ∅ = ∅ := Finset.filter_eq_empty_iff.2 fun g _ h => Finset.notMem_empty _ h.2
  have h1 (k : Fin 22) (hk : k ∈ Sk c Finset.univ) : iprop(Env m K ∗ atPos ER (kcell (c, k)) 0 ∅ 0) ⊢ (iprop(|={Set.univ}=> semVal (kcell (c, k)) 0) : sProp 𝕄) := by
    have hd : ∀ r, 0 ≤ r → (Rd (F := F) m).duties (kcell (c, k)) r = ∅ := fun r _ => by
      rcases Nat.eq_zero_or_pos r with rfl | hr
      · rw [duties_ck]
        exact Finset.not_nonempty_iff_eq_empty.1 fun h => (Finset.mem_filter.1 hk).2 ⟨Finset.mem_univ _, h⟩
      · exact duties_later m _ r hr
    iintro ⟨#HE, H⟩
    iapply (Rounds.cell_close ER (Rd m) (Set.mem_univ (K (c, k))) (fun h => h) (R := 0) hd)
    isplitr; · iapply (Env_inv m K (c, k)); iexact HE
    iexact H
  have h2 : iprop(Env m K ∗ bigSep (Sk c Finset.univ) (fun k => atPos ER (kcell (c, k)) 0 ∅ 0))
      ⊢ (iprop(|={Set.univ}=> bigSep (Sk c Finset.univ) (fun k => semVal (kcell (c, k)) 0)) : sProp 𝕄) :=
    (bigSep_with_persistent fun k hk => h1 k hk).trans (bigSep_fupd _ _)
  have h3 : bigSep Finset.univ (fun k : Fin 22 => (semVal (kcell (c, k)) 0 : sProp 𝕄))
      = iprop(bigSep (Sk c Finset.univ) (fun k => semVal (kcell (c, k)) 0) ∗ bigSep (Sk c Finset.univ)ᶜ (fun k => semVal (kcell (c, k)) 0)) := by
    rw [Finset.compl_eq_univ_sdiff]; exact bigSep_sdiff_split (Finset.subset_univ _)
  rw [h3, hT]
  unfold St
  iintro ⟨#HE, ⟨%W, HO⟩, -, Hat, Hz, -⟩
  imod h2 $$ [Hat] with H
  · isplitr; · iexact HE
    iexact Hat
  imodintro
  isplitl [HO]
  · iexists W; iexact HO
  isplitl [H] <;> iassumption

end Cert.Sparse
-- ==== Proof.Launch.lean ====
/-
# The launch

The eight bodies started together: what the launch deals each device, the pipeline's data for its one point, and
the run of the whole program with the output block on every device.
-/
module

public import proofs.«01_k».proof.Proof.Body
public import proofs.«01_k».proof.Proof.Gen.KernelIdeal.Launch
public import proofs.«01_k».proof.Proof.Gen.KernelIdeal.Points
public import Idealize.ShloMosaic.Lib.Pipeline.CollectiveSegs
public import Idealize.ShloMosaic.Adequacy
public import Idealize.ShloMosaic.Init

@[expose] public section

noncomputable section

namespace Cert.Sparse

open Cert.KernelIdeal Cert.KernelIdeal.Gen
open Idealize.ShloMosaic
open Idealize.ShloMosaic.TcCoe
open Idealize.ShloMosaic.ValueIdx (ix3 ix4 ix5)
open Idealize.SL Idealize.SL.RA Idealize.SL.BI
open Idealize.ShloMosaic.Rounds
open Idealize.ShloMosaic.Pipeline
open scoped Idealize.SL.BI
open Idealize.SL.BI.BIBase Idealize.SL.BI.Laws Idealize.SL.ProofMode Idealize.SL.Sem

variable {F : FTy → Type} [FloatOps F]

local notation "𝕄" => MT nD τ sig Unit (Elt F) ℕ UU ℕ

variable (m : (ℓ : Loc nD τ sig) → Buf (Elt F) ℓ) (ρ : Dev nD → PrngReg)

abbrev s₀ : MemSt nD τ sig (Elt F) := ⟨m, fun _ => 0, ρ⟩

/-! ## What a device starts and ends with -/

/-- What the launch hands device `c`, before the levels and the credits, -/
def dealt (c : Dev nD) : sProp 𝕄 :=
  iprop(∃ K : Dev nD × Fin 22 → ℕ, (bigSep Finset.univ (fun ck => cellInv ER (Rd m) (K ck) (kcell ck)) ∗ bigSep Finset.univ (fun ck => reached ER (kcell ck) 0))
    ∗ bigSep (Tk c Finset.univ) (fun g => dutyTok ER (kcell g) 0 c) ∗ bigSep Finset.univ (fun k => atPos ER (kcell (c, k)) 0 ∅ 0))

/-- and with them. -/
def start (c : Dev nD) : sProp 𝕄 :=
  iprop(dealt m c ∗ levAts L lv ∗ bigSep (Ck c ∅ ∅) (fun k => cred (tallyAt (kcell (c, k)) () (expc c k))))

/-- At the end every cell of the device is closed at zero. -/
def closed (c : Dev nD) : sProp 𝕄 := bigSep Finset.univ (fun k : Fin 22 => semVal (kcell (c, k)) 0)

abbrev due (c : Dev nD) : CellTallies nD τ sig Unit := owedT (Tk c Finset.univ)

def dats (_ : Fin 1) (c : Dev nD) : Dat τ (Elt F) Unit ℕ UU ℕ cfg0 c where
  A w := (s₀ m ρ).mem ((cfg0.win w).arr.view.loc (c : Thread nD τ))
  after w _ := match w with
    | ⟨0, _⟩ => xB m c
    | ⟨1, _⟩ => wqB m c
    | ⟨2, _⟩ => kB m c
    | ⟨3, _⟩ => vB m c
    | ⟨4, _⟩ => woB m c
    | ⟨5, _⟩ => outB m c
  Φ t := match t with
    | ⟨0, _⟩ => iprop(start m c ∗ scr c)
    | ⟨_ + 1, _⟩ => iprop(closed c ∗ scr c)
  q _ := fullShare
  owed t := match t with
    | ⟨0, _⟩ => due c
    | ⟨_ + 1, _⟩ => 0

omit [FloatOps F] in
theorem owns_whole_eq (c : Dev nD) (b : Ref sig .tc) (X : b.ty.Contents (Elt F)) :
    (owns (Ix := Unit) (Name := ℕ) (U := UU) (Lvl := ℕ) (c : Thread nD τ) (Memref.whole b) fullShare X : sProp 𝕄)
      = iprop(∃ f : Buf (Elt F) (((c : Dev nD) : Thread nD τ).loc b), ⌜f = X⌝ ∗ (((c : Thread nD τ).loc b) ↦{fullShare} f)) := by
  unfold owns; simp only [Memref.view_whole, View.read_whole, View.set_whole]

/-- A staging buffer known to hold `X`. -/
abbrev stg (c : Dev nD) (b : Ref sig .tc) (X : b.ty.Contents (Elt F)) : sProp 𝕄 :=
  iprop(∃ f : Buf (Elt F) (((c : Dev nD) : Thread nD τ).loc b), ⌜f = X⌝ ∗ (((c : Thread nD τ).loc b) ↦{fullShare} f))

/-! ## The body's obligation -/

def bodyPre (c : Dev nD) : sProp 𝕄 :=
  iprop((start m c ∗ scr c) ∗ (dats m ρ 0 c).owesAt () t0_0.castSucc
    ∗ (∃ d, stg c cc0_stg0_0 ((dats m ρ 0 c).before (0 : Fin 6) t0_0 d))
    ∗ (∃ d, stg c cc0_stg1_0 ((dats m ρ 0 c).before (1 : Fin 6) t0_0 d))
    ∗ (∃ d, stg c cc0_stg2_0 ((dats m ρ 0 c).before (2 : Fin 6) t0_0 d))
    ∗ (∃ d, stg c cc0_stg3_0 ((dats m ρ 0 c).before (3 : Fin 6) t0_0 d))
    ∗ (∃ d, stg c cc0_stg4_0 ((dats m ρ 0 c).before (4 : Fin 6) t0_0 d))
    ∗ (∃ d, stg c cc0_stg5_0 ((dats m ρ 0 c).before (5 : Fin 6) t0_0 d)))

def bodyPost (c : Dev nD) : sProp 𝕄 :=
  iprop((closed c ∗ scr c) ∗ (dats m ρ 0 c).owesAt () t0_0.succ
    ∗ stg c cc0_stg0_0 (xB m c) ∗ stg c cc0_stg1_0 (wqB m c) ∗ stg c cc0_stg2_0 (kB m c)
    ∗ stg c cc0_stg3_0 (vB m c) ∗ stg c cc0_stg4_0 (woB m c) ∗ stg c cc0_stg5_0 (outB m c))

omit [FloatOps F] in
/-- A whole buffer's points-to, in the body's words. -/
theorem pt_whole {s : Shape} {e : EltTy} (M : Memref sig .tc .vmem s e) (c : Dev nD) (f : Buf (Elt F) (M.view.loc (c : Thread nD τ)))
    (h : M.view.set = Finset.univ) :
    (pt M c fullShare f : sProp 𝕄) = (M.view.loc (c : Thread nD τ) ↦{fullShare} f) := by
  show (_ ↦[_]{_} _) = _
  rw [h]

theorem Sk_all (c : Dev nD) : Sk c ∅ = Finset.univ :=
  Finset.filter_true_of_mem fun k _ h => Finset.notMem_empty _ h.1

theorem sound (c : Dev nD) : bodyPre m ρ c ⊢ wpc c KB (fun _ => bodyPost m ρ c) := by
  suffices h : bodyPre m ρ c ⊢ wpc c KB (fun _ => iprop(|={Set.univ}=> bodyPost m ρ c)) from
    h.trans (wp_fupd frame (wpE (defs₀ (F := F)) 𝒱₀ (c : Thread nD τ) none) Set.univ KB _)
  unfold bodyPre start dealt
  iintro ⟨⟨⟨⟨%K, ⟨#HI, #HR⟩, Htok, Hat⟩, #Hl, Hc⟩, Hs⟩, Ho, ⟨%d0, %g0, %h0, H0⟩, ⟨%d1, %g1, %h1, H1⟩, ⟨%d2, %g2, %h2, H2⟩, ⟨%d3, %g3, %h3, H3⟩, ⟨%d4, %g4, %h4, H4⟩, ⟨%d5, %g5, %h5, H5⟩⟩
  have e0 : g0 = xB m c := by rw [h0]; unfold Dat.before; rw [if_pos (fetch0_0 t0_0)]; rfl
  have e1 : g1 = wqB m c := by rw [h1]; unfold Dat.before; rw [if_pos (fetch0_1 t0_0)]; rfl
  have e2 : g2 = kB m c := by rw [h2]; unfold Dat.before; rw [if_pos (fetch0_2 t0_0)]; rfl
  have e3 : g3 = vB m c := by rw [h3]; unfold Dat.before; rw [if_pos (fetch0_3 t0_0)]; rfl
  have e4 : g4 = woB m c := by rw [h4]; unfold Dat.before; rw [if_pos (fetch0_4 t0_0)]; rfl
  subst e0 e1 e2 e3 e4
  unfold Dat.owesAt Pipeline.owesWithin
  icases Ho with ⟨%W, %hW, HO⟩
  ihave HE : Env m K $$ []
  · unfold Env
    isplitr; · iexact HI
    isplitr; · iexact HR
    iexact Hl
  icases HE with #HE
  ihave Hat := (Entails.of_eq (show bigSep Finset.univ (fun k => atPos ER (kcell (c, k)) 0 ∅ 0)
      = iprop(bigSep (Sk c ∅) (fun k => atPos ER (kcell (c, k)) 0 ∅ 0) ∗ bigSep (Sk c ∅)ᶜ (fun k => (semVal (kcell (c, k)) 0 : sProp 𝕄))) from by
        rw [Sk_all, Finset.compl_univ, bigSep_empty]; exact (BI.equiv_iff.mp BI.sep_emp).symm)) $$ Hat
  icases Hat with ⟨Hat, Hz⟩
  iapply (wp_wand frame (wpE (defs₀ (F := F)) 𝒱₀ (c : Thread nD τ) none) Set.univ) $$ [Htok Hat Hz Hc HO Hs H0 H1 H2 H3 H4 H5]
  · iapply (body m K c)
    isplitr; · iexact HE
    isplitl [Htok Hat Hz Hc HO]
    · unfold St
      isplitl [HO]; · iexists W; iexact HO
      isplitl [Htok]; · iexact Htok
      isplitl [Hat]; · iexact Hat
      isplitl [Hz]; · iexact Hz
      iexact Hc
    isplitl [H0]; · iapply (Entails.of_eq (pt_whole xM c (xB m c) (View.set_whole ..)).symm); iexact H0
    isplitl [H1]; · iapply (Entails.of_eq (pt_whole wqM c (wqB m c) (View.set_whole ..)).symm); iexact H1
    isplitl [H2]; · iapply (Entails.of_eq (pt_whole kM c (kB m c) (View.set_whole ..)).symm); iexact H2
    isplitl [H3]; · iapply (Entails.of_eq (pt_whole vM c (vB m c) (View.set_whole ..)).symm); iexact H3
    isplitl [H4]; · iapply (Entails.of_eq (pt_whole woM c (woB m c) (View.set_whole ..)).symm); iexact H4
    isplitl [H5]
    · unfold ptE; iexists g5
      iapply (Entails.of_eq (pt_whole oM c g5 (View.set_whole ..)).symm); iexact H5
    iexact Hs
  iintro %u ⟨HS, H0, H1, H2, H3, H4, H5, Hs⟩
  imod (cells_done m K c) $$ [HS] with ⟨⟨%W', HO⟩, Hz⟩
  · isplitr; · iexact HE
    iexact HS
  imodintro
  unfold bodyPost closed Dat.owesAt Pipeline.owesWithin
  isplitl [Hz Hs]
  · isplitl [Hz] <;> iassumption
  isplitl [HO]
  · iexists W'
    isplitr; · ipureintro; exact fun _ _ => Or.inl trivial
    iexact HO
  isplitl [H0]
  · iexists (xB m c); isplitr; · (ipureintro; rfl)
    iapply (Entails.of_eq (pt_whole xM c (xB m c) (View.set_whole ..))); iexact H0
  isplitl [H1]
  · iexists (wqB m c); isplitr; · (ipureintro; rfl)
    iapply (Entails.of_eq (pt_whole wqM c (wqB m c) (View.set_whole ..))); iexact H1
  isplitl [H2]
  · iexists (kB m c); isplitr; · (ipureintro; rfl)
    iapply (Entails.of_eq (pt_whole kM c (kB m c) (View.set_whole ..))); iexact H2
  isplitl [H3]
  · iexists (vB m c); isplitr; · (ipureintro; rfl)
    iapply (Entails.of_eq (pt_whole vM c (vB m c) (View.set_whole ..))); iexact H3
  isplitl [H4]
  · iexists (woB m c); isplitr; · (ipureintro; rfl)
    iapply (Entails.of_eq (pt_whole woM c (woB m c) (View.set_whole ..))); iexact H4
  iexists (outB m c); isplitr; · (ipureintro; rfl)
  iapply (Entails.of_eq (pt_whole oM c (outB m c) (View.set_whole ..))); iexact H5

set_option maxRecDepth 8000 in
/-- The library's obligation on device `c`. -/
theorem obligation (c : Dev nD) : BodyObligation (dats (F := F) m ρ 0 c) (defs₀ (F := F)) 𝒱₀ () Set.univ := fun t => by
  rw [fin_N0 t]
  rw [bigSep_W0, bigSep_W0]
  simp only [owns_whole_eq]
  exact sound m ρ c

/-! ## The ghost state minted -/

/-- The kernel's own semaphores. -/
abbrev osem : Fin 21 → SemLoc sig := fun k => csem k.succ
theorem ownSemFacts : Pipeline.OwnSemFacts cfg0.spec osem := by decide

theorem share_eq (c : Dev nD) (w : Fin cfg0.W) : (dats m ρ 0 c).share w = fullShare := by unfold Dat.share; split <;> rfl

def allCells : Finset (GSem nD τ sig) := Finset.univ.map ⟨kcell, kcell_inj⟩

/-- The token of the raise of cell `x.2` by device `x.1`. -/
abbrev tokOf (x : Dev nD × (Dev nD × Fin 22)) : GSem nD τ sig × ℕ × Dev nD := (kcell x.2, 0, x.1)
theorem tokOf_inj : Function.Injective tokOf := fun a b h =>
  Prod.ext (congrArg (fun y : GSem nD τ sig × ℕ × Dev nD => y.2.2) h) (kcell_inj (congrArg Prod.fst h))
def allToks : Finset (GSem nD τ sig × ℕ × Dev nD) :=
  (Finset.univ.filter fun x : Dev nD × (Dev nD × Fin 22) => x.2 ∈ Tk x.1 Finset.univ).map ⟨tokOf, tokOf_inj⟩

def u₀ : UU :=
  (initOf (Pipeline.cells cfgs cellOf_inj) (Pipeline.launchToks cfgs cellOf_inj), initOf allCells allToks)

/-- What is minted for device `c`. -/
def minted (c : Dev nD) : sProp 𝕄 :=
  iprop(bigSep Finset.univ (fun k : Fin 22 => roundState ER (Rd m) (kcell (c, k)) 0)
    ∗ bigSep Finset.univ (fun k : Fin 22 => reached ER (kcell (c, k)) 0)
    ∗ bigSep Finset.univ (fun k : Fin 22 => atPos ER (kcell (c, k)) 0 ∅ 0)
    ∗ bigSep (Tk c Finset.univ) (fun g => dutyTok ER (kcell g) 0 c))

theorem mint : BI.own (ER (initOf allCells allToks)) ⊢ (|==> bigSep Finset.univ (minted m) : sProp 𝕄) := by
  have hX (Φ : GSem nD τ sig → sProp 𝕄) : bigSep allCells Φ = bigSep Finset.univ fun c : Dev nD => bigSep Finset.univ fun k : Fin 22 => Φ (kcell (c, k)) := by
    unfold allCells; rw [bigSep_map, bigSep_univ_prod]; rfl
  have hT : bigSep allToks (fun x => (dutyTok ER x.1 x.2.1 x.2.2 : sProp 𝕄))
      = bigSep Finset.univ fun c : Dev nD => bigSep (Tk c Finset.univ) (fun g => dutyTok ER (kcell g) 0 c) := by
    unfold allToks
    rw [bigSep_map, bigSep_filter, bigSep_univ_prod]
    refine bigSep_congr fun c _ => ?_
    rw [← bigSep_filter]
    exact congrArg (fun s => bigSep s _) (Finset.filter_univ_mem (Tk c Finset.univ))
  iintro HX
  imod (Rounds.fund ER (Rd m) allCells allToks) $$ HX with ⟨Hst, Hr, Hat, Htok⟩
  imodintro
  ihave Hst' := (Entails.of_eq (hX fun g => roundState ER (Rd m) g 0)) $$ Hst
  ihave Hat' := (Entails.of_eq (hX fun g => atPos ER g 0 ∅ 0)) $$ Hat
  ihave Hr' := (Entails.of_eq (hX fun g => reached ER g 0)) $$ Hr
  ihave Htok' := (Entails.of_eq hT) $$ Htok
  unfold minted; simp only [bigSep_sep']
  isplitl [Hst']; · iexact Hst'
  isplitl [Hr']; · iexact Hr'
  isplitl [Hat']; · iexact Hat'
  iexact Htok'

/-- A device's semaphores are its cells' counters. -/
theorem sems_cells (c : Dev nD) :
    (iprop(Pipeline.ownSems0 (Ix := Unit) (Name := ℕ) (U := UU) (Lvl := ℕ) (Val := Elt F) (τ := τ) osem c ∗ unscopedSems0 c) : sProp 𝕄) = closed c := by
  have hu : (unscopedSems0 c : sProp 𝕄) = semVal (kcell (c, 0)) 0 := by
    unfold unscopedSems0; rw [bigSep_eq_bigSepL_of_eq [SemLoc.reg barS] (by decide) (by decide)]; rfl
  have ho : (Pipeline.ownSems0 (Ix := Unit) (Name := ℕ) (U := UU) (Lvl := ℕ) (Val := Elt F) (τ := τ) osem c : sProp 𝕄)
      = bigSep Finset.univ (fun k : Fin 21 => semVal (kcell (c, k.succ)) 0) := rfl
  rw [hu, ho]
  unfold closed
  rw [show (Finset.univ : Finset (Fin 22)) = insert 0 ((Finset.univ : Finset (Fin 21)).map ⟨Fin.succ, Fin.succ_injective _⟩) from by decide,
    bigSep_insert (by decide), bigSep_map]
  exact BI.equiv_iff.mp ⟨BI.sep_comm, BI.sep_comm⟩

theorem alloc_one (c : Dev nD) :
    iprop(Pipeline.ownSems0 (Ix := Unit) (Name := ℕ) (U := UU) (Lvl := ℕ) (Val := Elt F) (τ := τ) osem c ∗ unscopedSems0 c ∗ minted m c)
      ⊢ |={Set.univ}=> iprop((bigSep Finset.univ fun k => iprop(∃ κ : ℕ, cellInv ER (Rd m) κ (kcell (c, k))))
          ∗ (bigSep Finset.univ fun k : Fin 22 => reached ER (kcell (c, k)) 0)
          ∗ (bigSep (Tk c Finset.univ) (fun g => dutyTok ER (kcell g) 0 c) ∗ bigSep Finset.univ fun k : Fin 22 => atPos ER (kcell (c, k)) 0 ∅ 0)) := by
  unfold minted
  iintro ⟨Hos, Hus, Hst, Hr, Hat, Htok⟩
  ihave Hv := (Entails.of_eq (sems_cells (F := F) c)) $$ [Hos Hus]
  · isplitl [Hos] <;> iassumption
  imod (show iprop((bigSep Finset.univ fun k : Fin 22 => semVal (kcell (c, k)) 0) ∗ bigSep Finset.univ fun k : Fin 22 => roundState ER (Rd m) (kcell (c, k)) 0)
      ⊢ (|={Set.univ}=> bigSep Finset.univ fun k => iprop(∃ κ : ℕ, cellInv ER (Rd m) κ (kcell (c, k))) : sProp 𝕄) from by
        rw [← bigSep_sep']
        exact (bigSep_mono fun k _ => (Rounds.body_intro ER (Rd m) (kcell (c, k))).trans inv_alloc).trans (bigSep_fupd _ _)) $$ [Hv Hst] with Hinv
  · isplitl [Hv]
    · unfold closed; iexact Hv
    iexact Hst
  imodintro
  isplitl [Hinv]; · iexact Hinv
  isplitl [Hr]; · iexact Hr
  isplitl [Htok] <;> iassumption

/-- All the cells' invariants at once, under one choice of names. -/
theorem deal_all :
    (bigSep Finset.univ fun c : Dev nD => iprop((bigSep Finset.univ fun k => iprop(∃ κ : ℕ, cellInv ER (Rd m) κ (kcell (c, k))))
          ∗ (bigSep Finset.univ fun k : Fin 22 => reached ER (kcell (c, k)) 0)
          ∗ (bigSep (Tk c Finset.univ) (fun g => dutyTok ER (kcell g) 0 c) ∗ bigSep Finset.univ fun k : Fin 22 => atPos ER (kcell (c, k)) 0 ∅ 0)) : sProp 𝕄)
      ⊢ bigSep Finset.univ (dealt m) := by
  rw [bigSep_sep', bigSep_sep', ← bigSep_univ_prod (fun ck : Dev nD × Fin 22 => iprop(∃ κ : ℕ, cellInv ER (Rd m) κ (kcell ck))),
    ← bigSep_univ_prod (fun ck : Dev nD × Fin 22 => (reached ER (kcell ck) 0 : sProp 𝕄))]
  iintro ⟨HI, #HR, Hl⟩
  ihave HK := (BI.bigSep_exists_pi Finset.univ (fun (ck : Dev nD × Fin 22) (κ : ℕ) => (cellInv ER (Rd m) κ (kcell ck) : sProp 𝕄))) $$ HI
  icases HK with ⟨%K, #HI⟩
  iapply (bigSep_with_persistent (R := iprop(bigSep Finset.univ (fun ck => cellInv ER (Rd m) (K ck) (kcell ck)) ∗ bigSep Finset.univ (fun ck => reached ER (kcell ck) 0)))
    (Φ := fun c : Dev nD => iprop(bigSep (Tk c Finset.univ) (fun g => dutyTok ER (kcell g) 0 c) ∗ bigSep Finset.univ fun k : Fin 22 => atPos ER (kcell (c, k)) 0 ∅ 0))
    (fun c _ => show _ ⊢ dealt m c from by
      unfold dealt
      iintro ⟨H1, H2, H3⟩
      iexists K
      isplitl [H1]; · iexact H1
      isplitl [H2] <;> iassumption))
  isplitr
  · isplitl; · iexact HI
    iexact HR
  iexact Hl

theorem deal : (bigSep Finset.univ fun c => iprop(Pipeline.ownSems0 (Ix := Unit) (Name := ℕ) (U := UU) (Lvl := ℕ) (Val := Elt F) (τ := τ) osem c ∗ unscopedSems0 c ∗ minted m c) : sProp 𝕄)
    ⊢ |={Set.univ}=> bigSep Finset.univ (dealt m) :=
  ((bigSep_mono fun c _ => alloc_one m c).trans (bigSep_fupd _ _)).trans (BI.fupd_mono (deal_all m))

/-! ## The launch's credits -/

theorem due_at (d c : Dev nD) (k : Fin 22) (ho : Owed k) : due d (kcell (c, k)) () = if d ∈ pay c k then amt k else 0 := by
  unfold due owedT
  rw [Finset.sum_apply, Finsupp.finset_sum_apply, Finset.sum_congr rfl fun g _ => show tallyAt (kcell g) () (amt g.2) (kcell (c, k)) () = if g = (c, k) then amt k else 0 from by
    rw [tallyAt_apply]
    by_cases h : g = (c, k)
    · subst h; rw [if_pos ⟨rfl, rfl⟩, if_pos rfl]
    · rw [if_neg fun h' => h (kcell_inj h'.1.symm), if_neg h]]
  rw [Finset.sum_ite_eq']
  by_cases h : d ∈ pay c k
  · rw [if_pos h, if_pos (show (c, k) ∈ (Tk d Finset.univ).filter fun g => Owed g.2 from Finset.mem_filter.2 ⟨Finset.mem_filter.2 ⟨Finset.mem_univ _, h, Finset.mem_univ _⟩, ho⟩)]
  · rw [if_neg h, if_neg fun h' => h (Finset.mem_filter.1 (Finset.mem_filter.1 h').1).2.1]

theorem credit_at (c : Dev nD) (k : Fin 22) (ho : Owed k) :
    tallyOn (kcell (c, k)) (launchCredit (Pipeline.owing due) 0 (kcell (c, k))) = (tallyAt (kcell (c, k)) () (expc c k) : CellTallies nD τ sig Unit) := by
  unfold tallyAt; refine congrArg _ (Finsupp.ext fun u => ?_); cases u
  rw [Pipeline.launchCredit_owing, Finsupp.single_eq_same, Finset.sum_congr rfl fun d _ => due_at d c k ho, ← Finset.sum_filter, Finset.filter_univ_mem,
    Finset.sum_const, smul_eq_mul]
  rfl

omit [FloatOps F] in
theorem credits (c : Dev nD) : (Pipeline.launchCred due c : sProp 𝕄) ⊢ bigSep (Ck c ∅ ∅) (fun k => cred (tallyAt (kcell (c, k)) () (expc c k))) := by
  unfold Pipeline.launchCred
  refine (bigSep_subset (Finset.subset_univ ((Ck c ∅ ∅).map ⟨csem, csem_inj⟩))).trans ?_
  rw [bigSep_map]
  refine bigSep_mono fun k hk => ?_
  have ho : Owed k := (Finset.mem_filter.1 hk).2.2.1.resolve_right (Finset.notMem_empty _)
  show cred (tallyOn (kcell (c, k)) (launchCredit (Pipeline.owing due) 0 (kcell (c, k)))) ⊢ _
  rw [credit_at c k ho]

/-! ## The run -/

theorem start_intro (c : Dev nD) :
    iprop(Pipeline.unscopedRestP Pipeline.Prefetch.none cfg0.spec c (fun b => m ((c : Thread nD τ).loc b)) ∗ levAts L lv
        ∗ Pipeline.launchCred due c ∗ prngReg c (ρ c) ∗ dealt m c)
      ⊢ |={Set.univ}=> iprop(start m c ∗ emp) := by
  iintro ⟨-, Hlev, Hcr, -, HG⟩
  ihave Hc := (credits (F := F) c) $$ Hcr
  imodintro
  unfold start
  isplitl
  · isplitl [HG]; · iexact HG
    isplitl [Hlev] <;> iassumption
  · iempintro

theorem scr_eq (c : Dev nD) :
    (Pipeline.scopedRest (Ix := Unit) (Name := ℕ) (U := UU) (Lvl := ℕ) (Val := Elt F) (τ := τ) cfg0.spec c : sProp 𝕄) = scr c := by
  rw [show (Pipeline.scopedRest (Ix := Unit) (Name := ℕ) (U := UU) (Lvl := ℕ) (Val := Elt F) (τ := τ) cfg0.spec c : sProp 𝕄) = _ from scopedRest0_eq c]
  have e {s : Shape} {t : EltTy} (M : Memref sig .tc .vmem s t) (h : M.view.set = Finset.univ) :
      iprop(∃ f : Buf (Elt F) (M.view.loc (c : Thread nD τ)), (M.view.loc (c : Thread nD τ)) ↦{fullShare} f) = (ptE M c : sProp 𝕄) := by
    unfold ptE
    exact congrArg _ (funext fun f => (pt_whole M c f h).symm)
  exact congrArg₂ BI.sep (e nbM (View.set_whole ..)) (congrArg₂ BI.sep (e qM (View.set_whole ..)) (congrArg₂ BI.sep (e gM (View.set_whole ..))
    (congrArg₂ BI.sep (e paM (View.set_whole ..)) (congrArg₂ BI.sep (e inM (View.set_whole ..)) (congrArg₂ BI.sep (e agM (View.set_whole ..))
    (congrArg₂ BI.sep (e nuM (View.set_whole ..)) (e deM (View.set_whole ..))))))))

theorem enter (c : Dev nD) :
    iprop(start m c ∗ Pipeline.prefHeld Pipeline.Prefetch.none c (fun _ => fullShare.right) (fun k => k.elim0) ∗ Pipeline.scopedRest cfg0.spec c)
      ⊢ (dats m ρ 0 c).Φ 0 := by
  rw [show (dats m ρ 0 c).Φ 0 = iprop(start m c ∗ scr c) from rfl, scr_eq]
  iintro ⟨Hs, -, Hr⟩
  isplitl [Hs] <;> iassumption

theorem leave (c : Dev nD) :
    (dats m ρ 0 c).Φ (Fin.last cfg0.N) ⊢ iprop(unscopedSems0 c ∗ Pipeline.ownSems0 osem c ∗ Pipeline.scopedRest cfg0.spec c) := by
  rw [show (dats m ρ 0 c).Φ (Fin.last cfg0.N) = iprop(closed c ∗ scr c) from rfl, scr_eq, ← sems_cells]
  iintro ⟨⟨H1, H2⟩, Hr⟩
  isplitl [H2]; · iexact H2
  isplitl [H1] <;> iassumption

theorem waits (c : Dev nD) : (levAts L lv : sProp 𝕄) ⊢ Pipeline.cellsWaits cfgs (dats m ρ) () 0 c :=
  Pipeline.cellsWaits_intro cfgs (dats m ρ) () 0 c fun w s t => by
    have hq : kOf (.dma ((cfg0.win w).sem s)) = none := by revert w s; decide
    rcases t with ⟨_ | _, ht⟩
    · exact mayWait_stage c _ hq (Tk c Finset.univ)
    · exact (mayWait_stage c _ hq ∅)

/-- A window's array after the run. -/
def finalA (c : Dev nD) (w : Fin cfg0.W) : Buf (Elt F) ((cfg0.win w).arr.view.loc (c : Thread nD τ)) := (dats m ρ 0 c).arrAt w cfg0.N

def Ends : PUnit × MemSt nD τ sig (Elt F) → Prop := fun r =>
  ∀ c : Dev nD, ∀ w : Fin cfg0.W, r.2.mem ((cfg0.win w).arr.view.loc (c : Thread nD τ)) = finalA m ρ c w

set_option maxRecDepth 8000 in
/-- From any memory with the counters at zero the eight kernels run to the end, leave every counter at zero and the
    arrays at the pipeline's final contents. -/
theorem run_arrays : θ_run defs (onTc (τ := τ) (main (F := F))) (s₀ m ρ) (fun r => Ends m ρ r ∧ r.2.sem = fun _ => 0) :=
  Pipeline.θ_run_region_owing_glob_pf (fun p => (cfgs p).toPCfg) (fun p => (cfgs p).toPCfg_adm) (dats m ρ) () cellOf_inj (0 : Fin 1)
    winFacts0.to₀ ownSemFacts (Pipeline.PreFacts.none _) EP defs₀ 𝒱₀ m ρ main
    (hmain := fun _ => rfl)
    (hbody := obligation m ρ) (hne := block_pos0) (harr := arr_whole0) (hstage := stage_whole0) (hshare := share_eq m ρ)
    (hdistinct := winFacts0.arr_inj)
    (O₀ := due) (howed₀ := fun _ => rfl) (howedN := fun _ => rfl)
    (L := L) (lv := lv) (hL := L_of_ne) (hwaits := waits m ρ)
    (G := minted m) (G' := dealt m) (u₀ := u₀)
    (hu₀ := by
      unfold u₀
      iintro Hu
      ihave H := (ownU_pair _ _) $$ Hu
      icases H with ⟨HP, HX⟩
      imod (mint m) $$ HX with HG
      imodintro
      isplitl [HP] <;> iassumption)
    (hglob := deal m)
    (hA := fun _ _ => rfl) (hpf := fun _ k => k.elim0)
    (X := start m) (Y := fun c => unscopedSems0 c) (Z := fun _ => iprop(emp))
    (hX := start_intro m ρ) (hin := enter m ρ) (hout := leave m ρ)
    (QY := fun c s => ∀ sm : SemLoc sig, sm.isScoped .tc = false → s.sem ((c.tc : Thread nD τ), sm) = 0)
    (hY := fun c s' => by
      iintro ⟨Hu, -, HSI⟩
      iapply (Pipeline.unscopedSems0_read (X := unscopedSems0 c) (c := c) fupd_intro s')
      isplitl [Hu] <;> iassumption)
    (hQ := fun _ h hs => ⟨fun c w => (h c).1 w, sem_eq_zero hs fun c => (h c).2.2⟩)

end Cert.Sparse
-- ==== Proof.Run.lean ====
/-
# The run

Every device's result array ends holding its output block, its arguments are unchanged and all counters are zero.
-/
module

public import proofs.«01_k».proof.Proof.Launch
public import proofs.«01_k».proof.Proof.Gen.KernelIdeal.Frame
public import Idealize.ShloMosaic.Lib.Pipeline.Value

@[expose] public section

noncomputable section

namespace Cert.Sparse

open Cert.KernelIdeal Cert.KernelIdeal.Gen
open Idealize.ShloMosaic
open Idealize.ShloMosaic.TcCoe
open Idealize.SL Idealize.SL.RA Idealize.SL.BI Idealize.SL.Sem

variable {F : FTy → Type} [FloatOps F]
variable (m : (ℓ : Loc nD τ sig) → Buf (Elt F) ℓ) (ρ : Dev nD → PrngReg)

/-- The output window's block is the whole array. -/
theorem mem_out (i : S2x128x512.Idx) : i ∈ ((cfg0.win 5).blk t0_0).view.set := by
  show i ∈ ((View.whole main_v1).slice (win0_5.rect t0_0)).set
  rw [View.set_slice_whole, Rect.mem_set_unit]
  have e : ∀ a, win0_5.index t0_0 a * win0_5.size a = 0 ∧ win0_5.xsize (grid0.coords t0_0) a = S2x128x512.size a := by decide +kernel
  intro a
  have h : (i a : ℕ) < S2x128x512.size a := (i a).isLt
  show win0_5.index t0_0 a * win0_5.size a ≤ (i a : ℕ) ∧ (i a : ℕ) < win0_5.index t0_0 a * win0_5.size a + win0_5.xsize (grid0.coords t0_0) a
  rw [(e a).1, (e a).2]; omega

theorem flushed_out (c : Dev nD) (t : Fin cfg0.N) :
    (dats m ρ 0 c).flushed 5 t = ((cfg0.win 5).blk t).view.read (Elt F) (outB m c) := by
  obtain rfl := fin_N0 t
  have ha : (dats m ρ 0 c).after 5 t0_0 = outB m c := by dsimp only [dats]
  unfold Pipeline.Dat.flushed
  rw [ha]
  generalize outB m c = G
  funext i
  refine congrArg G (funext fun a => Fin.ext ?_)
  have e : ∀ a, win0_5.index t0_0 a * win0_5.size a = 0 := by decide +kernel
  have h : (i a : ℕ) = win0_5.index t0_0 a * win0_5.size a + 1 * (i a : ℕ) := by rw [e a]; omega
  exact h

theorem final_out (c : Dev nD) : finalA m ρ c 5 = outB m c :=
  (dats m ρ 0 c).arrAt_eq_of_cover 5 (outB m c) (fun t _ => flushed_out m ρ c t) fun i => ⟨t0_0, flush0_5 _, mem_out i⟩

/-- The run of the kernel, for any float values. -/
theorem run_main : θ_run defs (onTc (τ := τ) (main (F := F))) ⟨m, fun _ => 0, ρ⟩ (fun r =>
    (∀ c : Dev nD, r.2.mem ((c.tc : Thread nD τ).loc main_v1) = outB m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4))
    ∧ r.2.sem = fun _ => 0) :=
  (θ_run defs _ _).mono (fun r h => ⟨fun c =>
    ⟨(h.1 c 5).trans (final_out m ρ c),
      (h.1 c 0).trans ((dats (F := F) m ρ 0 c).arrAt_in (0 : Fin 6) rfl _),
      (h.1 c 1).trans ((dats (F := F) m ρ 0 c).arrAt_in (1 : Fin 6) rfl _),
      (h.1 c 2).trans ((dats (F := F) m ρ 0 c).arrAt_in (2 : Fin 6) rfl _),
      (h.1 c 3).trans ((dats (F := F) m ρ 0 c).arrAt_in (3 : Fin 6) rfl _),
      (h.1 c 4).trans ((dats (F := F) m ρ 0 c).arrAt_in (4 : Fin 6) rfl _)⟩, h.2⟩) (run_arrays m ρ)

/-- The frame, for any float values: the arguments are as they were and every counter is at zero. -/
theorem run_frame : θ_run defs (onTc (τ := τ) (main (F := F))) ⟨m, fun _ => 0, ρ⟩ (fun r =>
    (∀ c : Dev nD, r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4))
    ∧ r.2.sem = fun _ => 0) :=
  (θ_run defs _ _).mono (fun _ h => ⟨fun c => (h.1 c).2, h.2⟩) (run_main m ρ)

end Cert.Sparse
-- ==== Proof.Mask.lean ====
/-
# Which query sees which key, and the words that compute it

The condition on two positions, and the proof that the 32-bit arithmetic of the kernel and of the reference decides it for positions
below 1024; also the words of a query's and of a key's position on a device.
-/
module
public import proofs.«01_k».proof.Proof.Gen.KernelIdeal.Skeleton
public import Idealize.ShloMosaic.Lib.Pointwise
@[expose] public section
noncomputable section
namespace Cert.Sparse
open Idealize.ShloMosaic

/-- Query `i` sees key `j`: they lie within 128 of each other, or one of them is among the first 32. -/
def Sees (i j : ℕ) : Prop := (i ≤ j + 128 ∧ j ≤ i + 128) ∨ j < 32 ∨ i < 32
instance (i j : ℕ) : Decidable (Sees i j) := inferInstanceAs (Decidable (_ ∨ _))

/-- A word of a small number reads back as that number. -/
theorem toInt_small (n : ℕ) (h : n < 2 ^ 31) : (BitVec.ofNat 32 n).toInt = (n : ℤ) := by
  rw [BitVec.toInt_ofNat', Int.bmod_eq_of_le (by omega) (by omega)]

/-- The signed comparison of two small words is the comparison of the numbers; -/
theorem slt_small (n k : ℕ) (hn : n < 2 ^ 31) (hk : k < 2 ^ 31) :
    IntOp.cmpi .slt (BitVec.ofNat 32 n) (BitVec.ofNat 32 k) = BitVec.ofBool (decide (n < k)) := by
  show BitVec.ofBool (BitVec.slt _ _) = _
  rw [BitVec.slt_eq_decide, toInt_small n hn, toInt_small k hk]
  simp

/-- the same for the weak one. -/
theorem sle_small (n k : ℕ) (hn : n < 2 ^ 31) (hk : k < 2 ^ 31) :
    IntOp.cmpi .sle (BitVec.ofNat 32 n) (BitVec.ofNat 32 k) = BitVec.ofBool (decide (n ≤ k)) := by
  show BitVec.ofBool (BitVec.sle _ _) = _
  rw [BitVec.sle_eq_decide, toInt_small n hn, toInt_small k hk]
  simp

/-- A small word is not negative. -/
theorem msb_small (n : ℕ) (h : n < 2 ^ 31) : (BitVec.ofNat 32 n).msb = false := by
  rw [BitVec.msb_eq_toInt, toInt_small n h]; simp

/-- Negation turns a difference round. -/
theorem flip_sub (x y : BitVec 32) : -(x - y) = y - x := by
  apply BitVec.eq_of_toNat_eq
  have := x.isLt; have := y.isLt
  rw [BitVec.toNat_neg, BitVec.toNat_sub, BitVec.toNat_sub]
  omega

/-- The absolute difference of two small words. -/
theorem absi_small (a b : ℕ) (ha : a < 1024) (hb : b < 1024) :
    IntOp.absi (IntOp.subi (BitVec.ofNat 32 a) (BitVec.ofNat 32 b)) = BitVec.ofNat 32 (if b ≤ a then a - b else b - a) := by
  have key : ∀ x y : ℕ, y ≤ x → BitVec.ofNat 32 x - BitVec.ofNat 32 y = BitVec.ofNat 32 (x - y) := fun x y h => by
    have : BitVec.ofNat 32 x = BitVec.ofNat 32 (x - y) + BitVec.ofNat 32 y := by
      rw [← BitVec.ofNat_add, Nat.sub_add_cancel h]
    rw [this, BitVec.add_sub_cancel]
  show (if (BitVec.ofNat 32 a - BitVec.ofNat 32 b).msb then -(BitVec.ofNat 32 a - BitVec.ofNat 32 b) else BitVec.ofNat 32 a - BitVec.ofNat 32 b) = _
  split
  next h =>
    by_cases hab : b ≤ a
    · rw [key a b hab, msb_small _ (by omega)] at h; exact absurd h (by decide)
    · rw [if_neg hab, flip_sub, key b a (by omega)]
  next h =>
    by_cases hab : b ≤ a
    · rw [if_pos hab, key a b hab]
    · exfalso
      apply h
      have e : BitVec.ofNat 32 a - BitVec.ofNat 32 b = -(BitVec.ofNat 32 (b - a)) := by
        rw [← key b a (by omega), flip_sub]
      rw [e, BitVec.msb_eq_toInt, BitVec.toInt_neg, toInt_small _ (by omega), Int.bmod_eq_of_le (by omega) (by omega)]
      simp; omega

/-- The «or» of two bits. -/
theorem ori_bool (p q : Bool) : IntOp.ori (BitVec.ofBool p) (BitVec.ofBool q) = BitVec.ofBool (p || q) := by
  revert p q; decide

/-- The words' mask, in the kernel's order, -/
theorem mask_words (a b : ℕ) (ha : a < 1024) (hb : b < 1024) :
    IntOp.ori (IntOp.ori (IntOp.cmpi .sle (IntOp.absi (IntOp.subi (BitVec.ofNat 32 a) (BitVec.ofNat 32 b))) 128#32)
        (IntOp.cmpi .slt (BitVec.ofNat 32 b) 32#32)) (IntOp.cmpi .slt (BitVec.ofNat 32 a) 32#32)
      = BitVec.ofBool (decide (Sees a b)) := by
  rw [absi_small a b ha hb]
  erw [sle_small _ 128 (by split <;> omega) (by decide), slt_small b 32 (by omega) (by decide), slt_small a 32 (by omega) (by decide)]
  rw [ori_bool, ori_bool]
  congr 1
  rw [Bool.eq_iff_iff]
  simp only [Bool.or_eq_true, decide_eq_true_eq]
  unfold Sees
  by_cases h : b ≤ a
  · rw [if_pos h]; omega
  · rw [if_neg h]; omega

/-- and in the reference's. -/
theorem mask_words' (a b : ℕ) (ha : a < 1024) (hb : b < 1024) :
    IntOp.ori (IntOp.cmpi .sle (IntOp.absi (IntOp.subi (BitVec.ofNat 32 a) (BitVec.ofNat 32 b))) 128#32)
        (IntOp.ori (IntOp.cmpi .slt (BitVec.ofNat 32 b) 32#32) (IntOp.cmpi .slt (BitVec.ofNat 32 a) 32#32))
      = BitVec.ofBool (decide (Sees a b)) := by
  rw [← mask_words a b ha hb]
  show _ ||| (_ ||| _) = (_ ||| _) ||| _
  rw [BitVec.or_assoc]

/-- The word of device `c`'s number. -/
def devW (c : Fin 8) : BitVec 32 := BitVec.ofNat 32 c.val

/-- The word of a query's position, -/
theorem qpos_word (c : Fin 8) (r : ℕ) :
    IntOp.addi (BitVec.ofNat 32 r) (Scalar.muli (devW c) 128#32) = BitVec.ofNat 32 (128 * c.val + r) := by
  have e : Scalar.muli (devW c) 128#32 = BitVec.ofNat 32 (128 * c.val) := by revert c; decide
  rw [e, Nat.add_comm, BitVec.ofNat_add]; rfl

/-- and of a near key's: the rows of the left neighbour come first, wrapping around the sequence. -/
theorem kpos_word (c : Fin 8) (j : ℕ) (hj : j < 384) :
    IntOp.remsi .vector (IntOp.addi (IntOp.addi (BitVec.ofNat 32 j) (Scalar.muli (Scalar.subi (devW c) 1#32) 128#32)) 1024#32) 1024#32
      = BitVec.ofNat 32 ((128 * c.val + 896 + j) % 1024) := by
  have e : IntOp.addi (Scalar.muli (Scalar.subi (devW c) 1#32) 128#32) 1024#32 = BitVec.ofNat 32 (128 * c.val + 896) := by
    revert c; decide
  have e2 : IntOp.addi (IntOp.addi (BitVec.ofNat 32 j) (Scalar.muli (Scalar.subi (devW c) 1#32) 128#32)) 1024#32
      = BitVec.ofNat 32 (128 * c.val + 896 + j) := by
    rw [Nat.add_comm, BitVec.ofNat_add, ← e]
    exact BitVec.add_assoc _ _ _
  rw [e2]
  unfold IntOp.remsi
  rw [if_neg (by unfold IntOp.SDivCorner; simp)]
  apply BitVec.eq_of_toInt_eq
  have h : (1024#32 : BitVec 32).toInt = 1024 := by decide
  have := c.isLt
  rw [BitVec.toInt_srem, h, toInt_small _ (by omega), toInt_small _ (by omega), Int.tmod_eq_emod_of_nonneg (by omega)]
  push_cast
  rfl

end Cert.Sparse
-- ==== Proof.PayValue.lean ====
/-
# What each block of arithmetic of the kernel computes

Every value the kernel stores is a function of the values it loaded. Here each of these functions is read at one index over the
extended reals: projections, exponentials, masked weights, weighted sums, the quotient and the last projection.
-/
module
public import proofs.«01_k».proof.Proof.Mask
public import Idealize.ShloMosaic.Lib.Pointwise
@[expose] public section
set_option maxRecDepth 16384
noncomputable section
namespace Cert.Sparse
open Cert.KernelIdeal Cert.KernelIdeal.Gen
open Idealize.ShloMosaic

/-- The projected queries of a device's own rows: plane `2h + b` is head `h` of batch `b`. -/
theorem pay15_at (w : FVec Ideal S512x256 .bf16) (x : FVec Ideal S2x128x512 .bf16) (b : Fin 2) (h : Fin 4) (r : Fin 128) (e : Fin 64) :
    k0_pay15 w x (ix3 (⟨2 * h.val + b.val, by omega⟩ : Fin 8) r e)
      = ∑ k : Fin 512, (x (ix3 b r k) : EReal) * w (ix2 k (⟨64 * h.val + e.val, by omega⟩ : Fin 256)) := by
  pointwise [k0_pay15]
  fin_cases h <;> fin_cases b <;> simp
  all_goals rfl

/-- The projected queries of the first 32 rows. -/
theorem pay1_at (w : FVec Ideal S512x256 .bf16) (x : Vec Ideal S2x32x512 .bf16) (b : Fin 2) (h : Fin 4) (r : Fin 32) (e : Fin 64) :
    k0_pay1 w x (ix3 (⟨2 * h.val + b.val, by omega⟩ : Fin 8) r e)
      = ∑ k : Fin 512, (x (ix3 b r k) : EReal) * w (ix2 k (⟨64 * h.val + e.val, by omega⟩ : Fin 256)) := by
  pointwise [k0_pay1]
  fin_cases h <;> fin_cases b <;> simp
  all_goals rfl

theorem pay3_at (w : Vec Ideal S512x256 .bf16) : k0_pay3 w = w := by
  funext i
  pointwise [k0_pay3]

theorem pay14_at (w : Vec Ideal S2x128x512 .bf16) : k0_pay14 w = w := by
  funext i
  pointwise [k0_pay14]

theorem pay2_at (w : Vec Ideal S1x1x8x32x64 .bf16) (g : Fin 8) (r : Fin 32) (e : Fin 64) :
    k0_pay2 w (ix3 g r e) = w (ix5 (0 : Fin 1) (0 : Fin 1) g r e) := by
  pointwise [k0_pay2]

theorem pay13_at (i) : (k0_pay13 (F := Ideal) i : EReal) = 0 := by
  pointwise [k0_pay13]

/-- The weights of the first 32 queries against a device's own keys: every query of these sees every key. -/
theorem pay16_at (K : Vec Ideal S8x128x64 .bf16) (q : Vec Ideal S8x32x64 .bf16) (g : Fin 8) (r : Fin 32) (j : Fin 128) :
    k0_pay16 K q (ix3 g r j) = Ideal.exp ((∑ e : Fin 64, (q (ix3 g r e) : EReal) * K (ix3 g j e)) * Ideal.ofBits .f32 0x3E000000#32) := by
  pointwise [k0_pay16]

/-- Their weighted sum of the values, kept in the first half of a slot. -/
theorem pay17_at (K V : Vec Ideal S8x128x64 .bf16) (q : Vec Ideal S8x32x64 .bf16) (g : Fin 8) (r : Fin 32) (e : Fin 64) :
    k0_pay17 K V q (ix4 (0 : Fin 1) g r e) = ∑ j : Fin 128, (k0_pay16 K q (ix3 g r j) : EReal) * V (ix3 g j e) := by
  pointwise [k0_pay17]

/-- Their sum of weights, repeated along the second half of a slot. -/
theorem pay18_at (K : Vec Ideal S8x128x64 .bf16) (q : Vec Ideal S8x32x64 .bf16) (g : Fin 8) (r : Fin 32) (e : Fin 64) :
    k0_pay18 K q (ix4 (0 : Fin 1) g r e) = ∑ j : Fin 128, (k0_pay16 K q (ix3 g r j) : EReal) := by
  pointwise [k0_pay18]

/-- Two devices' partial numerators, added. -/
theorem pay19_at (a b : Vec Ideal S1x8x32x64 .bf16) (g : Fin 8) (r : Fin 32) (e : Fin 64) :
    k0_pay19 a b (ix4 (0 : Fin 1) g r e) = (a (ix4 (0 : Fin 1) g r e) : EReal) + b (ix4 (0 : Fin 1) g r e) := by
  pointwise [k0_pay19]

/-- Two devices' partial denominators, added. -/
theorem pay20_at (a b : Vec Ideal S1x8x32x64 .bf16) (g : Fin 8) (r : Fin 32) (e : Fin 64) :
    k0_pay20 a b (ix4 (0 : Fin 1) g r e) = (a (ix4 (0 : Fin 1) g r e) : EReal) + b (ix4 (0 : Fin 1) g r e) := by
  pointwise [k0_pay20]

/-- The weights of a device's queries against the first 32 keys, where the device takes those from device 0; zero otherwise. -/
theorem pay21_at (p : BitVec 1) (q : FVec Ideal S8x128x64 .bf16) (K : Vec Ideal S8x32x64 .bf16) (g : Fin 8) (r : Fin 128) (j : Fin 32) :
    k0_pay21 p q K (ix3 g r j) = if p = 1#1 then
      Ideal.exp ((∑ e : Fin 64, (q (ix3 g r e) : EReal) * K (ix3 g j e)) * Ideal.ofBits .f32 0x3E000000#32) else 0 := by
  pointwise [k0_pay21]
  rfl

/-- Their weighted sum of the values. -/
theorem pay22_at (p : BitVec 1) (q : FVec Ideal S8x128x64 .bf16) (K V : Vec Ideal S8x32x64 .bf16) (g : Fin 8) (r : Fin 128) (e : Fin 64) :
    k0_pay22 p q K V (ix3 g r e) = ∑ j : Fin 32, (k0_pay21 p q K (ix3 g r j) : EReal) * V (ix3 g j e) := by
  pointwise [k0_pay22]

/-- Their sum of weights. -/
theorem pay23_at (p : BitVec 1) (q : FVec Ideal S8x128x64 .bf16) (K : Vec Ideal S8x32x64 .bf16) (g : Fin 8) (r : Fin 128) :
    k0_pay23 p q K (ix3 g r (0 : Fin 1)) = ∑ j : Fin 32, (k0_pay21 p q K (ix3 g r j) : EReal) := by
  pointwise [k0_pay23]

/-- A bit, widened and turned into a number, is 0 or 1. -/
theorem unit_word (p : Bool) : (FloatOps.sitofp FTy.f32 (BitVec.setWidth 32 (BitVec.ofBool p)) : Ideal .f32) = (if p then (1 : EReal) else 0) := by
  cases p
  · show (((BitVec.setWidth 32 (BitVec.ofBool false)).toInt : ℝ) : EReal) = _
    simp
  · show (((BitVec.setWidth 32 (BitVec.ofBool true)).toInt : ℝ) : EReal) = _
    have : (BitVec.setWidth 32 (BitVec.ofBool true)).toInt = 1 := by decide
    simp [this]

/-- The weights of a device's queries against the 384 keys of its own and its neighbours' blocks, hidden ones zero. -/
theorem pay24_at (c : Fin 8) (q : FVec Ideal S8x128x64 .bf16) (K : Vec Ideal S8x384x64 .bf16) (g : Fin 8) (r : Fin 128) (j : Fin 384) :
    k0_pay24 (devW c) q K (ix3 g r j) = if Sees (128 * c.val + r.val) ((128 * c.val + 896 + j.val) % 1024) then
      Ideal.exp ((∑ e : Fin 64, (q (ix3 g r e) : EReal) * K (ix3 g j e)) * Ideal.ofBits .f32 0x3E000000#32) else 0 := by
  pointwise [k0_pay24]
  have := c.isLt
  rw [kpos_word c j.val j.isLt, qpos_word, mask_words _ _ (by omega) (by omega), unit_word]
  by_cases h : Sees (128 * c.val + r.val) ((128 * c.val + 896 + j.val) % 1024)
  · simp [h]
  · simp [h]

/-- The numerators: the first 32 keys' part and the near keys' part. -/
theorem pay25_at (v2 : BitVec 32) (q : FVec Ideal S8x128x64 .bf16) (A : FVec Ideal S8x128x64 .f32) (K V : Vec Ideal S8x384x64 .bf16) (g : Fin 8) (r : Fin 128) (e : Fin 64) :
    k0_pay25 v2 q A K V (ix3 g r e) = (A (ix3 g r e) : EReal) + ∑ j : Fin 384, (k0_pay24 v2 q K (ix3 g r j) : EReal) * V (ix3 g j e) := by
  pointwise [k0_pay25]

/-- The denominators, likewise. -/
theorem pay26_at (v2 : BitVec 32) (q : FVec Ideal S8x128x64 .bf16) (A : FVec Ideal S8x128x1 .f32) (K : Vec Ideal S8x384x64 .bf16) (g : Fin 8) (r : Fin 128) :
    k0_pay26 v2 q A K (ix3 g r (0 : Fin 1)) = (A (ix3 g r (0 : Fin 1)) : EReal) + ∑ j : Fin 384, (k0_pay24 v2 q K (ix3 g r j) : EReal) := by
  pointwise [k0_pay26]

/-- Three incoming partial numerators, added. -/
theorem pay27_at (a : FVec Ideal S8x32x64 .f32) (b c : Vec Ideal S1x1x8x32x64 .bf16) (g : Fin 8) (r : Fin 32) (e : Fin 64) :
    k0_pay27 a b c (ix3 g r e) = (a (ix3 g r e) : EReal) + b (ix5 (0 : Fin 1) (0 : Fin 1) g r e) + c (ix5 (0 : Fin 1) (0 : Fin 1) g r e) := by
  pointwise [k0_pay27]

/-- Three incoming partial denominators, added. -/
theorem pay28_at (a b c : Vec Ideal S1x1x8x32x1 .bf16) (g : Fin 8) (r : Fin 32) :
    k0_pay28 a b c (ix3 g r (0 : Fin 1)) = (a (ix5 (0 : Fin 1) (0 : Fin 1) g r (0 : Fin 1)) : EReal) + b (ix5 (0 : Fin 1) (0 : Fin 1) g r (0 : Fin 1))
      + c (ix5 (0 : Fin 1) (0 : Fin 1) g r (0 : Fin 1)) := by
  pointwise [k0_pay28]

/-- Where nothing comes in the numerators are zero, -/
theorem pay29_at (i) : (k0_pay29 (F := Ideal) i : EReal) = 0 := by
  pointwise [k0_pay29]
/-- and so are the denominators. -/
theorem pay30_at (i) : (k0_pay30 (F := Ideal) i : EReal) = 0 := by
  pointwise [k0_pay30]

/-- The quotient for one of the first 32 rows of a block: both sums have the incoming part added. -/
theorem pay31_lo (N : FVec Ideal S8x128x64 .f32) (D : FVec Ideal S8x128x1 .f32) (n : Vec Ideal S8x32x64 .f32) (d : Vec Ideal S8x32x1 .f32)
    (g : Fin 8) (r : Fin 128) (e : Fin 64) (hr : r.val < 32) :
    k0_pay31 N D n d (ix3 g r e) = Ideal.div ((N (ix3 g r e) : EReal) + n (ix3 g (⟨r.val, hr⟩ : Fin 32) e))
      ((D (ix3 g r (0 : Fin 1)) : EReal) + d (ix3 g (⟨r.val, hr⟩ : Fin 32) (0 : Fin 1))) := by
  pointwise [k0_pay31]
  simp [hr]

/-- The quotient for a later row. -/
theorem pay31_hi (N : FVec Ideal S8x128x64 .f32) (D : FVec Ideal S8x128x1 .f32) (n : Vec Ideal S8x32x64 .f32) (d : Vec Ideal S8x32x1 .f32)
    (g : Fin 8) (r : Fin 128) (e : Fin 64) (hr : ¬r.val < 32) :
    k0_pay31 N D n d (ix3 g r e) = Ideal.div ((N (ix3 g r e) : EReal)) (D (ix3 g r (0 : Fin 1))) := by
  pointwise [k0_pay31]
  simp only [hr, dite_false]
  have e : (⟨32 + (r.val - 32), by omega⟩ : Fin 128) = r := Fin.ext (by show 32 + (r.val - 32) = r.val; omega)
  rw [e]

/-- The output: the four heads' quotients, each projected by its 64 rows of the output weights, added. -/
theorem pay34_at (N : FVec Ideal S8x128x64 .f32) (D : FVec Ideal S8x128x1 .f32) (n : Vec Ideal S8x32x64 .f32) (d : Vec Ideal S8x32x1 .f32)
    (o0 o1 o2 o3 : Vec Ideal S64x512 .bf16) (b : Fin 2) (r : Fin 128) (k : Fin 512) :
    k0_pay34 (k0_pay32 N D n d o0 o1 o2) (k0_pay33 N D n d o3) (ix3 b r k)
      = (∑ e : Fin 64, (k0_pay31 N D n d (ix3 (⟨b.val, by omega⟩ : Fin 8) r e) : EReal) * o0 (ix2 e k))
        + (∑ e : Fin 64, (k0_pay31 N D n d (ix3 (⟨2 + b.val, by omega⟩ : Fin 8) r e) : EReal) * o1 (ix2 e k))
        + (∑ e : Fin 64, (k0_pay31 N D n d (ix3 (⟨4 + b.val, by omega⟩ : Fin 8) r e) : EReal) * o2 (ix2 e k))
        + (∑ e : Fin 64, (k0_pay31 N D n d (ix3 (⟨6 + b.val, by omega⟩ : Fin 8) r e) : EReal) * o3 (ix2 e k)) := by
  pointwise [k0_pay34, k0_pay32, k0_pay33]

end Cert.Sparse
-- ==== Proof.Model.lean ====
/-
# The result, as a formula of the whole arrays

The queries, scores, weights, numerators, denominators and the output, as sums over all heads and positions; and the ways a sum over
the 1024 positions falls apart: by device, by the three blocks near a device, by the first 32 rows.
-/
module
public import proofs.«01_k».proof.Proof.PayValue
@[expose] public section
noncomputable section
namespace Cert.Sparse
open Idealize.ShloMosaic

/-- The five whole arrays: the inputs, the query weights, the keys, the values and the output weights. -/
structure Arr where
  X : Fin 2 → Fin 1024 → Fin 512 → EReal
  W : Fin 512 → Fin 256 → EReal
  K : Fin 2 → Fin 1024 → Fin 4 → Fin 64 → EReal
  V : Fin 2 → Fin 1024 → Fin 4 → Fin 64 → EReal
  O : Fin 256 → Fin 512 → EReal

/-- Column `e` of head `h`. -/
def col (h : Fin 4) (e : Fin 64) : Fin 256 := ⟨64 * h.val + e.val, by omega⟩
/-- Row `r` of device `d`, in the whole sequence. -/
def pos (d : Fin 8) (r : Fin 128) : Fin 1024 := ⟨128 * d.val + r.val, by omega⟩
/-- Row `j` of the three blocks a device holds: its left neighbour's, its own, its right neighbour's. -/
def kp (c : Fin 8) (j : Fin 384) : Fin 1024 := ⟨(128 * c.val + 896 + j.val) % 1024, Nat.mod_lt _ (by decide)⟩
/-- A row among the first 32. -/
def up (r : Fin 32) : Fin 128 := ⟨r.val, by omega⟩

variable (A : Arr)

/-- The queries, -/
def qv (b : Fin 2) (h : Fin 4) (i : Fin 1024) (e : Fin 64) : EReal := ∑ k : Fin 512, A.X b i k * A.W k (col h e)
/-- the scaled scores, -/
def sc (b : Fin 2) (h : Fin 4) (i j : Fin 1024) : EReal :=
  (∑ e : Fin 64, qv A b h i e * A.K b j h e) * Ideal.ofBits .f32 0x3E000000#32
/-- the weights before they are divided by their sum, -/
def ew (b : Fin 2) (h : Fin 4) (i j : Fin 1024) : EReal := if Sees i.val j.val then Ideal.exp (sc A b h i j) else 0
/-- the weighted values' sum, -/
def nm (b : Fin 2) (h : Fin 4) (i : Fin 1024) (e : Fin 64) : EReal := ∑ j : Fin 1024, ew A b h i j * A.V b j h e
/-- the weights' sum, -/
def dn (b : Fin 2) (h : Fin 4) (i : Fin 1024) : EReal := ∑ j : Fin 1024, ew A b h i j
/-- and the output. -/
def outv (b : Fin 2) (i : Fin 1024) (n : Fin 512) : EReal :=
  ∑ h : Fin 4, ∑ e : Fin 64, Ideal.div (nm A b h i e) (dn A b h i) * A.O (col h e) n

/-! ## A sum over the keys, by device -/

/-- A sum over all positions, device by device. -/
theorem sum_devices (f : Fin 1024 → EReal) : ∑ j, f j = ∑ d : Fin 8, ∑ r : Fin 128, f (pos d r) := by
  rw [← Fintype.sum_prod_type']
  refine (Fintype.sum_equiv (finProdFinEquiv (m := 8) (n := 128)) _ _ fun x => ?_).symm
  refine congrArg f (Fin.ext ?_)
  show 128 * x.1.val + x.2.val = x.2.val + 128 * x.1.val
  omega

/-- A device's three blocks. -/
theorem sum_near (f : Fin 1024 → EReal) (c : Fin 8) :
    ∑ j, f (kp c j) = (∑ r, f (pos (c + 7) r)) + (∑ r, f (pos c r)) + ∑ r, f (pos (c + 1) r) := by
  have h : ∑ j : Fin 384, f (kp c j) = ∑ t : Fin 3, ∑ r : Fin 128, f (kp c ⟨128 * t.val + r.val, by omega⟩) := by
    rw [← Fintype.sum_prod_type']
    refine (Fintype.sum_equiv (finProdFinEquiv (m := 3) (n := 128)) _ _ fun x => ?_).symm
    refine congrArg f (congrArg (kp c) (Fin.ext ?_))
    show 128 * x.1.val + x.2.val = x.2.val + 128 * x.1.val
    omega
  rw [h, Fin.sum_univ_three]
  have e : ∀ (d : Fin 8) (t : Fin 3), (d.val = (c.val + 7 + t.val) % 8) →
      ∑ r : Fin 128, f (kp c ⟨128 * t.val + r.val, by omega⟩) = ∑ r, f (pos d r) := fun d t hd => by
    refine Finset.sum_congr rfl fun r _ => congrArg f (Fin.ext ?_)
    show (128 * c.val + 896 + (128 * t.val + r.val)) % 1024 = 128 * d.val + r.val
    have := r.isLt
    omega
  have e0 : ∀ c : Fin 8, (c + 7).val = (c.val + 7 + (0 : Fin 3).val) % 8 := by decide
  have e1 : ∀ c : Fin 8, c.val = (c.val + 7 + (1 : Fin 3).val) % 8 := by decide
  have e2 : ∀ c : Fin 8, (c + 1).val = (c.val + 7 + (2 : Fin 3).val) % 8 := by decide
  rw [e (c + 7) 0 (e0 c), e c 1 (e1 c), e (c + 1) 2 (e2 c)]

/-- The first 32 rows of device 0, where no later row of device 0 counts. -/
theorem sum_first (f : Fin 1024 → EReal) (hf : ∀ r : Fin 128, 32 ≤ r.val → f (pos 0 r) = 0) :
    ∑ r : Fin 128, f (pos 0 r) = ∑ r : Fin 32, f (pos 0 (up r)) := by
  refine (Finset.sum_subset (Finset.subset_univ (Finset.univ.image up)) ?_).symm.trans ?_
  · intro r _ hr
    apply hf
    by_contra h
    exact hr (Finset.mem_image.2 ⟨⟨r.val, by omega⟩, Finset.mem_univ _, Fin.ext rfl⟩)
  · exact Finset.sum_image fun a _ b _ h => Fin.ext (congrArg (fun x : Fin 128 => x.val) h)

/-- What the eight devices' rows come to for a query of device `c`: the near blocks, device 0's first rows for the middle
    devices, and the middle devices' partial sums for device 0's first rows. -/
theorem gather (f : Fin 1024 → EReal) (c : Fin 8) (r : Fin 128) (hf : ∀ j, ¬Sees (pos c r).val j.val → f j = 0) :
    (if 2 ≤ c.val ∧ c.val ≤ 6 then ∑ j : Fin 32, f (pos 0 (up j)) else 0) + (∑ j : Fin 384, f (kp c j))
      + (if c = 0 ∧ r.val < 32 then ((∑ j, f (pos 3 j)) + ∑ j, f (pos 2 j)) + (∑ j, f (pos 4 j)) + ((∑ j, f (pos 5 j)) + ∑ j, f (pos 6 j)) else 0)
      = ∑ j, f j := by
  have hz : ∀ d : Fin 8, (128 * c.val + r.val + 128 < 128 * d.val ∨ 128 * d.val + 255 < 128 * c.val + r.val) →
      (32 ≤ 128 * c.val + r.val) → 0 < d.val → ∑ k, f (pos d k) = 0 := fun d h1 h2 h3 =>
    Finset.sum_eq_zero fun k _ => hf _ (by
      have := k.isLt
      unfold Sees
      show ¬((128 * c.val + r.val ≤ 128 * d.val + k.val + 128 ∧ 128 * d.val + k.val ≤ 128 * c.val + r.val + 128) ∨ 128 * d.val + k.val < 32
        ∨ 128 * c.val + r.val < 32)
      omega)
  have h0 : 2 ≤ c.val ∧ c.val ≤ 6 → ∑ j : Fin 32, f (pos 0 (up j)) = ∑ j, f (pos 0 j) := fun hc =>
    (sum_first f fun k hk => hf _ (by
      have := k.isLt
      unfold Sees
      show ¬((128 * c.val + r.val ≤ 128 * 0 + k.val + 128 ∧ 128 * 0 + k.val ≤ 128 * c.val + r.val + 128) ∨ 128 * 0 + k.val < 32
        ∨ 128 * c.val + r.val < 32)
      omega)).symm
  rw [sum_near, sum_devices, Fin.sum_univ_eight]
  have hr := r.isLt
  by_cases hm : 2 ≤ c.val ∧ c.val ≤ 6
  · rw [if_pos hm, h0 hm, if_neg (by rintro ⟨h, -⟩; rw [h] at hm; exact absurd hm.1 (by decide))]
    obtain ⟨cv, hc⟩ := c
    interval_cases cv
    · exact absurd hm.1 (by simp)
    · exact absurd hm.1 (by simp)
    · rw [hz 4 (by simp; omega) (by simp; omega) (by decide), hz 5 (by simp; omega) (by simp; omega) (by decide), hz 6 (by simp; omega) (by simp; omega) (by decide), hz 7 (by simp; omega) (by simp; omega) (by decide)]
      simp only [add_zero]; show _ + (∑ k, f (pos 1 k) + ∑ k, f (pos 2 k) + ∑ k, f (pos 3 k)) = _; ac_rfl
    · rw [hz 1 (by simp; omega) (by simp; omega) (by decide), hz 5 (by simp; omega) (by simp; omega) (by decide), hz 6 (by simp; omega) (by simp; omega) (by decide), hz 7 (by simp; omega) (by simp; omega) (by decide)]
      simp only [add_zero]; show _ + (∑ k, f (pos 2 k) + ∑ k, f (pos 3 k) + ∑ k, f (pos 4 k)) = _; ac_rfl
    · rw [hz 1 (by simp; omega) (by simp; omega) (by decide), hz 2 (by simp; omega) (by simp; omega) (by decide), hz 6 (by simp; omega) (by simp; omega) (by decide), hz 7 (by simp; omega) (by simp; omega) (by decide)]
      simp only [add_zero]; show _ + (∑ k, f (pos 3 k) + ∑ k, f (pos 4 k) + ∑ k, f (pos 5 k)) = _; ac_rfl
    · rw [hz 1 (by simp; omega) (by simp; omega) (by decide), hz 2 (by simp; omega) (by simp; omega) (by decide), hz 3 (by simp; omega) (by simp; omega) (by decide), hz 7 (by simp; omega) (by simp; omega) (by decide)]
      simp only [add_zero]; show _ + (∑ k, f (pos 4 k) + ∑ k, f (pos 5 k) + ∑ k, f (pos 6 k)) = _; ac_rfl
    · rw [hz 1 (by simp; omega) (by simp; omega) (by decide), hz 2 (by simp; omega) (by simp; omega) (by decide), hz 3 (by simp; omega) (by simp; omega) (by decide), hz 4 (by simp; omega) (by simp; omega) (by decide)]
      simp only [add_zero]; show _ + (∑ k, f (pos 5 k) + ∑ k, f (pos 6 k) + ∑ k, f (pos 7 k)) = _; ac_rfl
    · exact absurd hm.2 (by simp)
  · rw [if_neg hm, zero_add]
    obtain ⟨cv, hc⟩ := c
    have hcv : cv = 0 ∨ cv = 1 ∨ cv = 7 := by simp at hm; omega
    rcases hcv with rfl | rfl | rfl
    · show (∑ k, f (pos 7 k) + ∑ k, f (pos 0 k) + ∑ k, f (pos 1 k)) + _ = _
      by_cases hr2 : r.val < 32
      · rw [if_pos ⟨rfl, hr2⟩]; ac_rfl
      · rw [if_neg (fun h => hr2 h.2), hz 2 (by simp; omega) (by simp; omega) (by decide), hz 3 (by simp; omega) (by simp; omega) (by decide), hz 4 (by simp; omega) (by simp; omega) (by decide), hz 5 (by simp; omega) (by simp; omega) (by decide), hz 6 (by simp; omega) (by simp; omega) (by decide)]
        simp only [add_zero]; ac_rfl
    · rw [if_neg (by rintro ⟨h, -⟩; exact absurd (congrArg Fin.val h) (by simp)), hz 3 (by simp; omega) (by simp; omega) (by decide), hz 4 (by simp; omega) (by simp; omega) (by decide), hz 5 (by simp; omega) (by simp; omega) (by decide), hz 6 (by simp; omega) (by simp; omega) (by decide), hz 7 (by simp; omega) (by simp; omega) (by decide)]
      simp only [add_zero]; show (∑ k, f (pos 0 k) + ∑ k, f (pos 1 k) + ∑ k, f (pos 2 k)) = _; ac_rfl
    · rw [if_neg (by rintro ⟨h, -⟩; exact absurd (congrArg Fin.val h) (by simp)), hz 1 (by simp; omega) (by simp; omega) (by decide), hz 2 (by simp; omega) (by simp; omega) (by decide), hz 3 (by simp; omega) (by simp; omega) (by decide), hz 4 (by simp; omega) (by simp; omega) (by decide), hz 5 (by simp; omega) (by simp; omega) (by decide)]
      simp only [add_zero]; show (∑ k, f (pos 6 k) + ∑ k, f (pos 7 k) + ∑ k, f (pos 0 k)) = _; ac_rfl

end Cert.Sparse
-- ==== Proof.Loads.lean ====
/-
# What each load of the body reads, element by element

A load reads a rectangle of a buffer: its entry at an index is the buffer's entry at that index moved by the rectangle's corner.
-/
module
public import proofs.«01_k».proof.Proof.Body12
public import proofs.«01_k».proof.Proof.Model
@[expose] public section
noncomputable section
namespace Cert.Sparse
open Cert.KernelIdeal Cert.KernelIdeal.Gen
open Idealize.ShloMosaic
open Idealize.ShloMosaic.TcCoe

variable {F : FTy → Type} [FloatOps F]

/-! What each load of the body reads, element by element. -/

theorem ld_x32 (f) (b : Fin 2) (r : Fin 32) (k : Fin 512) :
    ld (F := F) xM rX32 f (ix3 b r k) = f (ix3 b (⟨r.val, by omega⟩ : Fin 128) k) := by
  show f _ = f _
  refine congrArg f (funext fun a => Fin.ext ?_)
  match a with
  | ⟨0, _⟩ => show 0 + 1 * b.val = b.val; omega
  | ⟨1, _⟩ => show 0 + 1 * r.val = r.val; omega
  | ⟨2, _⟩ => show 0 + 1 * k.val = k.val; omega

theorem ld_x (f) (b : Fin 2) (r : Fin 128) (k : Fin 512) :
    ld (F := F) xM rX f (ix3 b r k) = f (ix3 b r k) := by
  show f _ = f _
  refine congrArg f (funext fun a => Fin.ext ?_)
  match a with
  | ⟨0, _⟩ => show 0 + 1 * b.val = b.val; omega
  | ⟨1, _⟩ => show 0 + 1 * r.val = r.val; omega
  | ⟨2, _⟩ => show 0 + 1 * k.val = k.val; omega

theorem ld_wq (f) (k : Fin 512) (n : Fin 256) :
    ld (F := F) wqM rWq f (ix2 k n) = f (ix2 k n) := by
  show f _ = f _
  refine congrArg f (funext fun a => Fin.ext ?_)
  match a with
  | ⟨0, _⟩ => show 0 + 1 * k.val = k.val; omega
  | ⟨1, _⟩ => show 0 + 1 * n.val = n.val; omega

theorem ld_q (f) (g : Fin 8) (r : Fin 32) (e : Fin 64) :
    ld (F := F) qM rQ f (ix3 g r e) = f (ix3 g r e) := by
  show f _ = f _
  refine congrArg f (funext fun a => Fin.ext ?_)
  match a with
  | ⟨0, _⟩ => show 0 + 1 * g.val = g.val; omega
  | ⟨1, _⟩ => show 0 + 1 * r.val = r.val; omega
  | ⟨2, _⟩ => show 0 + 1 * e.val = e.val; omega

theorem ld_nu (f) (g : Fin 8) (r : Fin 32) (e : Fin 64) :
    ld (F := F) nuM rQ f (ix3 g r e) = f (ix3 g r e) := by
  show f _ = f _
  refine congrArg f (funext fun a => Fin.ext ?_)
  match a with
  | ⟨0, _⟩ => show 0 + 1 * g.val = g.val; omega
  | ⟨1, _⟩ => show 0 + 1 * r.val = r.val; omega
  | ⟨2, _⟩ => show 0 + 1 * e.val = e.val; omega

theorem ld_de (f) (g : Fin 8) (r : Fin 32) :
    ld (F := F) deM rD f (ix3 g r (0 : Fin 1)) = f (ix3 g r (⟨0, by decide⟩ : Fin 1)) := by
  show f _ = f _
  refine congrArg f (funext fun a => Fin.ext ?_)
  match a with
  | ⟨0, _⟩ => show 0 + 1 * g.val = g.val; omega
  | ⟨1, _⟩ => show 0 + 1 * r.val = r.val; omega
  | ⟨2, _⟩ => rfl

theorem ld_gk (f) (g : Fin 8) (r : Fin 32) (e : Fin 64) :
    ld (F := F) gM rGk f (ix3 g r e) = f (ix3 (⟨g.val, by omega⟩ : Fin 16) r e) := by
  show f _ = f _
  refine congrArg f (funext fun a => Fin.ext ?_)
  match a with
  | ⟨0, _⟩ => show 0 + 1 * g.val = g.val; omega
  | ⟨1, _⟩ => show 0 + 1 * r.val = r.val; omega
  | ⟨2, _⟩ => show 0 + 1 * e.val = e.val; omega

theorem ld_gv (f) (g : Fin 8) (r : Fin 32) (e : Fin 64) :
    ld (F := F) gM rGv f (ix3 g r e) = f (ix3 (⟨8 + g.val, by omega⟩ : Fin 16) r e) := by
  show f _ = f _
  refine congrArg f (funext fun a => Fin.ext ?_)
  match a with
  | ⟨0, _⟩ => show 8 + 1 * g.val = 8 + g.val; omega
  | ⟨1, _⟩ => show 0 + 1 * r.val = r.val; omega
  | ⟨2, _⟩ => show 0 + 1 * e.val = e.val; omega

theorem ld_ok (f) (g : Fin 8) (r : Fin 128) (e : Fin 64) :
    ld (F := F) nbM rOk f (ix3 g r e) = f (ix3 (⟨g.val, by omega⟩ : Fin 16) (⟨128 + r.val, by omega⟩ : Fin 384) e) := by
  show f _ = f _
  refine congrArg f (funext fun a => Fin.ext ?_)
  match a with
  | ⟨0, _⟩ => show 0 + 1 * g.val = g.val; omega
  | ⟨1, _⟩ => show 128 + 1 * r.val = 128 + r.val; omega
  | ⟨2, _⟩ => show 0 + 1 * e.val = e.val; omega

theorem ld_ov (f) (g : Fin 8) (r : Fin 128) (e : Fin 64) :
    ld (F := F) nbM rOv f (ix3 g r e) = f (ix3 (⟨8 + g.val, by omega⟩ : Fin 16) (⟨128 + r.val, by omega⟩ : Fin 384) e) := by
  show f _ = f _
  refine congrArg f (funext fun a => Fin.ext ?_)
  match a with
  | ⟨0, _⟩ => show 8 + 1 * g.val = 8 + g.val; omega
  | ⟨1, _⟩ => show 128 + 1 * r.val = 128 + r.val; omega
  | ⟨2, _⟩ => show 0 + 1 * e.val = e.val; omega

theorem ld_ak (f) (g : Fin 8) (r : Fin 384) (e : Fin 64) :
    ld (F := F) nbM rAk f (ix3 g r e) = f (ix3 (⟨g.val, by omega⟩ : Fin 16) r e) := by
  show f _ = f _
  refine congrArg f (funext fun a => Fin.ext ?_)
  match a with
  | ⟨0, _⟩ => show 0 + 1 * g.val = g.val; omega
  | ⟨1, _⟩ => show 0 + 1 * r.val = r.val; omega
  | ⟨2, _⟩ => show 0 + 1 * e.val = e.val; omega

theorem ld_av (f) (g : Fin 8) (r : Fin 384) (e : Fin 64) :
    ld (F := F) nbM rAv f (ix3 g r e) = f (ix3 (⟨8 + g.val, by omega⟩ : Fin 16) r e) := by
  show f _ = f _
  refine congrArg f (funext fun a => Fin.ext ?_)
  match a with
  | ⟨0, _⟩ => show 8 + 1 * g.val = 8 + g.val; omega
  | ⟨1, _⟩ => show 0 + 1 * r.val = r.val; omega
  | ⟨2, _⟩ => show 0 + 1 * e.val = e.val; omega

theorem ld_pa0 (f) (g : Fin 8) (r : Fin 32) (e : Fin 64) :
    ld (F := F) paM rP0 f (ix4 (0 : Fin 1) g r e) = f (ix4 (⟨0, by decide⟩ : Fin 2) g r e) := by
  show f _ = f _
  refine congrArg f (funext fun a => Fin.ext ?_)
  match a with
  | ⟨0, _⟩ => rfl
  | ⟨1, _⟩ => show 0 + 1 * g.val = g.val; omega
  | ⟨2, _⟩ => show 0 + 1 * r.val = r.val; omega
  | ⟨3, _⟩ => show 0 + 1 * e.val = e.val; omega

theorem ld_ag0 (f) (g : Fin 8) (r : Fin 32) (e : Fin 64) :
    ld (F := F) agM rP0 f (ix4 (0 : Fin 1) g r e) = f (ix4 (⟨0, by decide⟩ : Fin 2) g r e) := by
  show f _ = f _
  refine congrArg f (funext fun a => Fin.ext ?_)
  match a with
  | ⟨0, _⟩ => rfl
  | ⟨1, _⟩ => show 0 + 1 * g.val = g.val; omega
  | ⟨2, _⟩ => show 0 + 1 * r.val = r.val; omega
  | ⟨3, _⟩ => show 0 + 1 * e.val = e.val; omega

theorem ld_pa1 (f) (g : Fin 8) (r : Fin 32) (e : Fin 64) :
    ld (F := F) paM rP1 f (ix4 (0 : Fin 1) g r e) = f (ix4 (⟨1, by decide⟩ : Fin 2) g r e) := by
  show f _ = f _
  refine congrArg f (funext fun a => Fin.ext ?_)
  match a with
  | ⟨0, _⟩ => rfl
  | ⟨1, _⟩ => show 0 + 1 * g.val = g.val; omega
  | ⟨2, _⟩ => show 0 + 1 * r.val = r.val; omega
  | ⟨3, _⟩ => show 0 + 1 * e.val = e.val; omega

theorem ld_ag1 (f) (g : Fin 8) (r : Fin 32) (e : Fin 64) :
    ld (F := F) agM rP1 f (ix4 (0 : Fin 1) g r e) = f (ix4 (⟨1, by decide⟩ : Fin 2) g r e) := by
  show f _ = f _
  refine congrArg f (funext fun a => Fin.ext ?_)
  match a with
  | ⟨0, _⟩ => rfl
  | ⟨1, _⟩ => show 0 + 1 * g.val = g.val; omega
  | ⟨2, _⟩ => show 0 + 1 * r.val = r.val; omega
  | ⟨3, _⟩ => show 0 + 1 * e.val = e.val; omega

theorem ld_i00 (f) (g : Fin 8) (r : Fin 32) (e : Fin 64) :
    ld (F := F) inM rI00 f (ix5 (0 : Fin 1) (0 : Fin 1) g r e) = f (ix5 (⟨0, by decide⟩ : Fin 3) (⟨0, by decide⟩ : Fin 2) g r e) := by
  show f _ = f _
  refine congrArg f (funext fun a => Fin.ext ?_)
  match a with
  | ⟨0, _⟩ => rfl
  | ⟨1, _⟩ => rfl
  | ⟨2, _⟩ => show 0 + 1 * g.val = g.val; omega
  | ⟨3, _⟩ => show 0 + 1 * r.val = r.val; omega
  | ⟨4, _⟩ => show 0 + 1 * e.val = e.val; omega

theorem ld_i01 (f) (g : Fin 8) (r : Fin 32) :
    ld (F := F) inM rI01 f (ix5 (0 : Fin 1) (0 : Fin 1) g r (0 : Fin 1)) = f (ix5 (⟨0, by decide⟩ : Fin 3) (⟨1, by decide⟩ : Fin 2) g r (⟨0, by decide⟩ : Fin 64)) := by
  show f _ = f _
  refine congrArg f (funext fun a => Fin.ext ?_)
  match a with
  | ⟨0, _⟩ => rfl
  | ⟨1, _⟩ => rfl
  | ⟨2, _⟩ => show 0 + 1 * g.val = g.val; omega
  | ⟨3, _⟩ => show 0 + 1 * r.val = r.val; omega
  | ⟨4, _⟩ => rfl

theorem ld_i10 (f) (g : Fin 8) (r : Fin 32) (e : Fin 64) :
    ld (F := F) inM rI10 f (ix5 (0 : Fin 1) (0 : Fin 1) g r e) = f (ix5 (⟨1, by decide⟩ : Fin 3) (⟨0, by decide⟩ : Fin 2) g r e) := by
  show f _ = f _
  refine congrArg f (funext fun a => Fin.ext ?_)
  match a with
  | ⟨0, _⟩ => rfl
  | ⟨1, _⟩ => rfl
  | ⟨2, _⟩ => show 0 + 1 * g.val = g.val; omega
  | ⟨3, _⟩ => show 0 + 1 * r.val = r.val; omega
  | ⟨4, _⟩ => show 0 + 1 * e.val = e.val; omega

theorem ld_i11 (f) (g : Fin 8) (r : Fin 32) :
    ld (F := F) inM rI11 f (ix5 (0 : Fin 1) (0 : Fin 1) g r (0 : Fin 1)) = f (ix5 (⟨1, by decide⟩ : Fin 3) (⟨1, by decide⟩ : Fin 2) g r (⟨0, by decide⟩ : Fin 64)) := by
  show f _ = f _
  refine congrArg f (funext fun a => Fin.ext ?_)
  match a with
  | ⟨0, _⟩ => rfl
  | ⟨1, _⟩ => rfl
  | ⟨2, _⟩ => show 0 + 1 * g.val = g.val; omega
  | ⟨3, _⟩ => show 0 + 1 * r.val = r.val; omega
  | ⟨4, _⟩ => rfl

theorem ld_i20 (f) (g : Fin 8) (r : Fin 32) (e : Fin 64) :
    ld (F := F) inM rI20 f (ix5 (0 : Fin 1) (0 : Fin 1) g r e) = f (ix5 (⟨2, by decide⟩ : Fin 3) (⟨0, by decide⟩ : Fin 2) g r e) := by
  show f _ = f _
  refine congrArg f (funext fun a => Fin.ext ?_)
  match a with
  | ⟨0, _⟩ => rfl
  | ⟨1, _⟩ => rfl
  | ⟨2, _⟩ => show 0 + 1 * g.val = g.val; omega
  | ⟨3, _⟩ => show 0 + 1 * r.val = r.val; omega
  | ⟨4, _⟩ => show 0 + 1 * e.val = e.val; omega

theorem ld_i21 (f) (g : Fin 8) (r : Fin 32) :
    ld (F := F) inM rI21 f (ix5 (0 : Fin 1) (0 : Fin 1) g r (0 : Fin 1)) = f (ix5 (⟨2, by decide⟩ : Fin 3) (⟨1, by decide⟩ : Fin 2) g r (⟨0, by decide⟩ : Fin 64)) := by
  show f _ = f _
  refine congrArg f (funext fun a => Fin.ext ?_)
  match a with
  | ⟨0, _⟩ => rfl
  | ⟨1, _⟩ => rfl
  | ⟨2, _⟩ => show 0 + 1 * g.val = g.val; omega
  | ⟨3, _⟩ => show 0 + 1 * r.val = r.val; omega
  | ⟨4, _⟩ => rfl

theorem ld_o0 (f) (e : Fin 64) (n : Fin 512) :
    ld (F := F) woM rO0 f (ix2 e n) = f (ix2 (⟨e.val, by omega⟩ : Fin 256) n) := by
  show f _ = f _
  refine congrArg f (funext fun a => Fin.ext ?_)
  match a with
  | ⟨0, _⟩ => show 0 + 1 * e.val = e.val; omega
  | ⟨1, _⟩ => show 0 + 1 * n.val = n.val; omega

theorem ld_o1 (f) (e : Fin 64) (n : Fin 512) :
    ld (F := F) woM rO1 f (ix2 e n) = f (ix2 (⟨64 + e.val, by omega⟩ : Fin 256) n) := by
  show f _ = f _
  refine congrArg f (funext fun a => Fin.ext ?_)
  match a with
  | ⟨0, _⟩ => show 64 + 1 * e.val = 64 + e.val; omega
  | ⟨1, _⟩ => show 0 + 1 * n.val = n.val; omega

theorem ld_o2 (f) (e : Fin 64) (n : Fin 512) :
    ld (F := F) woM rO2 f (ix2 e n) = f (ix2 (⟨128 + e.val, by omega⟩ : Fin 256) n) := by
  show f _ = f _
  refine congrArg f (funext fun a => Fin.ext ?_)
  match a with
  | ⟨0, _⟩ => show 128 + 1 * e.val = 128 + e.val; omega
  | ⟨1, _⟩ => show 0 + 1 * n.val = n.val; omega

theorem ld_o3 (f) (e : Fin 64) (n : Fin 512) :
    ld (F := F) woM rO3 f (ix2 e n) = f (ix2 (⟨192 + e.val, by omega⟩ : Fin 256) n) := by
  show f _ = f _
  refine congrArg f (funext fun a => Fin.ext ?_)
  match a with
  | ⟨0, _⟩ => show 192 + 1 * e.val = 192 + e.val; omega
  | ⟨1, _⟩ => show 0 + 1 * n.val = n.val; omega

end Cert.Sparse
-- ==== Proof.KernelValue.lean ====
/-
# What each buffer of the body holds, as sums over the whole arrays
-/
module
public import proofs.«01_k».proof.Proof.Loads
@[expose] public section
noncomputable section
namespace Cert.Sparse
open Cert.KernelIdeal Cert.KernelIdeal.Gen
open Idealize.ShloMosaic
open Idealize.ShloMosaic.TcCoe

variable (m : (ℓ : Loc nD τ sig) → Buf (Elt Ideal) ℓ) (A : Arr)

/-- The devices hold the arrays' blocks. -/
structure Holds : Prop where
  x : ∀ (c : Fin 8) b r k, (xB m c (ix3 b r k) : EReal) = A.X b (pos c r) k
  w : ∀ (c : Fin 8) k n, (wqB m c (ix2 k n) : EReal) = A.W k n
  k : ∀ (c : Fin 8) b r h e, (kB m c (ix4 b r h e) : EReal) = A.K b (pos c r) h e
  v : ∀ (c : Fin 8) b r h e, (vB m c (ix4 b r h e) : EReal) = A.V b (pos c r) h e
  o : ∀ (c : Fin 8) k n, (woB m c (ix2 k n) : EReal) = A.O k n

/-- The plane of batch `b` and head `h`. -/
def pl (b : Fin 2) (h : Fin 4) : Fin 8 := ⟨2 * h.val + b.val, by omega⟩
/-- A weight's value before the mask. -/
def ex (b : Fin 2) (h : Fin 4) (i j : Fin 1024) : EReal := Ideal.exp (sc A b h i j)

variable {m A} (H : Holds m A)
include H

theorem qAll_at (c : Fin 8) (b : Fin 2) (h : Fin 4) (r : Fin 128) (e : Fin 64) :
    (qAll m c (ix3 (pl b h) r e) : EReal) = qv A b h (pos c r) e := by
  unfold qAll wq
  rw [pay3_at, pay14_at]
  refine (pay15_at _ _ b h r e).trans (Finset.sum_congr rfl fun k _ => ?_)
  rw [ld_x, ld_wq, H.x, H.w]; rfl

theorem qF_at (b : Fin 2) (h : Fin 4) (r : Fin 32) (e : Fin 64) :
    (qF m (ix3 (pl b h) r e) : EReal) = qv A b h (pos 0 (up r)) e := by
  unfold qF
  rw [pay3_at]
  refine (pay1_at _ _ b h r e).trans (Finset.sum_congr rfl fun k _ => ?_)
  rw [ld_x32, ld_wq, H.w]
  exact congrArg (· * _) (H.x 0 b (up r) k)

theorem nbF_k (c : Fin 8) (b : Fin 2) (h : Fin 4) (j : Fin 384) (e : Fin 64) :
    (nbF m c (ix3 (⟨(pl b h).val, by omega⟩ : Fin 16) j e) : EReal) = A.K b (kp c j) h e := by
  show (kvAt m (ownerAt c j.val) ⟨(pl b h).val, _⟩ ⟨j.val % 128, _⟩ e : EReal) = _
  unfold kvAt
  rw [if_pos (pl b h).isLt, ← ix4_eq_valueIdx]
  have h1 : (⟨(pl b h).val % 2, Nat.mod_lt _ (by decide)⟩ : Fin 2) = b := Fin.ext (by show (2 * h.val + b.val) % 2 = b.val; omega)
  have h2 : (⟨(pl b h).val % 8 / 2, by omega⟩ : Fin 4) = h := Fin.ext (by show (2 * h.val + b.val) % 8 / 2 = h.val; omega)
  rw [h1, h2, H.k]
  refine congrArg (fun i => A.K b i h e) (Fin.ext ?_)
  show 128 * (ownerAt c j.val).val + j.val % 128 = (128 * c.val + 896 + j.val) % 1024
  have := j.isLt; have := c.isLt
  unfold ownerAt
  split
  · show 128 * ((c.val + 7) % 8) + j.val % 128 = _; omega
  · split
    · omega
    · show 128 * ((c.val + 1) % 8) + j.val % 128 = _; omega

theorem nbF_v (c : Fin 8) (b : Fin 2) (h : Fin 4) (j : Fin 384) (e : Fin 64) :
    (nbF m c (ix3 (⟨8 + (pl b h).val, by omega⟩ : Fin 16) j e) : EReal) = A.V b (kp c j) h e := by
  show (kvAt m (ownerAt c j.val) ⟨8 + (pl b h).val, _⟩ ⟨j.val % 128, _⟩ e : EReal) = _
  unfold kvAt
  rw [if_neg (by show ¬(8 + (pl b h).val < 8); omega), ← ix4_eq_valueIdx]
  have h1 : (⟨(8 + (pl b h).val) % 2, Nat.mod_lt _ (by decide)⟩ : Fin 2) = b := Fin.ext (by show (8 + (2 * h.val + b.val)) % 2 = b.val; omega)
  have h2 : (⟨(8 + (pl b h).val) % 8 / 2, by omega⟩ : Fin 4) = h := Fin.ext (by show (8 + (2 * h.val + b.val)) % 8 / 2 = h.val; omega)
  rw [h1, h2, H.v]
  refine congrArg (fun i => A.V b i h e) (Fin.ext ?_)
  show 128 * (ownerAt c j.val).val + j.val % 128 = (128 * c.val + 896 + j.val) % 1024
  have := j.isLt; have := c.isLt
  unfold ownerAt
  split
  · show 128 * ((c.val + 7) % 8) + j.val % 128 = _; omega
  · split
    · omega
    · show 128 * ((c.val + 1) % 8) + j.val % 128 = _; omega

omit H in
theorem kp_own (c : Fin 8) (r : Fin 128) : kp c (⟨128 + r.val, by omega⟩ : Fin 384) = pos c r :=
  Fin.ext (by show (128 * c.val + 896 + (128 + r.val)) % 1024 = 128 * c.val + r.val; have := c.isLt; have := r.isLt; omega)

theorem gF_k (b : Fin 2) (h : Fin 4) (j : Fin 32) (e : Fin 64) :
    (gF m (ix3 (⟨(pl b h).val, by omega⟩ : Fin 16) j e) : EReal) = A.K b (pos 0 (up j)) h e := by
  show (nbF m 0 (ValueIdx.ix3 (⟨(pl b h).val, _⟩ : Fin 16) (⟨128 + (up j).val, _⟩ : Fin 384) e) : EReal) = _
  rw [← ix3_eq_valueIdx]
  refine (nbF_k H 0 b h _ e).trans ?_
  exact congrArg (fun i => A.K b i h e) (kp_own 0 (up j))

theorem gF_v (b : Fin 2) (h : Fin 4) (j : Fin 32) (e : Fin 64) :
    (gF m (ix3 (⟨8 + (pl b h).val, by omega⟩ : Fin 16) j e) : EReal) = A.V b (pos 0 (up j)) h e := by
  show (nbF m 0 (ValueIdx.ix3 (⟨8 + (pl b h).val, _⟩ : Fin 16) (⟨128 + (up j).val, _⟩ : Fin 384) e) : EReal) = _
  rw [← ix3_eq_valueIdx]
  refine (nbF_v H 0 b h _ e).trans ?_
  exact congrArg (fun i => A.V b i h e) (kp_own 0 (up j))

/-! ## The near keys -/

omit H in
theorem w2_devW (c : Fin 8) : w2 c = devW c := by revert c; decide

theorem near_weight (c : Fin 8) (b : Fin 2) (h : Fin 4) (r : Fin 128) (j : Fin 384) :
    (k0_pay24 (w2 c) (qAll m c) (ld nbM rAk (nbF m c)) (ix3 (pl b h) r j) : EReal) = ew A b h (pos c r) (kp c j) := by
  rw [w2_devW]
  refine (pay24_at c _ _ (pl b h) r j).trans ?_
  unfold ew sc
  refine congrArg (fun s => if Sees (pos c r).val (kp c j).val then Ideal.exp (s * _) else 0) (Finset.sum_congr rfl fun e _ => ?_)
  rw [qAll_at H, ld_ak, nbF_k H]

/-! ## The first 32 keys, at the middle devices -/

omit H in
theorem w11_mid (c : Fin 8) : w11 c = 1#1 ↔ (2 ≤ c.val ∧ c.val ≤ 6) := by revert c; decide

theorem glob_weight (c : Fin 8) (hc : 2 ≤ c.val ∧ c.val ≤ 6) (b : Fin 2) (h : Fin 4) (r : Fin 128) (j : Fin 32) :
    (k0_pay21 (w11 c) (qAll m c) (ld gM rGk (gC m c)) (ix3 (pl b h) r j) : EReal) = ew A b h (pos c r) (pos 0 (up j)) := by
  refine (pay21_at _ _ _ (pl b h) r j).trans ?_
  rw [if_pos ((w11_mid c).2 hc)]
  unfold ew sc
  rw [if_pos (.inr (.inl (by show 128 * 0 + j.val < 32; omega)))]
  refine congrArg (fun s => Ideal.exp (s * _)) (Finset.sum_congr rfl fun e _ => ?_)
  rw [qAll_at H, ld_gk]
  unfold gC
  rw [if_pos (show Mid c from hc), gF_k H]

omit H in
theorem glob_weight_none (c : Fin 8) (hc : ¬(2 ≤ c.val ∧ c.val ≤ 6)) (b : Fin 2) (h : Fin 4) (r : Fin 128) (j : Fin 32) :
    (k0_pay21 (w11 c) (qAll m c) (ld gM rGk (gC m c)) (ix3 (pl b h) r j) : EReal) = 0 := by
  refine (pay21_at _ _ _ (pl b h) r j).trans ?_
  rw [if_neg (fun h => hc ((w11_mid c).1 h))]

theorem vGlob_at (c : Fin 8) (b : Fin 2) (h : Fin 4) (r : Fin 128) (e : Fin 64) :
    (vGlob m c (ix3 (pl b h) r e) : EReal)
      = if 2 ≤ c.val ∧ c.val ≤ 6 then ∑ j : Fin 32, ew A b h (pos c r) (pos 0 (up j)) * A.V b (pos 0 (up j)) h e else 0 := by
  unfold vGlob
  refine (pay22_at _ _ _ _ (pl b h) r e).trans ?_
  split
  next hc =>
    refine Finset.sum_congr rfl fun j _ => ?_
    rw [glob_weight H c hc, ld_gv]
    unfold gC
    rw [if_pos (show Mid c from hc), gF_v H]
  next hc =>
    refine Finset.sum_eq_zero fun j _ => ?_
    rw [glob_weight_none c hc, zero_mul]

theorem dGlob_at (c : Fin 8) (b : Fin 2) (h : Fin 4) (r : Fin 128) :
    (dGlob m c (ix3 (pl b h) r (0 : Fin 1)) : EReal)
      = if 2 ≤ c.val ∧ c.val ≤ 6 then ∑ j : Fin 32, ew A b h (pos c r) (pos 0 (up j)) else 0 := by
  unfold dGlob
  refine (pay23_at _ _ _ (pl b h) r).trans ?_
  split
  next hc => exact Finset.sum_congr rfl fun j _ => glob_weight H c hc b h r j
  next hc => exact Finset.sum_eq_zero fun j _ => glob_weight_none c hc b h r j

theorem vNear_at (c : Fin 8) (b : Fin 2) (h : Fin 4) (r : Fin 128) (e : Fin 64) :
    (vNear m c (ix3 (pl b h) r e) : EReal)
      = (if 2 ≤ c.val ∧ c.val ≤ 6 then ∑ j : Fin 32, ew A b h (pos c r) (pos 0 (up j)) * A.V b (pos 0 (up j)) h e else 0)
        + ∑ j : Fin 384, ew A b h (pos c r) (kp c j) * A.V b (kp c j) h e := by
  unfold vNear
  refine (pay25_at _ _ _ _ _ (pl b h) r e).trans ?_
  rw [vGlob_at H]
  refine congrArg (_ + ·) (Finset.sum_congr rfl fun j _ => ?_)
  rw [near_weight H, ld_av, nbF_v H]

theorem dNear_at (c : Fin 8) (b : Fin 2) (h : Fin 4) (r : Fin 128) :
    (dNear m c (ix3 (pl b h) r (0 : Fin 1)) : EReal)
      = (if 2 ≤ c.val ∧ c.val ≤ 6 then ∑ j : Fin 32, ew A b h (pos c r) (pos 0 (up j)) else 0)
        + ∑ j : Fin 384, ew A b h (pos c r) (kp c j) := by
  unfold dNear
  refine (pay26_at _ _ _ _ (pl b h) r).trans ?_
  rw [dGlob_at H]
  exact congrArg (_ + ·) (Finset.sum_congr rfl fun j _ => near_weight H c b h r j)

/-! ## The partial sums for device 0's first 32 rows -/

theorem part_weight (d : Fin 8) (b : Fin 2) (h : Fin 4) (r : Fin 32) (j : Fin 128) :
    (k0_pay16 (ld nbM rOk (nbF m d)) (ld qM rQ (qF m)) (ix3 (pl b h) r j) : EReal) = ew A b h (pos 0 (up r)) (pos d j) := by
  refine (pay16_at _ _ (pl b h) r j).trans ?_
  unfold ew sc
  rw [if_pos (.inr (.inr (by show 128 * 0 + r.val < 32; omega)))]
  refine congrArg (fun s => Ideal.exp (s * _)) (Finset.sum_congr rfl fun e _ => ?_)
  rw [ld_q, qF_at H, ld_ok, nbF_k H, kp_own]

theorem paF_num (d : Fin 8) (b : Fin 2) (h : Fin 4) (r : Fin 32) (e : Fin 64) :
    (paF m d (ix4 (0 : Fin 2) (pl b h) r e) : EReal) = ∑ j : Fin 128, ew A b h (pos 0 (up r)) (pos d j) * A.V b (pos d j) h e := by
  show (k0_pay17 (ld nbM rOk (nbF m d)) (ld nbM rOv (nbF m d)) (ld qM rQ (qF m)) (ValueIdx.ix4 (0 : Fin 1) (pl b h) r e) : EReal) = _
  rw [← ix4_eq_valueIdx]
  refine (pay17_at _ _ _ (pl b h) r e).trans (Finset.sum_congr rfl fun j _ => ?_)
  rw [part_weight H, ld_ov, nbF_v H, kp_own]

theorem paF_den (d : Fin 8) (b : Fin 2) (h : Fin 4) (r : Fin 32) (e : Fin 64) :
    (paF m d (ix4 (1 : Fin 2) (pl b h) r e) : EReal) = ∑ j : Fin 128, ew A b h (pos 0 (up r)) (pos d j) := by
  show (k0_pay18 (ld nbM rOk (nbF m d)) (ld qM rQ (qF m)) (ValueIdx.ix4 (0 : Fin 1) (pl b h) r e) : EReal) = _
  rw [← ix4_eq_valueIdx]
  exact (pay18_at _ _ (pl b h) r e).trans (Finset.sum_congr rfl fun j _ => part_weight H d b h r j)

omit H in
theorem agF_num (d : Fin 8) (g : Fin 8) (r : Fin 32) (e : Fin 64) :
    (agF m d (ix4 (0 : Fin 2) g r e) : EReal) = (paF m d (ix4 (0 : Fin 2) g r e) : EReal) + paF m (leafOf d) (ix4 (0 : Fin 2) g r e) := by
  show (k0_pay19 (ld paM rP0 (paF m d)) (ld agM rP0 (paF m (leafOf d))) (ValueIdx.ix4 (0 : Fin 1) g r e) : EReal) = _
  rw [← ix4_eq_valueIdx]
  refine (pay19_at _ _ g r e).trans ?_
  rw [ld_pa0, ld_ag0]; rfl

omit H in
theorem agF_den (d : Fin 8) (g : Fin 8) (r : Fin 32) (e : Fin 64) :
    (agF m d (ix4 (1 : Fin 2) g r e) : EReal) = (paF m d (ix4 (1 : Fin 2) g r e) : EReal) + paF m (leafOf d) (ix4 (1 : Fin 2) g r e) := by
  show (k0_pay20 (ld paM rP1 (paF m d)) (ld agM rP1 (paF m (leafOf d))) (ValueIdx.ix4 (0 : Fin 1) g r e) : EReal) = _
  rw [← ix4_eq_valueIdx]
  refine (pay20_at _ _ g r e).trans ?_
  rw [ld_pa1, ld_ag1]; rfl

omit H in
theorem inF_at (i : Fin 3) (s : Fin 2) (g : Fin 8) (r : Fin 32) (e : Fin 64) :
    inF m (ix5 i s g r e) = psF m (sndOf i) (ix4 s g r e) := by
  show psF m (sndOf i) (ValueIdx.ix4 s g r e) = _
  rw [← ix4_eq_valueIdx]

omit H in
theorem ps3 : psF m (3 : Fin 8) = agF m (3 : Fin 8) := if_pos (by decide)
omit H in
theorem ps4 : psF m (4 : Fin 8) = paF m (4 : Fin 8) := if_neg (by decide)
omit H in
theorem ps5 : psF m (5 : Fin 8) = agF m (5 : Fin 8) := if_pos (by decide)

theorem nuF_at (b : Fin 2) (h : Fin 4) (r : Fin 32) (e : Fin 64) :
    (nuF m (0 : Fin 8) (ix3 (pl b h) r e) : EReal)
      = ((∑ j, ew A b h (pos 0 (up r)) (pos 3 j) * A.V b (pos 3 j) h e) + ∑ j, ew A b h (pos 0 (up r)) (pos 2 j) * A.V b (pos 2 j) h e)
        + (∑ j, ew A b h (pos 0 (up r)) (pos 4 j) * A.V b (pos 4 j) h e)
        + ((∑ j, ew A b h (pos 0 (up r)) (pos 5 j) * A.V b (pos 5 j) h e) + ∑ j, ew A b h (pos 0 (up r)) (pos 6 j) * A.V b (pos 6 j) h e) := by
  unfold nuF
  rw [if_pos rfl]
  refine (pay27_at _ _ _ (pl b h) r e).trans ?_
  rw [pay2_at, ld_i00, ld_i10, ld_i20]
  simp only [inF_at]
  show (psF m (3 : Fin 8) (ix4 (0 : Fin 2) (pl b h) r e) : EReal) + psF m (4 : Fin 8) (ix4 (0 : Fin 2) (pl b h) r e)
    + psF m (5 : Fin 8) (ix4 (0 : Fin 2) (pl b h) r e) = _
  rw [ps3, ps4, ps5, agF_num, agF_num]
  show ((paF m (3 : Fin 8) (ix4 (0 : Fin 2) (pl b h) r e) : EReal) + paF m (2 : Fin 8) (ix4 (0 : Fin 2) (pl b h) r e))
    + paF m (4 : Fin 8) (ix4 (0 : Fin 2) (pl b h) r e)
    + ((paF m (5 : Fin 8) (ix4 (0 : Fin 2) (pl b h) r e) : EReal) + paF m (6 : Fin 8) (ix4 (0 : Fin 2) (pl b h) r e)) = _
  rw [paF_num H, paF_num H, paF_num H, paF_num H, paF_num H]

theorem deF_at (b : Fin 2) (h : Fin 4) (r : Fin 32) :
    (deF m (0 : Fin 8) (ix3 (pl b h) r (0 : Fin 1)) : EReal)
      = ((∑ j, ew A b h (pos 0 (up r)) (pos 3 j)) + ∑ j, ew A b h (pos 0 (up r)) (pos 2 j))
        + (∑ j, ew A b h (pos 0 (up r)) (pos 4 j))
        + ((∑ j, ew A b h (pos 0 (up r)) (pos 5 j)) + ∑ j, ew A b h (pos 0 (up r)) (pos 6 j)) := by
  unfold deF
  rw [if_pos rfl]
  refine (pay28_at _ _ _ (pl b h) r).trans ?_
  rw [ld_i01, ld_i11, ld_i21]
  simp only [inF_at]
  show (psF m (3 : Fin 8) (ix4 (1 : Fin 2) (pl b h) r (0 : Fin 64)) : EReal) + psF m (4 : Fin 8) (ix4 (1 : Fin 2) (pl b h) r (0 : Fin 64))
    + psF m (5 : Fin 8) (ix4 (1 : Fin 2) (pl b h) r (0 : Fin 64)) = _
  rw [ps3, ps4, ps5, agF_den, agF_den]
  show ((paF m (3 : Fin 8) (ix4 (1 : Fin 2) (pl b h) r (0 : Fin 64)) : EReal) + paF m (2 : Fin 8) (ix4 (1 : Fin 2) (pl b h) r (0 : Fin 64)))
    + paF m (4 : Fin 8) (ix4 (1 : Fin 2) (pl b h) r (0 : Fin 64))
    + ((paF m (5 : Fin 8) (ix4 (1 : Fin 2) (pl b h) r (0 : Fin 64)) : EReal) + paF m (6 : Fin 8) (ix4 (1 : Fin 2) (pl b h) r (0 : Fin 64))) = _
  rw [paF_den H, paF_den H, paF_den H, paF_den H, paF_den H]

omit H in
theorem nuF_none (c : Fin 8) (hc : c ≠ 0) (i) : (nuF m c i : EReal) = 0 := by
  unfold nuF; rw [if_neg hc]; exact pay29_at i
omit H in
theorem deF_none (c : Fin 8) (hc : c ≠ 0) (i) : (deF m c i : EReal) = 0 := by
  unfold deF; rw [if_neg hc]; exact pay30_at i

/-! ## The quotient and the output -/

omit H in
theorem ew_unseen (b : Fin 2) (h : Fin 4) (i j : Fin 1024) (hs : ¬Sees i.val j.val) : ew A b h i j = 0 := if_neg hs

theorem ctx_at (c : Fin 8) (b : Fin 2) (h : Fin 4) (r : Fin 128) (e : Fin 64) :
    (k0_pay31 (vNear m c) (dNear m c) (ld nuM rQ (nuF m c)) (ld deM rD (deF m c)) (ix3 (pl b h) r e) : EReal)
      = Ideal.div (nm A b h (pos c r) e) (dn A b h (pos c r)) := by
  have gn := gather (fun j => ew A b h (pos c r) j * A.V b j h e) c r (fun j hs => by
    show ew A b h (pos c r) j * _ = 0
    rw [ew_unseen b h _ _ hs, zero_mul])
  have gd := gather (fun j => ew A b h (pos c r) j) c r (fun j hs => ew_unseen b h _ _ hs)
  unfold nm dn
  rw [← gn, ← gd]
  by_cases hr : r.val < 32
  · refine (pay31_lo _ _ _ _ (pl b h) r e hr).trans ?_
    rw [vNear_at H, dNear_at H, ld_nu, ld_de]
    by_cases hc : c = 0
    · subst hc
      rw [if_pos (⟨rfl, hr⟩ : (0 : Fin 8) = 0 ∧ r.val < 32), if_pos (⟨rfl, hr⟩ : (0 : Fin 8) = 0 ∧ r.val < 32), nuF_at H]
      have hd := deF_at H b h ⟨r.val, hr⟩
      exact congrArg (fun s => Ideal.div _ (_ + s)) hd
    · rw [if_neg (show ¬(c = 0 ∧ r.val < 32) from fun h => hc h.1), if_neg (show ¬(c = 0 ∧ r.val < 32) from fun h => hc h.1), nuF_none c hc, deF_none c hc]
  · refine (pay31_hi _ _ _ _ (pl b h) r e hr).trans ?_
    rw [vNear_at H, dNear_at H, if_neg (show ¬(c = 0 ∧ r.val < 32) from fun h => hr h.2), if_neg (show ¬(c = 0 ∧ r.val < 32) from fun h => hr h.2), add_zero, add_zero]

/-- **What the kernel stores**: the model's output at the device's rows. -/
theorem out_at (c : Fin 8) (b : Fin 2) (r : Fin 128) (n : Fin 512) : (outB m c (ix3 b r n) : EReal) = outv A b (pos c r) n := by
  unfold outB oA oB
  refine (pay34_at _ _ _ _ _ _ _ _ b r n).trans ?_
  unfold outv
  rw [Fin.sum_univ_four]
  have hh : ∀ (h : Fin 4) (g : Fin 8) (L : S64x512.Idx → EReal), g = pl b h → (∀ e, L (ix2 e n) = A.O (col h e) n) →
      (∑ e : Fin 64, (k0_pay31 (vNear m c) (dNear m c) (ld nuM rQ (nuF m c)) (ld deM rD (deF m c)) (ix3 g r e) : EReal) * L (ix2 e n))
        = ∑ e : Fin 64, Ideal.div (nm A b h (pos c r) e) (dn A b h (pos c r)) * A.O (col h e) n := by
    rintro h g L rfl hL
    exact Finset.sum_congr rfl fun e _ => by rw [ctx_at H, hL]
  rw [hh 0 ⟨b.val, by omega⟩ (ld woM rO0 (woB m c)) (Fin.ext (by show b.val = 2 * 0 + b.val; omega))
      (fun e => (ld_o0 _ e n).trans ((H.o c _ n).trans (congrArg (A.O · n) (Fin.ext (show e.val = 64 * 0 + e.val by omega))))),
    hh 1 ⟨2 + b.val, by omega⟩ (ld woM rO1 (woB m c)) rfl (fun e => (ld_o1 _ e n).trans (H.o c _ n)),
    hh 2 ⟨4 + b.val, by omega⟩ (ld woM rO2 (woB m c)) rfl (fun e => (ld_o2 _ e n).trans (H.o c _ n)),
    hh 3 ⟨6 + b.val, by omega⟩ (ld woM rO3 (woB m c)) rfl (fun e => (ld_o3 _ e n).trans (H.o c _ n))]

end Cert.Sparse
-- ==== Proof.RefRead.lean ====
module
public import proofs.«01_k».proof.Proof.Gen.ReferenceIdeal.Read
public import Idealize.ShloMosaic.Lib.Pointwise
public import proofs.«01_k».proof.Proof.Model
public import Idealize.ShloMosaic.Lib.Routing.OpsOrder
/-
# The reference, operation by operation

Each array the reference computes is read at one index as a scalar formula of the arrays before it: the queries, the mask,
the scores, a row's greatest score, the exponentials, the row sums, the weights and the result.
-/
@[expose] public section
set_option maxRecDepth 16384
noncomputable section
namespace Cert.Sparse.Ref
open Cert.ReferenceIdeal Cert.ReferenceIdeal.Gen Cert.ReferenceIdeal.Read
open Idealize.ShloMosaic

variable (x0 : FVec Ideal S2x1024x512 .bf16) (x1 : FVec Ideal S512x256 .bf16) (x2 x3 : FVec Ideal S2x1024x4x64 .bf16) (x4 : FVec Ideal S256x512 .bf16)

/-- The word that stands for a hidden score is −∞. -/
theorem bot_word : Ideal.ofBits .f32 0xFF800000#32 = ⊥ := by simp [Ideal.ofBits, Ideal.ieee]

/-- A choice by the bit 1. -/
theorem select_one (a b : EReal) : Scalar.select 1#1 a b = a := rfl

/-- Every query sees its own key. -/
theorem sees_self (a : ℕ) : Sees a a := Or.inl ⟨by omega, by omega⟩

/-- A sum over the 256 columns is a sum over the heads and each head's 64 entries. -/
theorem sum_columns (f : Fin 256 → EReal) : ∑ x, f x = ∑ h : Fin 4, ∑ e : Fin 64, f (col h e) := by
  rw [← Fintype.sum_prod_type']
  refine (Fintype.sum_equiv (finProdFinEquiv (m := 4) (n := 64)) _ _ fun x => ?_).symm
  refine congrArg f (Fin.ext ?_)
  show 64 * x.1.val + x.2.val = x.2.val + 64 * x.1.val
  omega

/-- The queries: a head's entry is a column of the projection. -/
theorem q_read (b : Fin 2) (i : Fin 1024) (h : Fin 4) (e : Fin 64) :
    (val_main_v23 (F := Ideal) x0 x1 (ix4 b i h e) : EReal) = ∑ k : Fin 512, (x0 (ix3 b i k) : EReal) * x1 (ix2 k (col h e)) := by
  pointwise [val_main_v23, val_main_v4, val_main_v3, val_main_v2, val_main_v1, val_main_v0]
  exact Finset.sum_congr rfl fun k _ => congrArg (fun t => x0 (ix3 b i k) * x1 (ix2 k t)) (Fin.ext (by show h.val * 64 + e.val = 64 * h.val + e.val; omega))

/-- The mask, at a query and a key. -/
theorem mask_read (i j : Fin 1024) : val_main_v22 (F := Ideal) (ix2 i j) = BitVec.ofBool (decide (Sees i.val j.val)) := by
  pointwise [val_main_v22, val_main_v21, val_main_v20, val_main_v19, val_main_v18, val_main_v17, val_main_v16, val_main_v15, val_main_v14,
    val_main_v13, val_main_v12, val_main_v11, val_main_v10, val_main_v9, val_main_v8, val_main_v7, val_main_v6, val_main_v5, val_main_c, val_main_c_0, val_main_c_1]
  exact mask_words' i.val j.val i.isLt j.isLt

/-- The scaled scores. -/
theorem score_read (b : Fin 2) (h : Fin 4) (i j : Fin 1024) :
    (val_main_v29 (F := Ideal) x0 x1 x2 (ix4 b h i j) : EReal)
      = (∑ e : Fin 64, (val_main_v23 (F := Ideal) x0 x1 (ix4 b i h e) : EReal) * x2 (ix4 b j h e)) * Ideal.ofBits .f32 0x3E000000#32 := by
  pointwise [val_main_v29, val_main_v28, val_main_v27, val_main_v26, val_main_v25, val_main_v24, val_main_cst]

/-- The scores with the hidden ones at −∞. -/
theorem where_read (b : Fin 2) (h : Fin 4) (i j : Fin 1024) :
    (val_main_v31 (F := Ideal) x0 x1 x2 (ix4 b h i j) : EReal)
      = if Sees i.val j.val then (val_main_v29 (F := Ideal) x0 x1 x2 (ix4 b h i j) : EReal) else ⊥ := by
  pointwise [val_main_v31, val_main_call0_v1, val_main_call0_v2, val_main_call0_v0, val_main_cst_2, val_main_v30]
  rw [mask_read]
  by_cases hs : Sees i.val j.val
  · rw [if_pos hs, decide_eq_true hs]
    rfl
  · rw [if_neg hs, decide_eq_false hs]
    exact bot_word

/-- A row's greatest score. -/
theorem max_read (b : Fin 2) (h : Fin 4) (i : Fin 1024) :
    (val_main_v32 (F := Ideal) x0 x1 x2 (ix3 b h i) : EReal)
      = Finset.univ.fold max ⊥ fun j : Fin 1024 => (val_main_v31 (F := Ideal) x0 x1 x2 (ix4 b h i j) : EReal) := by
  pointwise [val_main_v32, val_main_cst_3]
  rw [bot_word]

/-- The exponentials, shifted by the row's greatest score. -/
theorem exp_read (b : Fin 2) (h : Fin 4) (i j : Fin 1024) :
    (val_main_v36 (F := Ideal) x0 x1 x2 (ix4 b h i j) : EReal)
      = Ideal.exp ((val_main_v31 (F := Ideal) x0 x1 x2 (ix4 b h i j) : EReal) - val_main_v32 (F := Ideal) x0 x1 x2 (ix3 b h i)) := by
  pointwise [val_main_v36, val_main_v35, val_main_v34, val_main_v33]

/-- Every query sees some key. -/
theorem keep_read (i : Fin 1024) : val_main_v37 (F := Ideal) (ix1 i) = 1#1 := by
  pointwise [val_main_v37, val_main_c_4]
  refine (Routing.fold_ori _ _).2 ⟨i, Finset.mem_univ i, ?_⟩
  rw [mask_read, decide_eq_true (sees_self i.val)]
  rfl

/-- The row sums the quotient divides by. -/
theorem sum_read (b : Fin 2) (h : Fin 4) (i : Fin 1024) :
    (val_main_v41 (F := Ideal) x0 x1 x2 (ix4 b h i (0 : Fin 1)) : EReal) = ∑ j : Fin 1024, (val_main_v36 (F := Ideal) x0 x1 x2 (ix4 b h i j) : EReal) := by
  pointwise [val_main_v41, val_main_call1_v1, val_main_call1_v2, val_main_call1_v0, val_main_v38, val_main_v39, val_main_v40, val_main_cst_5, val_main_cst_6]
  rw [keep_read]
  rfl

/-- The weights. -/
theorem weight_read (b : Fin 2) (h : Fin 4) (i j : Fin 1024) :
    (val_main_v45 (F := Ideal) x0 x1 x2 (ix4 b h i j) : EReal)
      = Ideal.div (val_main_v36 (F := Ideal) x0 x1 x2 (ix4 b h i j)) (∑ j : Fin 1024, (val_main_v36 (F := Ideal) x0 x1 x2 (ix4 b h i j) : EReal)) := by
  rw [← sum_read]
  pointwise [val_main_v45, val_main_call2_v1, val_main_call2_v2, val_main_call2_v0, val_main_v44, val_main_v38, val_main_v42, val_main_v43, val_main_cst_7]
  rw [keep_read]
  exact select_one _ _

/-- A column's term of the result, when the column is written by its head and its entry. -/
theorem same_entry (b : Fin 2) (i : Fin 1024) (n : Fin 512) (t : Fin 256) {h h' : Fin 4} {e e' : Fin 64} (hh : h' = h) (he : e' = e) :
    (∑ j : Fin 1024, (x3 (ix4 b j h' e') : EReal) * val_main_v45 (F := Ideal) x0 x1 x2 (ix4 b h' i j)) * x4 (ix2 t n)
      = (∑ j : Fin 1024, (x3 (ix4 b j h e) : EReal) * val_main_v45 (F := Ideal) x0 x1 x2 (ix4 b h i j)) * x4 (ix2 t n) := by
  subst hh he
  rfl

/-- The result: the weighted values, projected. -/
theorem out_read (b : Fin 2) (i : Fin 1024) (n : Fin 512) :
    (val_main_v51 (F := Ideal) x0 x1 x2 x3 x4 (ix3 b i n) : EReal)
      = ∑ h : Fin 4, ∑ e : Fin 64, (∑ j : Fin 1024, (x3 (ix4 b j h e) : EReal) * val_main_v45 (F := Ideal) x0 x1 x2 (ix4 b h i j)) * x4 (ix2 (col h e) n) := by
  pointwise [val_main_v51, val_main_v50, val_main_v49, val_main_v48, val_main_v47, val_main_v46]
  rw [sum_columns]
  refine Finset.sum_congr rfl fun h _ => Finset.sum_congr rfl fun e _ => ?_
  have hd : (⟨(col h e).val / 64, by have := (col h e).isLt; omega⟩ : Fin 4) = h :=
    Fin.ext (by have := e.isLt; show (64 * h.val + e.val) / 64 = h.val; omega)
  have hm : (⟨(col h e).val % 64, Nat.mod_lt _ (by decide)⟩ : Fin 64) = e :=
    Fin.ext (by have := e.isLt; show (64 * h.val + e.val) % 64 = e.val; omega)
  exact same_entry x0 x1 x2 x3 x4 b i n (col h e) hd hm

end Cert.Sparse.Ref
-- ==== Proof.Softmax.lean ====
module
public import proofs.«01_k».proof.Proof.Model
/-
# One row of attention, with and without the shift

The reference subtracts a row's greatest score before the exponential and divides each weight by the row's sum; the kernel does
neither: it divides the weighted sum of the values once. Over the extended reals the two are the same number as soon as the
scores of the row are real and some key is seen. The values may be infinite.
-/
@[expose] public section
noncomputable section
namespace Cert.Sparse
open Idealize.ShloMosaic

/-- The cast of a real sum is the sum of the casts. -/
theorem cast_sum {ι : Type} (s : Finset ι) (f : ι → ℝ) : ((∑ j ∈ s, f j : ℝ) : EReal) = ∑ j ∈ s, (f j : EReal) := by
  classical
  induction s using Finset.induction_on with
  | empty => simp
  | insert a s ha ih => rw [Finset.sum_insert ha, Finset.sum_insert ha, EReal.coe_add, ih]

/-- A real factor that is not negative goes into a sum, whatever the terms are. -/
theorem sum_times {ι : Type} (s : Finset ι) (f : ι → EReal) (c : ℝ) (hc : 0 ≤ c) : (∑ j ∈ s, f j) * (c : EReal) = ∑ j ∈ s, f j * (c : EReal) := by
  classical
  induction s using Finset.induction_on with
  | empty => simp
  | insert a s ha ih =>
    rw [Finset.sum_insert ha, Finset.sum_insert ha, EReal.right_distrib_of_nonneg_of_ne_top (by exact_mod_cast hc) (EReal.coe_ne_top c), ih]

/-- The greatest of finitely many numbers, none of them +∞ and one of them real, is real. -/
theorem fold_real {ι : Type} (s : Finset ι) (f : ι → EReal) (ht : ∀ j ∈ s, f j ≠ ⊤) {i : ι} (hi : i ∈ s) (hb : f i ≠ ⊥) :
    ∃ m : ℝ, s.fold max ⊥ f = (m : EReal) := by
  have h1 : s.fold max ⊥ f ≠ ⊤ := by
    rw [← lt_top_iff_ne_top, Finset.fold_max_lt]
    exact ⟨bot_lt_top, fun j hj => lt_top_iff_ne_top.2 (ht j hj)⟩
  have h2 : s.fold max ⊥ f ≠ ⊥ := by
    rw [← bot_lt_iff_ne_bot, Finset.lt_fold_max]
    exact Or.inr ⟨i, hi, bot_lt_iff_ne_bot.2 hb⟩
  exact ⟨_, (EReal.coe_toReal h1 h2).symm⟩

/-- The row: the weights shifted and divided one by one, against the weighted sum divided once. -/
theorem row_eq {n : ℕ} (s : Fin n → EReal) (p : Fin n → Prop) [DecidablePred p] (hs : ∀ j, ∃ r : ℝ, s j = (r : EReal)) {i : Fin n} (hp : p i)
    (V : Fin n → EReal) (M : EReal) (hM : M = Finset.univ.fold max ⊥ fun j => if p j then s j else ⊥) :
    ∑ j, V j * Ideal.div (Ideal.exp ((if p j then s j else ⊥) - M)) (∑ j, Ideal.exp ((if p j then s j else ⊥) - M))
      = Ideal.div (∑ j, (if p j then Ideal.exp (s j) else 0) * V j) (∑ j, if p j then Ideal.exp (s j) else 0) := by
  choose r hr using hs
  obtain ⟨m, hm⟩ : ∃ m : ℝ, M = (m : EReal) := by
    rw [hM]
    refine fold_real _ _ (fun j _ => ?_) (Finset.mem_univ i) ?_
    · split
      · rw [hr]; exact EReal.coe_ne_top _
      · exact bot_ne_top
    · rw [if_pos hp, hr]; exact EReal.coe_ne_bot _
  let g : Fin n → ℝ := fun j => if p j then Real.exp (r j) else 0
  have hg : ∀ j, (if p j then Ideal.exp (s j) else (0 : EReal)) = (g j : EReal) := fun j => by
    by_cases h : p j
    · simp only [g, if_pos h, hr, Ideal.exp_coe]
    · simp only [g, if_neg h, EReal.coe_zero]
  have hw : ∀ j, Ideal.exp ((if p j then s j else ⊥) - M) = ((g j * Real.exp (-m) : ℝ) : EReal) := fun j => by
    by_cases h : p j
    · simp only [g, if_pos h, hr, hm, ← EReal.coe_sub, Ideal.exp_coe]
      rw [← Real.exp_add, sub_eq_add_neg]
    · simp only [g, if_neg h, zero_mul, EReal.coe_zero, EReal.bot_sub, Ideal.exp_bot]
  have hD : 0 < ∑ j, g j := by
    refine Finset.sum_pos' (fun j _ => ?_) ⟨i, Finset.mem_univ i, ?_⟩
    · simp only [g]; split
      · exact (Real.exp_pos _).le
      · exact le_rfl
    · simp only [g, if_pos hp]; exact Real.exp_pos _
  have he : 0 < Real.exp (-m) := Real.exp_pos _
  simp only [hg, hw, ← cast_sum]
  rw [← Finset.sum_mul, Ideal.div_coe hD.ne', sum_times _ _ _ (one_div_pos.2 hD).le]
  refine Finset.sum_congr rfl fun j _ => ?_
  rw [Ideal.div_coe (mul_pos hD he).ne', ← EReal.coe_mul, mul_comm ((g j : ℝ) : EReal) (V j), mul_assoc (V j), ← EReal.coe_mul]
  congr 2
  field_simp

end Cert.Sparse
-- ==== Proof.RefValue.lean ====
module
public import proofs.«01_k».proof.Proof.RefRead
public import proofs.«01_k».proof.Proof.Softmax
/-
# The reference computes the model

The five arrays of the reference, read as the model's arrays, and its result, read at an index: the model's output. The scores
have to be real for it, so the input, the query weights and the keys are taken to be real; the values and the output weights
may be anything.
-/
@[expose] public section
noncomputable section
namespace Cert.Sparse.Ref
open Cert.ReferenceIdeal Cert.ReferenceIdeal.Gen Cert.ReferenceIdeal.Read
open Idealize.ShloMosaic

variable (x0 : FVec Ideal S2x1024x512 .bf16) (x1 : FVec Ideal S512x256 .bf16) (x2 x3 : FVec Ideal S2x1024x4x64 .bf16) (x4 : FVec Ideal S256x512 .bf16)

/-- The reference's arrays as the model's. -/
def arr : Arr where
  X b i k := x0 (ix3 b i k)
  W k n := x1 (ix2 k n)
  K b j h e := x2 (ix4 b j h e)
  V b j h e := x3 (ix4 b j h e)
  O k n := x4 (ix2 k n)

/-- A number that is real. -/
def Real' (t : EReal) : Prop := ∃ r : ℝ, t = (r : EReal)

theorem real_mul {s t : EReal} (hs : Real' s) (ht : Real' t) : Real' (s * t) := by
  obtain ⟨a, rfl⟩ := hs
  obtain ⟨b, rfl⟩ := ht
  exact ⟨a * b, (EReal.coe_mul a b).symm⟩

theorem real_sum {ι : Type} (s : Finset ι) (f : ι → EReal) (hf : ∀ j, Real' (f j)) : Real' (∑ j ∈ s, f j) := by
  choose r hr using hf
  exact ⟨∑ j ∈ s, r j, by rw [cast_sum]; exact Finset.sum_congr rfl fun j _ => hr j⟩

/-- The scale is real. -/
theorem real_scale : Real' (Ideal.ofBits .f32 0x3E000000#32) := by
  refine ⟨8388608 * (2 ^ 26 : ℝ)⁻¹, ?_⟩
  simp [Ideal.ofBits, Ideal.ieee]

/-- The reference's scores are the model's, -/
theorem score_model (b : Fin 2) (h : Fin 4) (i j : Fin 1024) :
    (val_main_v29 (F := Ideal) x0 x1 x2 (ix4 b h i j) : EReal) = sc (arr x0 x1 x2 x3 x4) b h i j := by
  rw [score_read]
  simp only [q_read]
  rfl

/-- and they are real. -/
theorem score_real (hx : ∀ i, Real' (x0 i)) (hw : ∀ i, Real' (x1 i)) (hk : ∀ i, Real' (x2 i)) (b : Fin 2) (h : Fin 4) (i j : Fin 1024) :
    Real' (sc (arr x0 x1 x2 x3 x4) b h i j) :=
  real_mul (real_sum _ _ fun e => real_mul (real_sum _ _ fun k => real_mul (hx _) (hw _)) (hk _)) real_scale

/-- A head's entry of the attention, before the projection. -/
theorem head_model (hx : ∀ i, Real' (x0 i)) (hw : ∀ i, Real' (x1 i)) (hk : ∀ i, Real' (x2 i)) (b : Fin 2) (i : Fin 1024) (h : Fin 4) (e : Fin 64) :
    (∑ j : Fin 1024, (x3 (ix4 b j h e) : EReal) * val_main_v45 (F := Ideal) x0 x1 x2 (ix4 b h i j))
      = Ideal.div (nm (arr x0 x1 x2 x3 x4) b h i e) (dn (arr x0 x1 x2 x3 x4) b h i) := by
  have key := row_eq (fun j : Fin 1024 => sc (arr x0 x1 x2 x3 x4) b h i j) (fun j => Sees i.val j.val)
    (fun j => score_real x0 x1 x2 x3 x4 hx hw hk b h i j) (i := i) (sees_self i.val) (fun j => (x3 (ix4 b j h e) : EReal)) _ rfl
  simp only [weight_read, exp_read, max_read, where_read, score_model x0 x1 x2 x3 x4]
  exact key

/-- The reference's result is the model's output. -/
theorem ref_at (hx : ∀ i, Real' (x0 i)) (hw : ∀ i, Real' (x1 i)) (hk : ∀ i, Real' (x2 i)) (b : Fin 2) (i : Fin 1024) (n : Fin 512) :
    (val_main_v51 (F := Ideal) x0 x1 x2 x3 x4 (ix3 b i n) : EReal) = outv (arr x0 x1 x2 x3 x4) b i n := by
  rw [out_read]
  simp only [head_model x0 x1 x2 x3 x4 hx hw hk]
  rfl

end Cert.Sparse.Ref
-- ==== Proof.Whole.lean ====
module
public import proofs.«01_k».proof.Defs
public import proofs.«01_k».proof.Proof.KernelValue
public import proofs.«01_k».proof.Proof.RefValue
/-
# The devices' blocks and the whole arrays

When every device holds its block of the reference's input, keys and values, and its own copy of the two weight matrices, the
kernel's arrays hold the reference's in the model's sense. The precondition, asked of every device, makes the reference's input,
query weights and keys real. So a device's result is its block of the reference's.
-/
@[expose] public section
noncomputable section
namespace Cert.Sparse
open Idealize.ShloMosaic
open Idealize.ShloMosaic.TcCoe

/-- The side conditions the precondition's operations take, -/
theorem pre_facts : Cert.Pre_finite_scores_KernelIdeal.Facts := ⟨by decide, by decide, by decide⟩
/-- and the same of its copy over the reference's arrays. -/
theorem pre_facts' : Cert.Pre_finite_scores_ReferenceIdeal.Facts := ⟨by decide, by decide, by decide⟩

attribute [local instance] pre_facts

/-- A number whose magnitude is below the word of +∞ is real. -/
theorem real_of_below (t : EReal) (h : BitVec.ofBool (decide (FloatOps.absf (F := Ideal) (φ := .bf16) t < Ideal.ofBits .bf16 0x7F80#16)) = 1#1) :
    Ref.Real' t := by
  have hi : Ideal.ofBits .bf16 0x7F80#16 = ⊤ := by simp [Ideal.ofBits, Ideal.ieee]
  rw [hi] at h
  induction t with
  | bot =>
    rw [show FloatOps.absf (F := Ideal) (φ := .bf16) (⊥ : EReal) = (⊤ : EReal) from rfl, decide_eq_false (lt_irrefl _)] at h
    exact absurd h (by decide)
  | top =>
    rw [show FloatOps.absf (F := Ideal) (φ := .bf16) (⊤ : EReal) = (⊤ : EReal) from rfl, decide_eq_false (lt_irrefl _)] at h
    exact absurd h (by decide)
  | coe r => exact ⟨r, rfl⟩

section Pre
variable {x0 : FVec Ideal Cert.Pre_finite_scores_KernelIdeal.S2x128x512 .bf16} {x1 : FVec Ideal Cert.Pre_finite_scores_KernelIdeal.S512x256 .bf16}
  {x2 x3 : FVec Ideal Cert.Pre_finite_scores_KernelIdeal.S2x128x4x64 .bf16} {x4 : FVec Ideal Cert.Pre_finite_scores_KernelIdeal.S256x512 .bf16}

/-- Under the precondition a device's input, -/
theorem real_x (h : (Cert.Pre_finite_scores_KernelIdeal.fn (F := Ideal) x0 x1 x2 x3 x4).1 = fun _ => 1#1) (b : Fin 2) (r : Fin 128) (k : Fin 512) :
    Ref.Real' (x0 (ix3 b r k)) := by
  have := congrFun h (ix3 b r k)
  pointwise [Cert.Pre_finite_scores_KernelIdeal.fn] at this
  exact real_of_below _ this

/-- its query weights -/
theorem real_w (h : (Cert.Pre_finite_scores_KernelIdeal.fn (F := Ideal) x0 x1 x2 x3 x4).2.1 = fun _ => 1#1) (k : Fin 512) (n : Fin 256) :
    Ref.Real' (x1 (ix2 k n)) := by
  have := congrFun h (ix2 k n)
  pointwise [Cert.Pre_finite_scores_KernelIdeal.fn] at this
  exact real_of_below _ this

/-- and its keys are real. -/
theorem real_k (h : (Cert.Pre_finite_scores_KernelIdeal.fn (F := Ideal) x0 x1 x2 x3 x4).2.2 = fun _ => 1#1) (b : Fin 2) (r : Fin 128) (g : Fin 4) (e : Fin 64) :
    Ref.Real' (x2 (ix4 b r g e)) := by
  have := congrFun h (ix4 b r g e)
  pointwise [Cert.Pre_finite_scores_KernelIdeal.fn] at this
  exact real_of_below _ this
end Pre

section Block
variable {α : Type}

/-- A block of a three-axis array, at an index. -/
theorem block3_at (c : Fin 8) (v : (⟨3, ![2, 1024, 512]⟩ : Shape).Idx → α) (b : Fin 2) (r : Fin 128) (k : Fin 512) :
    Layout.block ⟨3, ![2, 128, 512]⟩ ⟨3, ![2, 1024, 512]⟩ 1 8 c v (by decide) (ix3 b r k) = v (ix3 b (pos c r) k) := by
  rw [Layout.block_apply]
  refine congrArg v (funext fun a => Fin.ext ?_)
  rw [Layout.Tiles.idx_val]
  fin_cases a
  · rfl
  · show c.val * 128 + r.val = 128 * c.val + r.val
    omega
  · rfl

/-- A block of a four-axis array, at an index. -/
theorem block4_at (c : Fin 8) (v : (⟨4, ![2, 1024, 4, 64]⟩ : Shape).Idx → α) (b : Fin 2) (r : Fin 128) (g : Fin 4) (e : Fin 64) :
    Layout.block ⟨4, ![2, 128, 4, 64]⟩ ⟨4, ![2, 1024, 4, 64]⟩ 1 8 c v (by decide) (ix4 b r g e) = v (ix4 b (pos c r) g e) := by
  rw [Layout.block_apply]
  refine congrArg v (funext fun a => Fin.ext ?_)
  rw [Layout.Tiles.idx_val]
  fin_cases a
  · rfl
  · show c.val * 128 + r.val = 128 * c.val + r.val
    omega
  · rfl
  · rfl

/-- Every position is a row of some device. -/
theorem pos_onto (i : Fin 1024) : ∃ (c : Fin 8) (r : Fin 128), i = pos c r :=
  ⟨⟨i.val / 128, by omega⟩, ⟨i.val % 128, by omega⟩, Fin.ext (by show i.val = 128 * (i.val / 128) + i.val % 128; omega)⟩

/-- An index of rank two, three or four, by its coordinates. -/
theorem ix2_onto {a b : ℕ} (i : (⟨2, ![a, b]⟩ : Shape).Idx) : ∃ (p : Fin a) (q : Fin b), i = ix2 p q :=
  ⟨i 0, i 1, funext fun t => by fin_cases t <;> rfl⟩
theorem ix3_onto {a b c : ℕ} (i : (⟨3, ![a, b, c]⟩ : Shape).Idx) : ∃ (p : Fin a) (q : Fin b) (s : Fin c), i = ix3 p q s :=
  ⟨i 0, i 1, i 2, funext fun t => by fin_cases t <;> rfl⟩
theorem ix4_onto {a b c d : ℕ} (i : (⟨4, ![a, b, c, d]⟩ : Shape).Idx) : ∃ (p : Fin a) (q : Fin b) (s : Fin c) (t : Fin d), i = ix4 p q s t :=
  ⟨i 0, i 1, i 2, i 3, funext fun t => by fin_cases t <;> rfl⟩
end Block

section Mem
open Cert.KernelIdeal
variable (m : (ℓ : Loc nD τ sig) → Buf (Elt Ideal) ℓ)

/-- A staged input holds the device's own array, element for element. -/
theorem xB_eq (c : Fin 8) (i : S2x128x512.Idx) : xB m c i = m ((c : Thread nD τ).loc main_arg0) i := by
  show m ((c : Thread nD τ).loc main_arg0) _ = _
  refine congrArg _ (funext fun a => Fin.ext ?_)
  show 0 * _ + 1 * (i a).val = (i a).val
  omega
/-- Its query weights, the same. -/
theorem wqB_eq (c : Fin 8) (i : S512x256.Idx) : wqB m c i = m ((c : Thread nD τ).loc main_arg1) i := by
  show m ((c : Thread nD τ).loc main_arg1) _ = _
  refine congrArg _ (funext fun a => Fin.ext ?_)
  show 0 * _ + 1 * (i a).val = (i a).val
  omega
/-- Its keys, the same. -/
theorem kB_eq (c : Fin 8) (i : S2x128x4x64.Idx) : kB m c i = m ((c : Thread nD τ).loc main_arg2) i := by
  show m ((c : Thread nD τ).loc main_arg2) _ = _
  refine congrArg _ (funext fun a => Fin.ext ?_)
  show 0 * _ + 1 * (i a).val = (i a).val
  omega
/-- Its values, the same. -/
theorem vB_eq (c : Fin 8) (i : S2x128x4x64.Idx) : vB m c i = m ((c : Thread nD τ).loc main_arg3) i := by
  show m ((c : Thread nD τ).loc main_arg3) _ = _
  refine congrArg _ (funext fun a => Fin.ext ?_)
  show 0 * _ + 1 * (i a).val = (i a).val
  omega
/-- And its output weights, the same. -/
theorem woB_eq (c : Fin 8) (i : S256x512.Idx) : woB m c i = m ((c : Thread nD τ).loc main_arg4) i := by
  show m ((c : Thread nD τ).loc main_arg4) _ = _
  refine congrArg _ (funext fun a => Fin.ext ?_)
  show 0 * _ + 1 * (i a).val = (i a).val
  omega

variable {m}
variable {x0 : FVec Ideal Cert.ReferenceIdeal.S2x1024x512 .bf16} {x1 : FVec Ideal Cert.ReferenceIdeal.S512x256 .bf16}
  {x2 x3 : FVec Ideal Cert.ReferenceIdeal.S2x1024x4x64 .bf16} {x4 : FVec Ideal Cert.ReferenceIdeal.S256x512 .bf16}

/-- Devices that hold the blocks of the reference's arrays hold the model's arrays. -/
theorem holds_of_blocks
    (h0 : ∀ c : Fin 8, m ((c : Thread nD τ).loc main_arg0) = Layout.block ⟨3, ![2, 128, 512]⟩ ⟨3, ![2, 1024, 512]⟩ 1 8 c x0)
    (h1 : ∀ c : Fin 8, m ((c : Thread nD τ).loc main_arg1) = x1)
    (h2 : ∀ c : Fin 8, m ((c : Thread nD τ).loc main_arg2) = Layout.block ⟨4, ![2, 128, 4, 64]⟩ ⟨4, ![2, 1024, 4, 64]⟩ 1 8 c x2)
    (h3 : ∀ c : Fin 8, m ((c : Thread nD τ).loc main_arg3) = Layout.block ⟨4, ![2, 128, 4, 64]⟩ ⟨4, ![2, 1024, 4, 64]⟩ 1 8 c x3)
    (h4 : ∀ c : Fin 8, m ((c : Thread nD τ).loc main_arg4) = x4) : Holds m (Ref.arr x0 x1 x2 x3 x4) where
  x c b r k := (xB_eq m c _).trans ((congrFun (h0 c) _).trans (block3_at c x0 b r k))
  w c k n := (wqB_eq m c _).trans (congrFun (h1 c) _)
  k c b r h e := (kB_eq m c _).trans ((congrFun (h2 c) _).trans (block4_at c x2 b r h e))
  v c b r h e := (vB_eq m c _).trans ((congrFun (h3 c) _).trans (block4_at c x3 b r h e))
  o c k n := (woB_eq m c _).trans (congrFun (h4 c) _)

/-- A device's result is its block of the reference's. -/
theorem out_block (H : Holds m (Ref.arr x0 x1 x2 x3 x4)) (hx : ∀ i, Ref.Real' (x0 i)) (hw : ∀ i, Ref.Real' (x1 i)) (hk : ∀ i, Ref.Real' (x2 i))
    (c : Fin 8) : outB m c = Layout.block ⟨3, ![2, 128, 512]⟩ ⟨3, ![2, 1024, 512]⟩ 1 8 c
      (Cert.ReferenceIdeal.Read.val_main_v51 (F := Ideal) x0 x1 x2 x3 x4) := by
  funext i
  obtain ⟨b, r, n, rfl⟩ := ix3_onto i
  exact (out_at H c b r n).trans ((Ref.ref_at x0 x1 x2 x3 x4 hx hw hk b (pos c r) n).symm.trans (block3_at c _ b r n).symm)

/-- Under the precondition the reference's input, -/
theorem whole_x (h0 : ∀ c : Fin 8, m ((c : Thread nD τ).loc main_arg0) = Layout.block ⟨3, ![2, 128, 512]⟩ ⟨3, ![2, 1024, 512]⟩ 1 8 c x0)
    (hp : Cert.Pre_KernelIdeal_finite_scores_KernelIdeal m) : ∀ i, Ref.Real' (x0 i) := by
  intro i
  obtain ⟨b, j, k, rfl⟩ := ix3_onto i
  obtain ⟨c, r, rfl⟩ := pos_onto j
  have e := (congrFun (h0 c) (ix3 b r k)).trans (block3_at c x0 b r k)
  have := real_x (hp c).1 b r k
  exact e ▸ this

/-- its query weights -/
theorem whole_w (h1 : ∀ c : Fin 8, m ((c : Thread nD τ).loc main_arg1) = x1)
    (hp : Cert.Pre_KernelIdeal_finite_scores_KernelIdeal m) : ∀ i, Ref.Real' (x1 i) := by
  intro i
  obtain ⟨k, n, rfl⟩ := ix2_onto i
  have e := congrFun (h1 0) (ix2 k n)
  have := real_w (hp 0).2.1 k n
  exact e ▸ this

/-- and its keys are real. -/
theorem whole_k (h2 : ∀ c : Fin 8, m ((c : Thread nD τ).loc main_arg2) = Layout.block ⟨4, ![2, 128, 4, 64]⟩ ⟨4, ![2, 1024, 4, 64]⟩ 1 8 c x2)
    (hp : Cert.Pre_KernelIdeal_finite_scores_KernelIdeal m) : ∀ i, Ref.Real' (x2 i) := by
  intro i
  obtain ⟨b, j, g, e, rfl⟩ := ix4_onto i
  obtain ⟨c, r, rfl⟩ := pos_onto j
  have e' := (congrFun (h2 c) (ix4 b r g e)).trans (block4_at c x2 b r g e)
  have := real_k (hp c).2.2 b r g e
  exact e' ▸ this

end Mem
end Cert.Sparse
-- ==== Proof.lean ====
/-
# The five claims

The frames of the kernel, of its idealization and of the reference's idealization; that the idealization changes nothing; and the
value: under the precondition every device's result is its block of the reference's result.
-/
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Run
public import proofs.«01_k».proof.Proof.Gen.ReferenceIdeal.Read
public import proofs.«01_k».proof.Proof.Run
public import Idealize.ShloMosaic.Adequacy
public import Idealize.ShloMosaic.Init
public import proofs.«01_k».proof.Proof.Whole

@[expose] public section

noncomputable section

namespace Cert.Proof

open Idealize.ShloMosaic Idealize.SL.Sem Cert.Kernel

/-- The kernel's body table is the idealized text's. -/
theorem bodies_same : @Cert.Kernel.defs₀ Bits _ Cert.Kernel.Gen.facts = @Cert.KernelIdeal.defs₀ Bits _ Cert.KernelIdeal.Gen.facts := by
  unfold Cert.Kernel.defs₀ Cert.KernelIdeal.defs₀
  refine congrArg Defs.onTc (funext fun l => ?_)
  obtain rfl : l = 0 := Subsingleton.elim _ _
  rfl

/-- And so is its whole table. -/
theorem tables_same : @Cert.Kernel.defs Bits _ Cert.Kernel.Gen.facts = @Cert.KernelIdeal.defs Bits _ Cert.KernelIdeal.Gen.facts :=
  congrArg (Pipeline.defs (Cert.KernelIdeal.pcfgs (F := Bits))) bodies_same

/-- The frame of the kernel at the machine's own float values: the run of the idealized text, which is the same text. -/
theorem frame_kernel : Cert.quiescent_Kernel := by
  intro m ρ _
  rw [tables_same]
  exact Cert.Sparse.run_frame (F := Bits) m ρ

/-- The frame of the kernel over the reals. -/
theorem frame_ideal : Cert.quiescent_KernelIdeal := fun m ρ _ =>
  Cert.Sparse.run_frame (F := Ideal) m ρ

/-- The frame of the reference: the program has no semaphore. -/
theorem frame_reference : Cert.quiescent_ReferenceIdeal := fun m ρ _ =>
  (θ_run Cert.ReferenceIdeal.defs _ _).mono
    (fun r h => ⟨fun c => (h c).2, Idealize.ShloMosaic.sem_eq_zero_of_no_sems (by decide) r.2⟩)
    (Cert.ReferenceIdeal.Value.run (F := Ideal) m ρ)

/-- The value: every device's result is its block of the reference's, and both programs leave their arguments as they were. -/
theorem value : Cert.algebraic_KernelIdeal_ReferenceIdeal_pre_finite_scores_KernelIdeal (hPre_finite_scores_KernelIdeal := Cert.Sparse.pre_facts) := by
  intro m g m' g' hp hin
  have H := Cert.Sparse.holds_of_blocks (m := m) (fun c => (hin c).1) (fun c => (hin c).2.1) (fun c => (hin c).2.2.1) (fun c => (hin c).2.2.2.1)
    (fun c => (hin c).2.2.2.2)
  have hx := Cert.Sparse.whole_x (m := m) (fun c => (hin c).1) hp
  have hw := Cert.Sparse.whole_w (m := m) (fun c => (hin c).2.1) hp
  have hk := Cert.Sparse.whole_k (m := m) (fun c => (hin c).2.2.1) hp
  refine ⟨_, (θ_run Cert.KernelIdeal.defs _ _).mono
      (fun r h c => ⟨((h.1 c).1).trans (Cert.Sparse.out_block H hx hw hk c), (h.1 c).2⟩) (Cert.Sparse.run_main (F := Ideal) m g),
    (θ_run Cert.ReferenceIdeal.defs _ _).mono (fun r h => ?_) (Cert.ReferenceIdeal.Value.run (F := Ideal) m' g')⟩
  exact ⟨((h 0).1).trans (Cert.ReferenceIdeal.Read.val_main_v51_eq m' 0), (h 0).2⟩

/-- Everything the certificate claims. -/
theorem claim : Cert.Claim := ⟨Cert.Kernel.Gen.facts, Cert.KernelIdeal.Gen.facts, Cert.ReferenceIdeal.Gen.facts,
  Cert.Sparse.pre_facts, Cert.Sparse.pre_facts',
  frame_kernel, frame_ideal, fun m ρ _ => frame_ideal m ρ trivial, frame_reference, fun m ρ _ => frame_reference m ρ trivial, trivial, value⟩

end Cert.Proof

end
